-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7))) = (fun _ => 1#1)

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamMemory (m : (ℓ : Loc Cert.AdamMemory.nD Cert.AdamMemory.τ Cert.AdamMemory.sig) → Buf (Elt Bits) ℓ) : Prop :=
  True

def Pre_AdamMemoryIdeal (m : (ℓ : Loc Cert.AdamMemoryIdeal.nD Cert.AdamMemoryIdeal.τ Cert.AdamMemoryIdeal.sig) → Buf (Elt Ideal) ℓ) : Prop :=
  True

def Pre_AdamMemoryRefIdeal (m : (ℓ : Loc Cert.AdamMemoryRefIdeal.nD Cert.AdamMemoryRefIdeal.τ Cert.AdamMemoryRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamMemory [hAdamMemory : Cert.AdamMemory.Facts] : Prop :=
  ∀ (m : (ℓ : Loc Cert.AdamMemory.nD Cert.AdamMemory.τ Cert.AdamMemory.sig) → Buf (Elt Bits) ℓ) (g : Dev Cert.AdamMemory.nD → PrngReg), Pre_AdamMemory m →
    θ_run (Cert.AdamMemory.defs (F := Bits)) (onTc (τ := Cert.AdamMemory.τ) (Cert.AdamMemory.main (F := Bits))) ⟨m, fun _ => 0, g⟩ (fun r => (∀ c : Dev Cert.AdamMemory.nD,
      r.2.mem ((c.tc : Thread Cert.AdamMemory.nD Cert.AdamMemory.τ).loc Cert.AdamMemory.main_arg0) = m ((c.tc : Thread Cert.AdamMemory.nD Cert.AdamMemory.τ).loc Cert.AdamMemory.main_arg0)
      ∧ r.2.mem ((c.tc : Thread Cert.AdamMemory.nD Cert.AdamMemory.τ).loc Cert.AdamMemory.main_arg1) = m ((c.tc : Thread Cert.AdamMemory.nD Cert.AdamMemory.τ).loc Cert.AdamMemory.main_arg1)
      ∧ r.2.mem ((c.tc : Thread Cert.AdamMemory.nD Cert.AdamMemory.τ).loc Cert.AdamMemory.main_arg2) = m ((c.tc : Thread Cert.AdamMemory.nD Cert.AdamMemory.τ).loc Cert.AdamMemory.main_arg2)
      ∧ r.2.mem ((c.tc : Thread Cert.AdamMemory.nD Cert.AdamMemory.τ).loc Cert.AdamMemory.main_arg3) = m ((c.tc : Thread Cert.AdamMemory.nD Cert.AdamMemory.τ).loc Cert.AdamMemory.main_arg3))
      ∧ r.2.sem = fun _ => 0)

def quiescent_AdamMemoryIdeal [hAdamMemoryIdeal : Cert.AdamMemoryIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg), Pre_AdamMemoryIdeal m →
    θ_run (Cert.AdamMemoryIdeal.defs (F := Ideal)) (onTc (τ := Cert.AdamMemoryIdeal.τ) (Cert.AdamMemoryIdeal.main (F := Ideal))) ⟨m, fun _ => 0, g⟩ (fun r => (∀ c : Dev Cert.AdamMemoryIdeal.nD,
      r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
      ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
      ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
      ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3))
      ∧ r.2.sem = fun _ => 0)

def quiescent_AdamMemoryRefIdeal [hAdamMemoryRefIdeal : Cert.AdamMemoryRefIdeal.Facts] : Prop :=
  ∀ (m : (ℓ : Loc Cert.AdamMemoryRefIdeal.nD Cert.AdamMemoryRefIdeal.τ Cert.AdamMemoryRefIdeal.sig) → Buf (Elt Ideal) ℓ) (g : Dev Cert.AdamMemoryRefIdeal.nD → PrngReg), Pre_AdamMemoryRefIdeal m →
    θ_run (Cert.AdamMemoryRefIdeal.defs (F := Ideal)) (onTc (τ := Cert.AdamMemoryRefIdeal.τ) (Cert.AdamMemoryRefIdeal.main (F := Ideal))) ⟨m, fun _ => 0, g⟩ (fun r => (∀ c : Dev Cert.AdamMemoryRefIdeal.nD,
      r.2.mem ((c.tc : Thread Cert.AdamMemoryRefIdeal.nD Cert.AdamMemoryRefIdeal.τ).loc Cert.AdamMemoryRefIdeal.main_arg0) = m ((c.tc : Thread Cert.AdamMemoryRefIdeal.nD Cert.AdamMemoryRefIdeal.τ).loc Cert.AdamMemoryRefIdeal.main_arg0)
      ∧ r.2.mem ((c.tc : Thread Cert.AdamMemoryRefIdeal.nD Cert.AdamMemoryRefIdeal.τ).loc Cert.AdamMemoryRefIdeal.main_arg1) = m ((c.tc : Thread Cert.AdamMemoryRefIdeal.nD Cert.AdamMemoryRefIdeal.τ).loc Cert.AdamMemoryRefIdeal.main_arg1)
      ∧ r.2.mem ((c.tc : Thread Cert.AdamMemoryRefIdeal.nD Cert.AdamMemoryRefIdeal.τ).loc Cert.AdamMemoryRefIdeal.main_arg2) = m ((c.tc : Thread Cert.AdamMemoryRefIdeal.nD Cert.AdamMemoryRefIdeal.τ).loc Cert.AdamMemoryRefIdeal.main_arg2)
      ∧ r.2.mem ((c.tc : Thread Cert.AdamMemoryRefIdeal.nD Cert.AdamMemoryRefIdeal.τ).loc Cert.AdamMemoryRefIdeal.main_arg3) = m ((c.tc : Thread Cert.AdamMemoryRefIdeal.nD Cert.AdamMemoryRefIdeal.τ).loc Cert.AdamMemoryRefIdeal.main_arg3))
      ∧ r.2.sem = fun _ => 0)

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)) (v1 : (c : Dev Cert.FfnIdeal.nD) → Buf (Elt Ideal) ((c.tc : Thread Cert.FfnIdeal.nD Cert.FfnIdeal.τ).loc Cert.FfnIdeal.main_v16_0)) (v2 : (c : Dev Cert.FfnIdeal.nD) → Buf (Elt Ideal) ((c.tc : Thread Cert.FfnIdeal.nD Cert.FfnIdeal.τ).loc Cert.FfnIdeal.main_v17)) (v3 : (c : Dev Cert.FfnIdeal.nD) → Buf (Elt Ideal) ((c.tc : Thread Cert.FfnIdeal.nD Cert.FfnIdeal.τ).loc Cert.FfnIdeal.main_v18)) (v4 : (c : Dev Cert.FfnIdeal.nD) → Buf (Elt Ideal) ((c.tc : Thread Cert.FfnIdeal.nD Cert.FfnIdeal.τ).loc Cert.FfnIdeal.main_v19)) (v5 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_v16_0) = v1 c
          ∧ r.2.mem ((c.tc : Thread Cert.FfnIdeal.nD Cert.FfnIdeal.τ).loc Cert.FfnIdeal.main_v17) = v2 c
          ∧ r.2.mem ((c.tc : Thread Cert.FfnIdeal.nD Cert.FfnIdeal.τ).loc Cert.FfnIdeal.main_v18) = v3 c
          ∧ r.2.mem ((c.tc : Thread Cert.FfnIdeal.nD Cert.FfnIdeal.τ).loc Cert.FfnIdeal.main_v19) = v4 c
          ∧ r.2.mem ((c.tc : Thread Cert.FfnIdeal.nD Cert.FfnIdeal.τ).loc Cert.FfnIdeal.main_v12) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_v45) = v2 c
          ∧ r.2.mem ((c.tc : Thread Cert.FfnRefIdeal.nD Cert.FfnRefIdeal.τ).loc Cert.FfnRefIdeal.main_v37) = v3 c
          ∧ r.2.mem ((c.tc : Thread Cert.FfnRefIdeal.nD Cert.FfnRefIdeal.τ).loc Cert.FfnRefIdeal.main_v33) = v4 c
          ∧ r.2.mem ((c.tc : Thread Cert.FfnRefIdeal.nD Cert.FfnRefIdeal.τ).loc Cert.FfnRefIdeal.main_v28) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Cross_CrossIdeal : Prop :=
  True

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)) →
    ∃ (v0 : (c : Dev Cert.CrossIdeal.nD) → Buf (Elt Ideal) ((c.tc : Thread Cert.CrossIdeal.nD Cert.CrossIdeal.τ).loc Cert.CrossIdeal.main_v11)) (v1 : (c : Dev Cert.CrossIdeal.nD) → Buf (Elt Ideal) ((c.tc : Thread Cert.CrossIdeal.nD Cert.CrossIdeal.τ).loc Cert.CrossIdeal.main_v19_0)) (v2 : (c : Dev Cert.CrossIdeal.nD) → Buf (Elt Ideal) ((c.tc : Thread Cert.CrossIdeal.nD Cert.CrossIdeal.τ).loc Cert.CrossIdeal.main_v20)) (v3 : (c : Dev Cert.CrossIdeal.nD) → Buf (Elt Ideal) ((c.tc : Thread Cert.CrossIdeal.nD Cert.CrossIdeal.τ).loc Cert.CrossIdeal.main_v21)) (v4 : (c : Dev Cert.CrossIdeal.nD) → Buf (Elt Ideal) ((c.tc : Thread Cert.CrossIdeal.nD Cert.CrossIdeal.τ).loc Cert.CrossIdeal.main_v15)) (v5 : (c : Dev Cert.CrossIdeal.nD) → Buf (Elt Ideal) ((c.tc : Thread Cert.CrossIdeal.nD Cert.CrossIdeal.τ).loc Cert.CrossIdeal.main_v22)) (v6 : (c : Dev Cert.CrossIdeal.nD) → Buf (Elt Ideal) ((c.tc : Thread Cert.CrossIdeal.nD Cert.CrossIdeal.τ).loc Cert.CrossIdeal.main_v12)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v11) = v0 c
          ∧ r.2.mem ((c.tc : Thread Cert.CrossIdeal.nD Cert.CrossIdeal.τ).loc Cert.CrossIdeal.main_v19_0) = v1 c
          ∧ r.2.mem ((c.tc : Thread Cert.CrossIdeal.nD Cert.CrossIdeal.τ).loc Cert.CrossIdeal.main_v20) = v2 c
          ∧ r.2.mem ((c.tc : Thread Cert.CrossIdeal.nD Cert.CrossIdeal.τ).loc Cert.CrossIdeal.main_v21) = v3 c
          ∧ r.2.mem ((c.tc : Thread Cert.CrossIdeal.nD Cert.CrossIdeal.τ).loc Cert.CrossIdeal.main_v15) = v4 c
          ∧ r.2.mem ((c.tc : Thread Cert.CrossIdeal.nD Cert.CrossIdeal.τ).loc Cert.CrossIdeal.main_v22) = v5 c
          ∧ r.2.mem ((c.tc : Thread Cert.CrossIdeal.nD Cert.CrossIdeal.τ).loc Cert.CrossIdeal.main_v12) = v6 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v72) = v0 c
          ∧ r.2.mem ((c.tc : Thread Cert.CrossRefIdeal.nD Cert.CrossRefIdeal.τ).loc Cert.CrossRefIdeal.main_v137) = v1 c
          ∧ r.2.mem ((c.tc : Thread Cert.CrossRefIdeal.nD Cert.CrossRefIdeal.τ).loc Cert.CrossRefIdeal.main_v122) = v2 c
          ∧ r.2.mem ((c.tc : Thread Cert.CrossRefIdeal.nD Cert.CrossRefIdeal.τ).loc Cert.CrossRefIdeal.main_v116) = v3 c
          ∧ r.2.mem ((c.tc : Thread Cert.CrossRefIdeal.nD Cert.CrossRefIdeal.τ).loc Cert.CrossRefIdeal.main_v111) = v4 c
          ∧ r.2.mem ((c.tc : Thread Cert.CrossRefIdeal.nD Cert.CrossRefIdeal.τ).loc Cert.CrossRefIdeal.main_v107) = v5 c
          ∧ r.2.mem ((c.tc : Thread Cert.CrossRefIdeal.nD Cert.CrossRefIdeal.τ).loc Cert.CrossRefIdeal.main_v75) = v6 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7))

def preserves_AdamSquare_AdamSquareIdeal : Prop :=
  IdealRules.named_const.Statement Cert.AdamSquareIdeal.κ "inv_bias1" .f32 0x3FC48605#32 ((8388608 / 5463681 : ℝ) : EReal)
  ∧ IdealRules.named_const.Statement Cert.AdamSquareIdeal.κ "inv_bias2" .f32 0x42C8E6D3#32 ((268435456 / 2672307 : ℝ) : EReal)

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v5_1)) (v1 : (c : Dev Cert.AdamSquareIdeal.nD) → Buf (Elt Ideal) ((c.tc : Thread Cert.AdamSquareIdeal.nD Cert.AdamSquareIdeal.τ).loc Cert.AdamSquareIdeal.main_v5_2)) (v2 : (c : Dev Cert.AdamSquareIdeal.nD) → Buf (Elt Ideal) ((c.tc : Thread Cert.AdamSquareIdeal.nD Cert.AdamSquareIdeal.τ).loc Cert.AdamSquareIdeal.main_v5_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v5_1) = v0 c
          ∧ r.2.mem ((c.tc : Thread Cert.AdamSquareIdeal.nD Cert.AdamSquareIdeal.τ).loc Cert.AdamSquareIdeal.main_v5_2) = v1 c
          ∧ r.2.mem ((c.tc : Thread Cert.AdamSquareIdeal.nD Cert.AdamSquareIdeal.τ).loc Cert.AdamSquareIdeal.main_v5_3) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamUp_AdamUpIdeal : Prop :=
  IdealRules.named_const.Statement Cert.AdamUpIdeal.κ "inv_bias1" .f32 0x3FC48605#32 ((8388608 / 5463681 : ℝ) : EReal)
  ∧ IdealRules.named_const.Statement Cert.AdamUpIdeal.κ "inv_bias2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v11)) (v1 : (c : Dev Cert.AdamUpIdeal.nD) → Buf (Elt Ideal) ((c.tc : Thread Cert.AdamUpIdeal.nD Cert.AdamUpIdeal.τ).loc Cert.AdamUpIdeal.main_v12)) (v2 : (c : Dev Cert.AdamUpIdeal.nD) → Buf (Elt Ideal) ((c.tc : Thread Cert.AdamUpIdeal.nD Cert.AdamUpIdeal.τ).loc Cert.AdamUpIdeal.main_v13)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v11) = v0 c
          ∧ r.2.mem ((c.tc : Thread Cert.AdamUpIdeal.nD Cert.AdamUpIdeal.τ).loc Cert.AdamUpIdeal.main_v12) = v1 c
          ∧ r.2.mem ((c.tc : Thread Cert.AdamUpIdeal.nD Cert.AdamUpIdeal.τ).loc Cert.AdamUpIdeal.main_v13) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  IdealRules.named_const.Statement Cert.AdamDownIdeal.κ "inv_bias1" .f32 0x3FC48605#32 ((8388608 / 5463681 : ℝ) : EReal)
  ∧ IdealRules.named_const.Statement Cert.AdamDownIdeal.κ "inv_bias2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v5_1)) (v1 : (c : Dev Cert.AdamDownIdeal.nD) → Buf (Elt Ideal) ((c.tc : Thread Cert.AdamDownIdeal.nD Cert.AdamDownIdeal.τ).loc Cert.AdamDownIdeal.main_v5_2)) (v2 : (c : Dev Cert.AdamDownIdeal.nD) → Buf (Elt Ideal) ((c.tc : Thread Cert.AdamDownIdeal.nD Cert.AdamDownIdeal.τ).loc Cert.AdamDownIdeal.main_v5_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v5_1) = v0 c
          ∧ r.2.mem ((c.tc : Thread Cert.AdamDownIdeal.nD Cert.AdamDownIdeal.τ).loc Cert.AdamDownIdeal.main_v5_2) = v1 c
          ∧ r.2.mem ((c.tc : Thread Cert.AdamDownIdeal.nD Cert.AdamDownIdeal.τ).loc Cert.AdamDownIdeal.main_v5_3) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  IdealRules.named_const.Statement Cert.AdamInIdeal.κ "inv_bias1" .f32 0x3FC48605#32 ((8388608 / 5463681 : ℝ) : EReal)
  ∧ IdealRules.named_const.Statement Cert.AdamInIdeal.κ "inv_bias2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v11)) (v1 : (c : Dev Cert.AdamInIdeal.nD) → Buf (Elt Ideal) ((c.tc : Thread Cert.AdamInIdeal.nD Cert.AdamInIdeal.τ).loc Cert.AdamInIdeal.main_v12)) (v2 : (c : Dev Cert.AdamInIdeal.nD) → Buf (Elt Ideal) ((c.tc : Thread Cert.AdamInIdeal.nD Cert.AdamInIdeal.τ).loc Cert.AdamInIdeal.main_v13)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v11) = v0 c
          ∧ r.2.mem ((c.tc : Thread Cert.AdamInIdeal.nD Cert.AdamInIdeal.τ).loc Cert.AdamInIdeal.main_v12) = v1 c
          ∧ r.2.mem ((c.tc : Thread Cert.AdamInIdeal.nD Cert.AdamInIdeal.τ).loc Cert.AdamInIdeal.main_v13) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamMemory_AdamMemoryIdeal : Prop :=
  IdealRules.named_const.Statement Cert.AdamMemoryIdeal.κ "inv_bias1" .f32 0x3FC48605#32 ((8388608 / 5463681 : ℝ) : EReal)
  ∧ IdealRules.named_const.Statement Cert.AdamMemoryIdeal.κ "inv_bias2" .f32 0x42C8E6D3#32 ((268435456 / 2672307 : ℝ) : EReal)

def algebraic_AdamMemoryIdeal_AdamMemoryRefIdeal [hAdamMemoryIdeal : Cert.AdamMemoryIdeal.Facts] [hAdamMemoryRefIdeal : Cert.AdamMemoryRefIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg)
    (m' : (ℓ : Loc Cert.AdamMemoryRefIdeal.nD Cert.AdamMemoryRefIdeal.τ Cert.AdamMemoryRefIdeal.sig) → Buf (Elt Ideal) ℓ) (g' : Dev Cert.AdamMemoryRefIdeal.nD → PrngReg), Pre_AdamMemoryIdeal m →
    (∀ c : Dev Cert.AdamMemoryIdeal.nD,
      m' ((c.tc : Thread Cert.AdamMemoryRefIdeal.nD Cert.AdamMemoryRefIdeal.τ).loc Cert.AdamMemoryRefIdeal.main_arg0) = m ((c.tc : Thread Cert.AdamMemoryIdeal.nD Cert.AdamMemoryIdeal.τ).loc Cert.AdamMemoryIdeal.main_arg0)
      ∧ m' ((c.tc : Thread Cert.AdamMemoryRefIdeal.nD Cert.AdamMemoryRefIdeal.τ).loc Cert.AdamMemoryRefIdeal.main_arg1) = m ((c.tc : Thread Cert.AdamMemoryIdeal.nD Cert.AdamMemoryIdeal.τ).loc Cert.AdamMemoryIdeal.main_arg1)
      ∧ m' ((c.tc : Thread Cert.AdamMemoryRefIdeal.nD Cert.AdamMemoryRefIdeal.τ).loc Cert.AdamMemoryRefIdeal.main_arg2) = m ((c.tc : Thread Cert.AdamMemoryIdeal.nD Cert.AdamMemoryIdeal.τ).loc Cert.AdamMemoryIdeal.main_arg2)
      ∧ m' ((c.tc : Thread Cert.AdamMemoryRefIdeal.nD Cert.AdamMemoryRefIdeal.τ).loc Cert.AdamMemoryRefIdeal.main_arg3) = m ((c.tc : Thread Cert.AdamMemoryIdeal.nD Cert.AdamMemoryIdeal.τ).loc Cert.AdamMemoryIdeal.main_arg3)) →
    ∃ (v0 : (c : Dev Cert.AdamMemoryIdeal.nD) → Buf (Elt Ideal) ((c.tc : Thread Cert.AdamMemoryIdeal.nD Cert.AdamMemoryIdeal.τ).loc Cert.AdamMemoryIdeal.main_v7_1)) (v1 : (c : Dev Cert.AdamMemoryIdeal.nD) → Buf (Elt Ideal) ((c.tc : Thread Cert.AdamMemoryIdeal.nD Cert.AdamMemoryIdeal.τ).loc Cert.AdamMemoryIdeal.main_v7_2)) (v2 : (c : Dev Cert.AdamMemoryIdeal.nD) → Buf (Elt Ideal) ((c.tc : Thread Cert.AdamMemoryIdeal.nD Cert.AdamMemoryIdeal.τ).loc Cert.AdamMemoryIdeal.main_v7_3)),
      θ_run (Cert.AdamMemoryIdeal.defs (F := Ideal)) (onTc (τ := Cert.AdamMemoryIdeal.τ) (Cert.AdamMemoryIdeal.main (F := Ideal))) ⟨m, fun _ => 0, g⟩ (fun r => ∀ c : Dev Cert.AdamMemoryIdeal.nD,
          r.2.mem ((c.tc : Thread Cert.AdamMemoryIdeal.nD Cert.AdamMemoryIdeal.τ).loc Cert.AdamMemoryIdeal.main_v7_1) = v0 c
          ∧ r.2.mem ((c.tc : Thread Cert.AdamMemoryIdeal.nD Cert.AdamMemoryIdeal.τ).loc Cert.AdamMemoryIdeal.main_v7_2) = v1 c
          ∧ r.2.mem ((c.tc : Thread Cert.AdamMemoryIdeal.nD Cert.AdamMemoryIdeal.τ).loc Cert.AdamMemoryIdeal.main_v7_3) = v2 c
          ∧ r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
          ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
          ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
          ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3))
      ∧ θ_run (Cert.AdamMemoryRefIdeal.defs (F := Ideal)) (onTc (τ := Cert.AdamMemoryRefIdeal.τ) (Cert.AdamMemoryRefIdeal.main (F := Ideal))) ⟨m', fun _ => 0, g'⟩ (fun r => ∀ c : Dev Cert.AdamMemoryRefIdeal.nD,
          r.2.mem ((c.tc : Thread Cert.AdamMemoryRefIdeal.nD Cert.AdamMemoryRefIdeal.τ).loc Cert.AdamMemoryRefIdeal.main_v23) = v0 c
          ∧ r.2.mem ((c.tc : Thread Cert.AdamMemoryRefIdeal.nD Cert.AdamMemoryRefIdeal.τ).loc Cert.AdamMemoryRefIdeal.main_v4) = v1 c
          ∧ r.2.mem ((c.tc : Thread Cert.AdamMemoryRefIdeal.nD Cert.AdamMemoryRefIdeal.τ).loc Cert.AdamMemoryRefIdeal.main_v10) = v2 c
          ∧ r.2.mem ((c.tc : Thread Cert.AdamMemoryRefIdeal.nD Cert.AdamMemoryRefIdeal.τ).loc Cert.AdamMemoryRefIdeal.main_arg0) = m' ((c.tc : Thread Cert.AdamMemoryRefIdeal.nD Cert.AdamMemoryRefIdeal.τ).loc Cert.AdamMemoryRefIdeal.main_arg0)
          ∧ r.2.mem ((c.tc : Thread Cert.AdamMemoryRefIdeal.nD Cert.AdamMemoryRefIdeal.τ).loc Cert.AdamMemoryRefIdeal.main_arg1) = m' ((c.tc : Thread Cert.AdamMemoryRefIdeal.nD Cert.AdamMemoryRefIdeal.τ).loc Cert.AdamMemoryRefIdeal.main_arg1)
          ∧ r.2.mem ((c.tc : Thread Cert.AdamMemoryRefIdeal.nD Cert.AdamMemoryRefIdeal.τ).loc Cert.AdamMemoryRefIdeal.main_arg2) = m' ((c.tc : Thread Cert.AdamMemoryRefIdeal.nD Cert.AdamMemoryRefIdeal.τ).loc Cert.AdamMemoryRefIdeal.main_arg2)
          ∧ r.2.mem ((c.tc : Thread Cert.AdamMemoryRefIdeal.nD Cert.AdamMemoryRefIdeal.τ).loc Cert.AdamMemoryRefIdeal.main_arg3) = m' ((c.tc : Thread Cert.AdamMemoryRefIdeal.nD Cert.AdamMemoryRefIdeal.τ).loc Cert.AdamMemoryRefIdeal.main_arg3))

def Claim : Prop :=
  ∃ (hFfn : Cert.Ffn.Facts) (hFfnIdeal : Cert.FfnIdeal.Facts) (hFfnRefIdeal : Cert.FfnRefIdeal.Facts) (hCross : Cert.Cross.Facts) (hCrossIdeal : Cert.CrossIdeal.Facts) (hCrossRefIdeal : Cert.CrossRefIdeal.Facts) (hAdamSquare : Cert.AdamSquare.Facts) (hAdamSquareIdeal : Cert.AdamSquareIdeal.Facts) (hAdamSquareRefIdeal : Cert.AdamSquareRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamMemory : Cert.AdamMemory.Facts) (hAdamMemoryIdeal : Cert.AdamMemoryIdeal.Facts) (hAdamMemoryRefIdeal : Cert.AdamMemoryRefIdeal.Facts) (hPre_ffn_finite : Cert.Pre_ffn_finite.Facts) (hPre_cross_finite : Cert.Pre_cross_finite.Facts),
    quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamMemory (hAdamMemory := hAdamMemory)
    ∧ quiescent_AdamMemoryIdeal (hAdamMemoryIdeal := hAdamMemoryIdeal)
    ∧ quiescent_AdamMemoryRefIdeal (hAdamMemoryRefIdeal := hAdamMemoryRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamMemory_AdamMemoryIdeal
    ∧ algebraic_AdamMemoryIdeal_AdamMemoryRefIdeal (hAdamMemoryIdeal := hAdamMemoryIdeal) (hAdamMemoryRefIdeal := hAdamMemoryRefIdeal)
-- ==== Pre_cross_finite.lean ====
abbrev S8192x1024 : Shape := ⟨2, ![8192, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x2048 .f32) (main_arg6 : FVec F S1024x1024 .f32) (main_arg7 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S256x1024 .f32) (main_arg2 : FVec F S1024 .f32) (main_arg3 : FVec F S1024 .f32) (main_arg4 : FVec F S1024x1024 .f32) (main_arg5 : FVec F S1024x2048 .f32) (main_arg6 : FVec F S1024x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_ffn_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S8192x2816 : Shape := ⟨2, ![8192, 2816]⟩
abbrev S1408x1024 : Shape := ⟨2, ![1408, 1024]⟩
abbrev S512x1408 : Shape := ⟨2, ![512, 1408]⟩
abbrev S512x2816 : Shape := ⟨2, ![512, 2816]⟩
abbrev S_ : Shape := ⟨0, ![]⟩
abbrev S1024x1408 : Shape := ⟨2, ![1024, 1408]⟩
abbrev S1024x1024 : Shape := ⟨2, ![1024, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 31
  | .vmem => 68
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S2816x1024, .f32⟩
  | .hbm, ⟨22, _⟩ => ⟨S8192x2816, .bf16⟩
  | .hbm, ⟨23, _⟩ => ⟨S8192x2816, .bf16⟩
  | .hbm, ⟨24, _⟩ => ⟨S2816x1024, .f32⟩
  | .hbm, ⟨25, _⟩ => ⟨S2816x1024, .f32⟩
  | .hbm, ⟨26, _⟩ => ⟨S8192x1024, .f32⟩
  | .hbm, ⟨27, _⟩ => ⟨S1x1024, .f32⟩
  | .hbm, ⟨28, _⟩ => ⟨S1024, .f32⟩
  | .hbm, ⟨29, _⟩ => ⟨S1024x2816, .f32⟩
  | .hbm, ⟨30, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x2816, .bf16⟩
  | .local _ .vmem, ⟨18, _⟩ => ⟨S512x2816, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1024x1408, .bf16⟩
  | .local _ .vmem, ⟨25, _⟩ => ⟨S1024x1408, .bf16⟩
  | .local _ .vmem, ⟨26, _⟩ => ⟨S1024x1024, .bf16⟩
  | .local _ .vmem, ⟨27, _⟩ => ⟨S1024x1024, .bf16⟩
  | .local _ .vmem, ⟨28, _⟩ => ⟨S1408x1024, .f32⟩
  | .local _ .vmem, ⟨29, _⟩ => ⟨S1408x1024, .f32⟩
  | .local _ .vmem, ⟨30, _⟩ => ⟨S512x1024, .bf16⟩
  | .local _ .vmem, ⟨31, _⟩ => ⟨S512x1024, .bf16⟩
  | .local _ .vmem, ⟨32, _⟩ => ⟨S1408x1024, .bf16⟩
  | .local _ .vmem, ⟨33, _⟩ => ⟨S1408x1024, .bf16⟩
  | .local _ .vmem, ⟨34, _⟩ => ⟨S512x1408, .bf16⟩
  | .local _ .vmem, ⟨35, _⟩ => ⟨S512x1408, .bf16⟩
  | .local _ .vmem, ⟨36, _⟩ => ⟨S512x1408, .bf16⟩
  | .local _ .vmem, ⟨37, _⟩ => ⟨S512x1408, .bf16⟩
  | .local _ .vmem, ⟨38, _⟩ => ⟨S512x1408, .bf16⟩
  | .local _ .vmem, ⟨39, _⟩ => ⟨S512x1408, .bf16⟩
  | .local _ .vmem, ⟨40, _⟩ => ⟨S512x1408, .bf16⟩
  | .local _ .vmem, ⟨41, _⟩ => ⟨S512x1408, .bf16⟩
  | .local _ .vmem, ⟨42, _⟩ => ⟨S1024x1408, .bf16⟩
  | .local _ .vmem, ⟨43, _⟩ => ⟨S1024x1408, .bf16⟩
  | .local _ .vmem, ⟨44, _⟩ => ⟨S1024x1024, .bf16⟩
  | .local _ .vmem, ⟨45, _⟩ => ⟨S1024x1024, .bf16⟩
  | .local _ .vmem, ⟨46, _⟩ => ⟨S1408x1024, .f32⟩
  | .local _ .vmem, ⟨47, _⟩ => ⟨S1408x1024, .f32⟩
  | .local _ .vmem, ⟨48, _⟩ => ⟨S1024x1408, .bf16⟩
  | .local _ .vmem, ⟨49, _⟩ => ⟨S1024x1408, .bf16⟩
  | .local _ .vmem, ⟨50, _⟩ => ⟨S1024x1024, .bf16⟩
  | .local _ .vmem, ⟨51, _⟩ => ⟨S1024x1024, .bf16⟩
  | .local _ .vmem, ⟨52, _⟩ => ⟨S1408x1024, .f32⟩
  | .local _ .vmem, ⟨53, _⟩ => ⟨S1408x1024, .f32⟩
  | .local _ .vmem, ⟨54, _⟩ => ⟨S256x2816, .bf16⟩
  | .local _ .vmem, ⟨55, _⟩ => ⟨S256x2816, .bf16⟩
  | .local _ .vmem, ⟨56, _⟩ => ⟨S256x2816, .bf16⟩
  | .local _ .vmem, ⟨57, _⟩ => ⟨S256x2816, .bf16⟩
  | .local _ .vmem, ⟨58, _⟩ => ⟨S2816x1024, .bf16⟩
  | .local _ .vmem, ⟨59, _⟩ => ⟨S2816x1024, .bf16⟩
  | .local _ .vmem, ⟨60, _⟩ => ⟨S256x1024, .f32⟩
  | .local _ .vmem, ⟨61, _⟩ => ⟨S256x1024, .f32⟩
  | .local _ .vmem, ⟨62, _⟩ => ⟨S1x1024, .f32⟩
  | .local _ .vmem, ⟨63, _⟩ => ⟨S256x1024, .f32⟩
  | .local _ .vmem, ⟨64, _⟩ => ⟨S256x1024, .f32⟩
  | .local _ .vmem, ⟨65, _⟩ => ⟨S256x1024, .f32⟩
  | .local _ .vmem, ⟨66, _⟩ => ⟨S256x1024, .f32⟩
  | .local _ .vmem, ⟨67, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc7_stg6_1 : Ref sig .tc := ⟨.vmem, 64, rfl⟩
abbrev cc7_stg7_0 : Ref sig .tc := ⟨.vmem, 65, rfl⟩
abbrev cc7_stg7_1 : Ref sig .tc := ⟨.vmem, 66, rfl⟩
abbrev cc7_stg8_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem4_1 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc7_sem6_1 : DmaSem sig := 64
abbrev cc7_sem7_0 : DmaSem sig := 65
abbrev cc7_sem7_1 : DmaSem sig := 66
abbrev cc7_sem8_0 : DmaSem sig := 67

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1408x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x1408 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S512x1408 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x1408 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![2, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1408x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![2, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1408x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S2816x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2816x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S256x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S256x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x1024 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S1024x2816, .f32⟩
  | .hbm, ⟨52, _⟩ => ⟨S2816x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S2816x1024, .f32⟩
  | .hbm, ⟨57, _⟩ => ⟨S1024x2816, .f32⟩
  | .hbm, ⟨58, _⟩ => ⟨S8192x1024, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S2816x1024, .f32⟩
  | .hbm, ⟨64, _⟩ => ⟨S1024x2816, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== Cross.lean ====
abbrev S8192x1024 : Shape := ⟨2, ![8192, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S1x1024 : Shape := ⟨2, ![1, 1024]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S256x1 : Shape := ⟨2, ![256, 1]⟩
abbrev S256x2048 : Shape := ⟨2, ![256, 2048]⟩
abbrev S512x256 : Shape := ⟨2, ![512, 256]⟩
abbrev S256x256 : Shape := ⟨2, ![256, 256]⟩

abbrev nBuf : Space → Nat
  | .hbm => 34
  | .vmem => 75
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S2048x1024, .f32⟩
  | .hbm, ⟨12, _⟩ => ⟨S2048x1024, .bf16⟩
  | .hbm, ⟨13, _⟩ => ⟨S1024x1024, .bf16⟩
  | .hbm, ⟨14, _⟩ => ⟨S8192x1024, .bf16⟩
  | .hbm, ⟨15, _⟩ => ⟨S256x1024, .bf16⟩
  | .hbm, ⟨16, _⟩ => ⟨S8192x1024, .bf16⟩
  | .hbm, ⟨17, _⟩ => ⟨S256x2048, .bf16⟩
  | .hbm, ⟨18, _⟩ => ⟨S8192x1024, .bf16⟩
  | .hbm, ⟨19, _⟩ => ⟨S8192x1024, .f32⟩
  | .hbm, ⟨20, _⟩ => ⟨S1024x1024, .f32⟩
  | .hbm, ⟨21, _⟩ => ⟨S8192x1024, .bf16⟩
  | .hbm, ⟨22, _⟩ => ⟨S8192x1024, .bf16⟩
  | .hbm, ⟨23, _⟩ => ⟨S256x2048, .f32⟩
  | .hbm, ⟨24, _⟩ => ⟨S1024x1024, .f32⟩
  | .hbm, ⟨25, _⟩ => ⟨S2048x1024, .f32⟩
  | .hbm, ⟨26, _⟩ => ⟨S256x1024, .f32⟩
  | .hbm, ⟨27, _⟩ => ⟨S256x1024, .f32⟩
  | .hbm, ⟨28, _⟩ => ⟨S1x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1024, .f32⟩
  | .hbm, ⟨33, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S256x1024, .bf16⟩
  | .local _ .vmem, ⟨14, _⟩ => ⟨S2048x1024, .bf16⟩
  | .local _ .vmem, ⟨15, _⟩ => ⟨S256x2048, .bf16⟩
  | .local _ .vmem, ⟨16, _⟩ => ⟨S512x1024, .bf16⟩
  | .local _ .vmem, ⟨17, _⟩ => ⟨S512x1024, .bf16⟩
  | .local _ .vmem, ⟨18, _⟩ => ⟨S256x2048, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S512x1024, .f32⟩
  | .local _ .vmem, ⟨34, _⟩ => ⟨S512x1024, .f32⟩
  | .local _ .vmem, ⟨35, _⟩ => ⟨S1024x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S256x2048, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S256x2048, .f32⟩
  | .local _ .vmem, ⟨46, _⟩ => ⟨S1024x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | .local _ .vmem, ⟨50, _⟩ => ⟨S1024x1024, .f32⟩
  | .local _ .vmem, ⟨51, _⟩ => ⟨S256x1024, .f32⟩
  | .local _ .vmem, ⟨52, _⟩ => ⟨S256x1024, .f32⟩
  | .local _ .vmem, ⟨53, _⟩ => ⟨S256x1024, .bf16⟩
  | .local _ .vmem, ⟨54, _⟩ => ⟨S1024x1024, .f32⟩
  | .local _ .vmem, ⟨55, _⟩ => ⟨S1024x1024, .f32⟩
  | .local _ .vmem, ⟨56, _⟩ => ⟨S256x2048, .f32⟩
  | .local _ .vmem, ⟨57, _⟩ => ⟨S2048x1024, .bf16⟩
  | .local _ .vmem, ⟨58, _⟩ => ⟨S256x1024, .f32⟩
  | .local _ .vmem, ⟨59, _⟩ => ⟨S256x1024, .f32⟩
  | .local _ .vmem, ⟨60, _⟩ => ⟨S1x1024, .f32⟩
  | .local _ .vmem, ⟨61, _⟩ => ⟨S256x1024, .f32⟩
  | .local _ .vmem, ⟨62, _⟩ => ⟨S256x1024, .f32⟩
  | .local _ .vmem, ⟨63, _⟩ => ⟨S1x1024, .f32⟩
  | .local _ .vmem, ⟨64, _⟩ => ⟨S512x1024, .bf16⟩
  | .local _ .vmem, ⟨65, _⟩ => ⟨S512x1024, .bf16⟩
  | .local _ .vmem, ⟨66, _⟩ => ⟨S1024x1024, .bf16⟩
  | .local _ .vmem, ⟨67, _⟩ => ⟨S512x1024, .f32⟩
  | .local _ .vmem, ⟨68, _⟩ => ⟨S512x1024, .f32⟩
  | .local _ .vmem, ⟨69, _⟩ => ⟨S1x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg2_0 : Ref sig .tc := ⟨.vmem, 19, rfl⟩
abbrev cc4_stg2_1 : Ref sig .tc := ⟨.vmem, 20, rfl⟩
abbrev cc5_stg0_0 : Ref sig .tc := ⟨.vmem, 21, rfl⟩
abbrev cc5_stg0_1 : Ref sig .tc := ⟨.vmem, 22, rfl⟩
abbrev cc5_stg1_0 : Ref sig .tc := ⟨.vmem, 23, rfl⟩
abbrev cc5_stg2_0 : Ref sig .tc := ⟨.vmem, 24, rfl⟩
abbrev cc5_stg2_1 : Ref sig .tc := ⟨.vmem, 25, rfl⟩
abbrev cc5_stg3_0 : Ref sig .tc := ⟨.vmem, 26, rfl⟩
abbrev cc5_stg3_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc7_stg0_0 : Ref sig .tc := ⟨.vmem, 33, rfl⟩
abbrev cc7_stg0_1 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg2_1 : Ref sig .tc := ⟨.vmem, 37, rfl⟩
abbrev cc8_stg0_0 : Ref sig .tc := ⟨.vmem, 38, rfl⟩
abbrev cc8_stg0_1 : Ref sig .tc := ⟨.vmem, 39, rfl⟩
abbrev cc8_stg1_0 : Ref sig .tc := ⟨.vmem, 40, rfl⟩
abbrev cc8_stg2_0 : Ref sig .tc := ⟨.vmem, 41, rfl⟩
abbrev cc8_stg2_1 : Ref sig .tc := ⟨.vmem, 42, rfl⟩
abbrev cc8_stg3_0 : Ref sig .tc := ⟨.vmem, 43, rfl⟩
abbrev cc8_stg3_1 : Ref sig .tc := ⟨.vmem, 44, rfl⟩
abbrev cc8_stg4_0 : Ref sig .tc := ⟨.vmem, 45, rfl⟩
abbrev cc9_stg0_0 : Ref sig .tc := ⟨.vmem, 46, rfl⟩
abbrev cc9_stg0_1 : Ref sig .tc := ⟨.vmem, 47, rfl⟩
abbrev cc9_stg1_0 : Ref sig .tc := ⟨.vmem, 48, rfl⟩
abbrev cc9_stg1_1 : Ref sig .tc := ⟨.vmem, 49, rfl⟩
abbrev cc9_stg2_0 : Ref sig .tc := ⟨.vmem, 50, rfl⟩
abbrev cc10_stg0_0 : Ref sig .tc := ⟨.vmem, 51, rfl⟩
abbrev cc10_stg0_1 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg2_1 : Ref sig .tc := ⟨.vmem, 55, rfl⟩
abbrev cc11_stg0_0 : Ref sig .tc := ⟨.vmem, 56, rfl⟩
abbrev cc11_stg1_0 : Ref sig .tc := ⟨.vmem, 57, rfl⟩
abbrev cc11_stg2_0 : Ref sig .tc := ⟨.vmem, 58, rfl⟩
abbrev cc12_stg0_0 : Ref sig .tc := ⟨.vmem, 59, rfl⟩
abbrev cc12_stg1_0 : Ref sig .tc := ⟨.vmem, 60, rfl⟩
abbrev cc12_stg2_0 : Ref sig .tc := ⟨.vmem, 61, rfl⟩
abbrev cc12_stg3_0 : Ref sig .tc := ⟨.vmem, 62, rfl⟩
abbrev cc12_stg4_0 : Ref sig .tc := ⟨.vmem, 63, rfl⟩
abbrev cc13_stg0_0 : Ref sig .tc := ⟨.vmem, 64, rfl⟩
abbrev cc13_stg0_1 : Ref sig .tc := ⟨.vmem, 65, rfl⟩
abbrev cc13_stg1_0 : Ref sig .tc := ⟨.vmem, 66, rfl⟩
abbrev cc13_stg2_0 : Ref sig .tc := ⟨.vmem, 67, rfl⟩
abbrev cc13_stg2_1 : Ref sig .tc := ⟨.vmem, 68, rfl⟩
abbrev cc13_stg3_0 : Ref sig .tc := ⟨.vmem, 69, rfl⟩
abbrev cc13_stg4_0 : Ref sig .tc := ⟨.vmem, 70, rfl⟩
abbrev cc13_stg4_1 : Ref sig .tc := ⟨.vmem, 71, rfl⟩
abbrev cc13_stg5_0 : Ref sig .tc := ⟨.vmem, 72, rfl⟩
abbrev cc13_stg5_1 : Ref sig .tc := ⟨.vmem, 73, rfl⟩
abbrev cc13_stg6_0 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem2_0 : DmaSem sig := 15
abbrev cc4_sem0_0 : DmaSem sig := 16
abbrev cc4_sem0_1 : DmaSem sig := 17
abbrev cc4_sem1_0 : DmaSem sig := 18
abbrev cc4_sem2_0 : DmaSem sig := 19
abbrev cc4_sem2_1 : DmaSem sig := 20
abbrev cc5_sem0_0 : DmaSem sig := 21
abbrev cc5_sem0_1 : DmaSem sig := 22
abbrev cc5_sem1_0 : DmaSem sig := 23
abbrev cc5_sem2_0 : DmaSem sig := 24
abbrev cc5_sem2_1 : DmaSem sig := 25
abbrev cc5_sem3_0 : DmaSem sig := 26
abbrev cc5_sem3_1 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc7_sem0_0 : DmaSem sig := 33
abbrev cc7_sem0_1 : DmaSem sig := 34
abbrev cc7_sem1_0 : DmaSem sig := 35
abbrev cc7_sem2_0 : DmaSem sig := 36
abbrev cc7_sem2_1 : DmaSem sig := 37
abbrev cc8_sem0_0 : DmaSem sig := 38
abbrev cc8_sem0_1 : DmaSem sig := 39
abbrev cc8_sem1_0 : DmaSem sig := 40
abbrev cc8_sem2_0 : DmaSem sig := 41
abbrev cc8_sem2_1 : DmaSem sig := 42
abbrev cc8_sem3_0 : DmaSem sig := 43
abbrev cc8_sem3_1 : DmaSem sig := 44
abbrev cc8_sem4_0 : DmaSem sig := 45
abbrev cc9_sem0_0 : DmaSem sig := 46
abbrev cc9_sem0_1 : DmaSem sig := 47
abbrev cc9_sem1_0 : DmaSem sig := 48
abbrev cc9_sem1_1 : DmaSem sig := 49
abbrev cc9_sem2_0 : DmaSem sig := 50
abbrev cc10_sem0_0 : DmaSem sig := 51
abbrev cc10_sem0_1 : DmaSem sig := 52
abbrev cc10_sem1_0 : DmaSem sig := 53
abbrev cc10_sem2_0 : DmaSem sig := 54
abbrev cc10_sem2_1 : DmaSem sig := 55
abbrev cc11_sem0_0 : DmaSem sig := 56
abbrev cc11_sem1_0 : DmaSem sig := 57
abbrev cc11_sem2_0 : DmaSem sig := 58
abbrev cc12_sem0_0 : DmaSem sig := 59
abbrev cc12_sem1_0 : DmaSem sig := 60
abbrev cc12_sem2_0 : DmaSem sig := 61
abbrev cc12_sem3_0 : DmaSem sig := 62
abbrev cc12_sem4_0 : DmaSem sig := 63
abbrev cc13_sem0_0 : DmaSem sig := 64
abbrev cc13_sem0_1 : DmaSem sig := 65
abbrev cc13_sem1_0 : DmaSem sig := 66
abbrev cc13_sem2_0 : DmaSem sig := 67
abbrev cc13_sem2_1 : DmaSem sig := 68
abbrev cc13_sem3_0 : DmaSem sig := 69
abbrev cc13_sem4_0 : DmaSem sig := 70
abbrev cc13_sem4_1 : DmaSem sig := 71
abbrev cc13_sem5_0 : DmaSem sig := 72
abbrev cc13_sem5_1 : DmaSem sig := 73
abbrev cc13_sem6_0 : DmaSem sig := 74

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![1, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x2048 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S256x2048 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨2, ![1, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1024x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 1 → Memref sig .tc .vmem S1024x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, false]

abbrev grid10 : Pipeline.Grid := ⟨2, ![2, 1], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S256x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S256x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S256x2048 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S2048x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S256x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S256x1024 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S1x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S256x1024 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true]

abbrev stage12_3 : Fin 1 → Memref sig .tc .vmem S256x1024 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true]

abbrev stage12_4 : Fin 1 → Memref sig .tc .vmem S1x1024 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev grid13 : Pipeline.Grid := ⟨1, ![16], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S512x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1024x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S512x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x1024 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S512x1024 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S512x1024 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 1 → Memref sig .tc .vmem S1x1024 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]
-- ==== CrossRefIdeal.lean ====
abbrev S8192x1024 : Shape := ⟨2, ![8192, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256 : Shape := ⟨1, ![256]⟩
abbrev S256x1 : Shape := ⟨2, ![256, 1]⟩
abbrev S8192x4x256 : Shape := ⟨3, ![8192, 4, 256]⟩
abbrev S256x2048 : Shape := ⟨2, ![256, 2048]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S2048x1024 : Shape := ⟨2, ![2048, 1024]⟩

abbrev nBuf : Space → Nat
  | .hbm => 176
  | .vmem => 0
  | .smem => 0
  | _ => 0

abbrev hbmTy0_0 (i : Nat) : BufTy := match i % 128 with
  | 0 => ⟨S8192x1024, .f32⟩
  | 1 => ⟨S256x1024, .f32⟩
  | 2 => ⟨S1024, .f32⟩
  | 3 => ⟨S1024, .f32⟩
  | 4 => ⟨S1024x1024, .f32⟩
  | 5 => ⟨S1024x2048, .f32⟩
  | 6 => ⟨S1024x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S256x1024, .f32⟩
  | 29 => ⟨S_, .f32⟩
  | 30 => ⟨S256, .f32⟩
  | 31 => ⟨S256x1, .f32⟩
  | 32 => ⟨S_, .f32⟩
  | 33 => ⟨S256x1, .f32⟩
  | 34 => ⟨S256x1, .f32⟩
  | 35 => ⟨S_, .f32⟩
  | 36 => ⟨S256x1, .f32⟩
  | 37 => ⟨S256x1, .f32⟩
  | 38 => ⟨S256x1, .f32⟩
  | 39 => ⟨S256x1024, .f32⟩
  | 40 => ⟨S256x1024, .f32⟩
  | 41 => ⟨S1x1024, .f32⟩
  | 42 => ⟨S256x1024, .f32⟩
  | 43 => ⟨S256x1024, .f32⟩
  | 44 => ⟨S8192x1024, .f32⟩
  | 45 => ⟨S8192x4x256, .f32⟩
  | 46 => ⟨S256x2048, .f32⟩
  | 47 => ⟨S256x2x4x256, .f32⟩
  | 48 => ⟨S256x1x4x256, .f32⟩
  | 49 => ⟨S256x4x256, .f32⟩
  | 50 => ⟨S256x1x4x256, .f32⟩
  | 51 => ⟨S256x4x256, .f32⟩
  | 52 => ⟨S4x8192x256, .f32⟩
  | 53 => ⟨S_, .f32⟩
  | 54 => ⟨S4x8192x256, .f32⟩
  | 55 => ⟨S4x8192x256, .f32⟩
  | 56 => ⟨S_, .f32⟩
  | 57 => ⟨S4x8192, .f32⟩
  | 58 => ⟨S4x8192x1, .f32⟩
  | 59 => ⟨S4x8192x256, .f32⟩
  | 60 => ⟨S4x8192x256, .i1⟩
  | 61 => ⟨S4x8192x256, .f32⟩
  | 62 => ⟨S_, .f32⟩
  | 63 => ⟨S4x8192, .f32⟩
  | 64 => ⟨S_, .f32⟩
  | 65 => ⟨S4x8192, .f32⟩
  | 66 => ⟨S4x8192, .f32⟩
  | 67 => ⟨S_, .f32⟩
  | 68 => ⟨S4x8192, .f32⟩
  | 69 => ⟨S4x8192, .i1⟩
  | 70 => ⟨S_, .f32⟩
  | 71 => ⟨S4x8192, .f32⟩
  | 72 => ⟨S4x8192, .i1⟩
  | 73 => ⟨S_, .f32⟩
  | 74 => ⟨S4x8192, .f32⟩
  | 75 => ⟨S_, .f32⟩
  | 76 => ⟨S4x8192, .f32⟩
  | 77 => ⟨S_, .f32⟩
  | 78 => ⟨S4x8192, .f32⟩
  | 79 => ⟨S4x8192, .f32⟩
  | 80 => ⟨S4x8192, .f32⟩
  | 81 => ⟨S4x8192x1, .f32⟩
  | 82 => ⟨S4x8192x256, .f32⟩
  | 83 => ⟨S4x8192x256, .f32⟩
  | 84 => ⟨S4x8192x256, .f32⟩
  | 85 => ⟨S_, .f32⟩
  | 86 => ⟨S4x8192, .f32⟩
  | 87 => ⟨S4x8192x1, .f32⟩
  | 88 => ⟨S4x8192x256, .f32⟩
  | 89 => ⟨S4x8192x256, .f32⟩
  | 90 => ⟨S4x8192x1, .f32⟩
  | 91 => ⟨S_, .f32⟩
  | 92 => ⟨S4x8192x1, .f32⟩
  | 93 => ⟨S4x8192x1, .f32⟩
  | 94 => ⟨S4x256x8192, .f32⟩
  | 95 => ⟨S8192x4x256, .f32⟩
  | 96 => ⟨S8192x1024, .f32⟩
  | 97 => ⟨S8192x1024, .f32⟩
  | 98 => ⟨S8192x1024, .f32⟩
  | 99 => ⟨S8192x1024, .f32⟩
  | 100 => ⟨S1024x1024, .f32⟩
  | 101 => ⟨S1024x1024, .f32⟩
  | 102 => ⟨S8192x1024, .f32⟩
  | 103 => ⟨S8192x4x256, .f32⟩
  | 104 => ⟨S4x256x8192, .f32⟩
  | 105 => ⟨S4x8192x256, .f32⟩
  | 106 => ⟨S4x256x256, .f32⟩
  | 107 => ⟨S256x4x256, .f32⟩
  | 108 => ⟨S4x8192x256, .f32⟩
  | 109 => ⟨S4x8192x256, .f32⟩
  | 110 => ⟨S4x8192x256, .f32⟩
  | 111 => ⟨S_, .f32⟩
  | 112 => ⟨S4x8192, .f32⟩
  | 113 => ⟨S4x8192x1, .f32⟩
  | 114 => ⟨S4x8192x1, .f32⟩
  | 115 => ⟨S4x8192x256, .f32⟩
  | 116 => ⟨S4x8192x256, .f32⟩
  | 117 => ⟨S_, .f32⟩
  | 118 => ⟨S4x8192, .f32⟩
  | 119 => ⟨S4x8192x256, .f32⟩
  | 120 => ⟨S4x8192x256, .f32⟩
  | 121 => ⟨S4x8192x256, .f32⟩
  | 122 => ⟨S_, .f32⟩
  | 123 => ⟨S4x8192x256, .f32⟩
  | 124 => ⟨S4x8192x256, .f32⟩
  | 125 => ⟨S4x256x256, .f32⟩
  | 126 => ⟨S256x4x256, .f32⟩
  | 127 => ⟨S4x8192x256, .f32⟩
  | _ => ⟨S8192x1024, .f32⟩

abbrev hbmTy0_1 (i : Nat) : BufTy := match i % 128 with
  | 0 => ⟨S8192x4x256, .f32⟩
  | 1 => ⟨S256x1x4x256, .f32⟩
  | 2 => ⟨S_, .f32⟩
  | 3 => ⟨S256x2x4x256, .f32⟩
  | 4 => ⟨S256x1x4x256, .f32⟩
  | 5 => ⟨S_, .f32⟩
  | 6 => ⟨S256x2x4x256, .f32⟩
  | 7 => ⟨S256x2x4x256, .f32⟩
  | 8 => ⟨S256x2048, .f32⟩
  | 9 => ⟨S2048x1024, .f32⟩
  | 10 => ⟨S1024x2048, .f32⟩
  | 11 => ⟨S256x1024, .f32⟩
  | 12 => ⟨S8192x1024, .f32⟩
  | 13 => ⟨S1024x1024, .f32⟩
  | 14 => ⟨S1024x1024, .f32⟩
  | 15 => ⟨S8192x1024, .f32⟩
  | 16 => ⟨S256x1024, .f32⟩
  | 17 => ⟨S_, .f32⟩
  | 18 => ⟨S1024, .f32⟩
  | 19 => ⟨S1x1024, .f32⟩
  | 20 => ⟨S_, .f32⟩
  | 21 => ⟨S1024, .f32⟩
  | 22 => ⟨S8192x1024, .f32⟩
  | 23 => ⟨S_, .f32⟩
  | 24 => ⟨S1024, .f32⟩
  | 25 => ⟨S1x1024, .f32⟩
  | 26 => ⟨S8192x1024, .f32⟩
  | 27 => ⟨S8192x1024, .f32⟩
  | 28 => ⟨S_, .f32⟩
  | 29 => ⟨S1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1024, .f32⟩
  | 36 => ⟨S8192x1024, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_19 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_20 : Ref sig .tc := ⟨.hbm, 130, rfl⟩
abbrev main_v101 : Ref sig .tc := ⟨.hbm, 131, rfl⟩
abbrev main_v102 : Ref sig .tc := ⟨.hbm, 132, rfl⟩
abbrev main_cst_21 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_22 : Ref sig .tc := ⟨.hbm, 145, rfl⟩
abbrev main_v114 : Ref sig .tc := ⟨.hbm, 146, rfl⟩
abbrev main_v115 : Ref sig .tc := ⟨.hbm, 147, rfl⟩
abbrev main_cst_23 : Ref sig .tc := ⟨.hbm, 148, rfl⟩
abbrev main_v116 : Ref sig .tc := ⟨.hbm, 149, rfl⟩
abbrev main_v117 : Ref sig .tc := ⟨.hbm, 150, rfl⟩
abbrev main_cst_24 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_25 : Ref sig .tc := ⟨.hbm, 156, rfl⟩
abbrev main_v122 : Ref sig .tc := ⟨.hbm, 157, rfl⟩
abbrev main_v123 : Ref sig .tc := ⟨.hbm, 158, rfl⟩
abbrev main_cst_26 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_27 : Ref sig .tc := ⟨.hbm, 166, rfl⟩
abbrev main_v130 : Ref sig .tc := ⟨.hbm, 167, rfl⟩
abbrev main_v131 : Ref sig .tc := ⟨.hbm, 168, rfl⟩
abbrev main_cst_28 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩

abbrev nD : Nat := 1
abbrev τ : Topo := Topo.v7x

variable {F : FTy → Type} [FloatOps F]
-- ==== AdamSquare.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 16
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S1x256x1024, .f32⟩
  | .hbm, ⟨5, _⟩ => ⟨S256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S1x256x1024, .f32⟩
  | .hbm, ⟨11, _⟩ => ⟨S256x1024, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamSquareIdeal.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 16
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S1x256x1024, .f32⟩
  | .hbm, ⟨5, _⟩ => ⟨S256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S1x256x1024, .f32⟩
  | .hbm, ⟨11, _⟩ => ⟨S256x1024, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamSquareRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x1024x704 : Shape := ⟨3, ![2, 1024, 704]⟩
abbrev S2x704x1024 : Shape := ⟨3, ![2, 704, 1024]⟩
abbrev S1x1024x704 : Shape := ⟨3, ![1, 1024, 704]⟩
abbrev S1024x704 : Shape := ⟨2, ![1024, 704]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 24
  | .vmem => 32
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S1x1024x704, .f32⟩
  | .hbm, ⟨8, _⟩ => ⟨S1024x704, .f32⟩
  | .hbm, ⟨9, _⟩ => ⟨S704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S1x1024x704, .f32⟩
  | .hbm, ⟨15, _⟩ => ⟨S1024x704, .f32⟩
  | .hbm, ⟨16, _⟩ => ⟨S704x1024, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S2x1024x704, .f32⟩
  | .hbm, ⟨22, _⟩ => ⟨S2x1024x704, .f32⟩
  | .hbm, ⟨23, _⟩ => ⟨S2x1024x704, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S352x1024, .f32⟩
  | .local _ .vmem, ⟨19, _⟩ => ⟨S352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamUpIdeal.lean ====
abbrev S2x1024x704 : Shape := ⟨3, ![2, 1024, 704]⟩
abbrev S2x704x1024 : Shape := ⟨3, ![2, 704, 1024]⟩
abbrev S1x1024x704 : Shape := ⟨3, ![1, 1024, 704]⟩
abbrev S1024x704 : Shape := ⟨2, ![1024, 704]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 24
  | .vmem => 32
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S1x1024x704, .f32⟩
  | .hbm, ⟨8, _⟩ => ⟨S1024x704, .f32⟩
  | .hbm, ⟨9, _⟩ => ⟨S704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S1x1024x704, .f32⟩
  | .hbm, ⟨15, _⟩ => ⟨S1024x704, .f32⟩
  | .hbm, ⟨16, _⟩ => ⟨S704x1024, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S2x1024x704, .f32⟩
  | .hbm, ⟨22, _⟩ => ⟨S2x1024x704, .f32⟩
  | .hbm, ⟨23, _⟩ => ⟨S2x1024x704, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S352x1024, .f32⟩
  | .local _ .vmem, ⟨19, _⟩ => ⟨S352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamUpRefIdeal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x704x1024 : Shape := ⟨3, ![2, 704, 1024]⟩
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 16
  | .vmem => 32
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1x704x1024, .f32⟩
  | .hbm, ⟨5, _⟩ => ⟨S704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S1x704x1024, .f32⟩
  | .hbm, ⟨11, _⟩ => ⟨S704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S352x1024, .f32⟩
  | .local _ .vmem, ⟨19, _⟩ => ⟨S352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamDownIdeal.lean ====
abbrev S2x704x1024 : Shape := ⟨3, ![2, 704, 1024]⟩
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 16
  | .vmem => 32
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1x704x1024, .f32⟩
  | .hbm, ⟨5, _⟩ => ⟨S704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S1x704x1024, .f32⟩
  | .hbm, ⟨11, _⟩ => ⟨S704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S352x1024, .f32⟩
  | .local _ .vmem, ⟨19, _⟩ => ⟨S352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamDownRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x1024x320 : Shape := ⟨3, ![2, 1024, 320]⟩
abbrev S2x320x1024 : Shape := ⟨3, ![2, 320, 1024]⟩
abbrev S1x1024x320 : Shape := ⟨3, ![1, 1024, 320]⟩
abbrev S1024x320 : Shape := ⟨2, ![1024, 320]⟩
abbrev S320x1024 : Shape := ⟨2, ![320, 1024]⟩
abbrev S1x64x1024 : Shape := ⟨3, ![1, 64, 1024]⟩
abbrev S64x1024 : Shape := ⟨2, ![64, 1024]⟩

abbrev nBuf : Space → Nat
  | .hbm => 24
  | .vmem => 32
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S2x320x1024, .f32⟩
  | .hbm, ⟨5, _⟩ => ⟨S2x320x1024, .f32⟩
  | .hbm, ⟨6, _⟩ => ⟨S2x320x1024, .f32⟩
  | .hbm, ⟨7, _⟩ => ⟨S1x1024x320, .f32⟩
  | .hbm, ⟨8, _⟩ => ⟨S1024x320, .f32⟩
  | .hbm, ⟨9, _⟩ => ⟨S320x1024, .f32⟩
  | .hbm, ⟨10, _⟩ => ⟨S2x320x1024, .f32⟩
  | .hbm, ⟨11, _⟩ => ⟨S2x320x1024, .f32⟩
  | .hbm, ⟨12, _⟩ => ⟨S2x320x1024, .f32⟩
  | .hbm, ⟨13, _⟩ => ⟨S2x320x1024, .f32⟩
  | .hbm, ⟨14, _⟩ => ⟨S1x1024x320, .f32⟩
  | .hbm, ⟨15, _⟩ => ⟨S1024x320, .f32⟩
  | .hbm, ⟨16, _⟩ => ⟨S320x1024, .f32⟩
  | .hbm, ⟨17, _⟩ => ⟨S2x320x1024, .f32⟩
  | .hbm, ⟨18, _⟩ => ⟨S2x320x1024, .f32⟩
  | .hbm, ⟨19, _⟩ => ⟨S2x320x1024, .f32⟩
  | .hbm, ⟨20, _⟩ => ⟨S2x320x1024, .f32⟩
  | .hbm, ⟨21, _⟩ => ⟨S2x1024x320, .f32⟩
  | .hbm, ⟨22, _⟩ => ⟨S2x1024x320, .f32⟩
  | .hbm, ⟨23, _⟩ => ⟨S2x1024x320, .f32⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S64x1024, .f32⟩
  | .local _ .vmem, ⟨19, _⟩ => ⟨S64x1024, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x1024, .f32⟩
  | .local _ .vmem, ⟨31, _⟩ => ⟨S1x64x1024, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamInIdeal.lean ====
abbrev S2x1024x320 : Shape := ⟨3, ![2, 1024, 320]⟩
abbrev S2x320x1024 : Shape := ⟨3, ![2, 320, 1024]⟩
abbrev S1x1024x320 : Shape := ⟨3, ![1, 1024, 320]⟩
abbrev S1024x320 : Shape := ⟨2, ![1024, 320]⟩
abbrev S320x1024 : Shape := ⟨2, ![320, 1024]⟩
abbrev S1x64x1024 : Shape := ⟨3, ![1, 64, 1024]⟩
abbrev S64x1024 : Shape := ⟨2, ![64, 1024]⟩

abbrev nBuf : Space → Nat
  | .hbm => 24
  | .vmem => 32
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S2x320x1024, .f32⟩
  | .hbm, ⟨5, _⟩ => ⟨S2x320x1024, .f32⟩
  | .hbm, ⟨6, _⟩ => ⟨S2x320x1024, .f32⟩
  | .hbm, ⟨7, _⟩ => ⟨S1x1024x320, .f32⟩
  | .hbm, ⟨8, _⟩ => ⟨S1024x320, .f32⟩
  | .hbm, ⟨9, _⟩ => ⟨S320x1024, .f32⟩
  | .hbm, ⟨10, _⟩ => ⟨S2x320x1024, .f32⟩
  | .hbm, ⟨11, _⟩ => ⟨S2x320x1024, .f32⟩
  | .hbm, ⟨12, _⟩ => ⟨S2x320x1024, .f32⟩
  | .hbm, ⟨13, _⟩ => ⟨S2x320x1024, .f32⟩
  | .hbm, ⟨14, _⟩ => ⟨S1x1024x320, .f32⟩
  | .hbm, ⟨15, _⟩ => ⟨S1024x320, .f32⟩
  | .hbm, ⟨16, _⟩ => ⟨S320x1024, .f32⟩
  | .hbm, ⟨17, _⟩ => ⟨S2x320x1024, .f32⟩
  | .hbm, ⟨18, _⟩ => ⟨S2x320x1024, .f32⟩
  | .hbm, ⟨19, _⟩ => ⟨S2x320x1024, .f32⟩
  | .hbm, ⟨20, _⟩ => ⟨S2x320x1024, .f32⟩
  | .hbm, ⟨21, _⟩ => ⟨S2x1024x320, .f32⟩
  | .hbm, ⟨22, _⟩ => ⟨S2x1024x320, .f32⟩
  | .hbm, ⟨23, _⟩ => ⟨S2x1024x320, .f32⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S64x1024, .f32⟩
  | .local _ .vmem, ⟨19, _⟩ => ⟨S64x1024, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x1024, .f32⟩
  | .local _ .vmem, ⟨31, _⟩ => ⟨S1x64x1024, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![5], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamInRefIdeal.lean ====
abbrev S2x1024x320 : Shape := ⟨3, ![2, 1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S_, .f32⟩
  | .hbm, ⟨5, _⟩ => ⟨S2x1024x320, .f32⟩
  | .hbm, ⟨6, _⟩ => ⟨S2x1024x320, .f32⟩
  | .hbm, ⟨7, _⟩ => ⟨S_, .f32⟩
  | .hbm, ⟨8, _⟩ => ⟨S2x1024x320, .f32⟩
  | .hbm, ⟨9, _⟩ => ⟨S2x1024x320, .f32⟩
  | .hbm, ⟨10, _⟩ => ⟨S2x1024x320, .f32⟩
  | .hbm, ⟨11, _⟩ => ⟨S_, .f32⟩
  | .hbm, ⟨12, _⟩ => ⟨S2x1024x320, .f32⟩
  | .hbm, ⟨13, _⟩ => ⟨S2x1024x320, .f32⟩
  | .hbm, ⟨14, _⟩ => ⟨S2x1024x320, .f32⟩
  | .hbm, ⟨15, _⟩ => ⟨S_, .f32⟩
  | .hbm, ⟨16, _⟩ => ⟨S2x1024x320, .f32⟩
  | .hbm, ⟨17, _⟩ => ⟨S2x1024x320, .f32⟩
  | .hbm, ⟨18, _⟩ => ⟨S2x1024x320, .f32⟩
  | .hbm, ⟨19, _⟩ => ⟨S_, .f32⟩
  | .hbm, ⟨20, _⟩ => ⟨S2x1024x320, .f32⟩
  | .hbm, ⟨21, _⟩ => ⟨S2x1024x320, .f32⟩
  | .hbm, ⟨22, _⟩ => ⟨S_, .f32⟩
  | .hbm, ⟨23, _⟩ => ⟨S2x1024x320, .f32⟩
  | .hbm, ⟨24, _⟩ => ⟨S2x1024x320, .f32⟩
  | .hbm, ⟨25, _⟩ => ⟨S2x1024x320, .f32⟩
  | .hbm, ⟨26, _⟩ => ⟨S_, .f32⟩
  | .hbm, ⟨27, _⟩ => ⟨S2x1024x320, .f32⟩
  | .hbm, ⟨28, _⟩ => ⟨S2x1024x320, .f32⟩
  | .hbm, ⟨29, _⟩ => ⟨S2x1024x320, .f32⟩
  | .hbm, ⟨30, _⟩ => ⟨S_, .f32⟩
  | .hbm, ⟨31, _⟩ => ⟨S2x1024x320, .f32⟩
  | .hbm, ⟨32, _⟩ => ⟨S2x1024x320, .f32⟩
  | .hbm, ⟨33, _⟩ => ⟨S2x1024x320, .f32⟩
  | .hbm, ⟨34, _⟩ => ⟨S_, .f32⟩
  | .hbm, ⟨35, _⟩ => ⟨S2x1024x320, .f32⟩
  | .hbm, ⟨36, _⟩ => ⟨S2x1024x320, .f32⟩
  | _, _ => ⟨S2x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMemory.lean ====
abbrev S2x1024x512 : Shape := ⟨3, ![2, 1024, 512]⟩
abbrev S1x1024x512 : Shape := ⟨3, ![1, 1024, 512]⟩
abbrev S1024x512 : Shape := ⟨2, ![1024, 512]⟩
abbrev S512x1024 : Shape := ⟨2, ![512, 1024]⟩
abbrev S1x256x512 : Shape := ⟨3, ![1, 256, 512]⟩
abbrev S512x256 : Shape := ⟨2, ![512, 256]⟩
abbrev S256x512 : Shape := ⟨2, ![256, 512]⟩

abbrev nBuf : Space → Nat
  | .hbm => 18
  | .vmem => 32
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S1x1024x512, .f32⟩
  | .hbm, ⟨5, _⟩ => ⟨S1024x512, .f32⟩
  | .hbm, ⟨6, _⟩ => ⟨S512x1024, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S1x1024x512, .f32⟩
  | .hbm, ⟨12, _⟩ => ⟨S1024x512, .f32⟩
  | .hbm, ⟨13, _⟩ => ⟨S512x1024, .f32⟩
  | .hbm, ⟨14, _⟩ => ⟨S2x1024x512, .f32⟩
  | .hbm, ⟨15, _⟩ => ⟨S2x1024x512, .f32⟩
  | .hbm, ⟨16, _⟩ => ⟨S2x1024x512, .f32⟩
  | .hbm, ⟨17, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S512x256, .f32⟩
  | .local _ .vmem, ⟨3, _⟩ => ⟨S512x256, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S512x256, .f32⟩
  | .local _ .vmem, ⟨19, _⟩ => ⟨S512x256, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamMemoryIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamMemoryRefIdeal.lean ====
abbrev S2x1024x512 : Shape := ⟨3, ![2, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Ffn.Run.lean ====
/-
  The run of the feed-forward block's calls: every array that the program holds ends as the fold over its calls says.
-/
module

public import proofs.«01_k».proof.Proof.Gen.FfnIdeal.Frame

@[expose] public section

set_option maxRecDepth 16384

noncomputable section

namespace Cert.Ffn.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every weakly fair execution ends, and every array that outlives the calls then holds what the fold says. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.Ffn.Hand
end
-- ==== Proof.Stages.lean ====
/-
  What the single stages of the training step compute, as functions of whole arrays of extended reals.
-/
module

public import Idealize.ShloMosaic.PureOps
public import Idealize.ShloMosaic.PureOps.Ideal
public import Idealize.ShloMosaic.Lib.Pointwise

@[expose] public section

noncomputable section

open Idealize.ShloMosaic

namespace Cert.Hand

/-- The shape of a matrix. -/
abbrev Mat (n d : ℕ) : Shape := ⟨2, ![n, d]⟩

variable {n m d : ℕ}

/-- The reciprocal root mean square of a row; `w` is the row's length as the programs write it. -/
def inv (w : EReal) (x : FVec Ideal (Mat n d) .f32) (i : Fin n) : EReal :=
  Ideal.rsqrt (Ideal.div (∑ k : Fin d, x (ix2 i k) * x (ix2 i k)) w + Ideal.ofBits FTy.f32 0x358637BD#32)

/-- Root-mean-square normalisation of every row, times the gain. -/
def rms (w : EReal) (x : FVec Ideal (Mat n d) .f32) (g : FVec Ideal (Mat 1 d) .f32) : FVec Ideal (Mat n d) .bf16 :=
  fun j => x j * inv w x (j 0) * g (ix2 0 (j 1))

/-- Rows times rows. -/
def nt {φ ψ χ : FTy} (a : FVec Ideal (Mat n d) φ) (b : FVec Ideal (Mat m d) ψ) : FVec Ideal (Mat n m) χ :=
  fun j => ∑ k : Fin d, a (ix2 (j 0) k) * b (ix2 (j 1) k)

/-- Rows times columns. -/
def nn {φ ψ χ : FTy} (a : FVec Ideal (Mat n m) φ) (b : FVec Ideal (Mat m d) ψ) : FVec Ideal (Mat n d) χ :=
  fun j => ∑ k : Fin m, a (ix2 (j 0) k) * b (ix2 k (j 1))

/-- Columns times columns: a weight's gradient. -/
def tn {φ ψ χ : FTy} (a : FVec Ideal (Mat n m) φ) (b : FVec Ideal (Mat n d) ψ) : FVec Ideal (Mat m d) χ :=
  fun j => ∑ t : Fin n, a (ix2 t (j 0)) * b (ix2 t (j 1))

/-- One half, as the programs write it. -/
abbrev half : EReal := Ideal.ofBits FTy.f32 0x3F000000#32

/-- The logistic function as the kernel writes it. -/
abbrev sig (a : EReal) : EReal := half * (Ideal.tanh (half * a) + 1)

/-- The gated product of two projections. -/
def gated (a b : FVec Ideal (Mat n m) .bf16) : FVec Ideal (Mat n m) .bf16 := fun j => a j * sig (a j) * b j

/-- The gradient of the gate's argument, from the gradient `ds` of the gated product. -/
def gateArg (ds : FVec Ideal (Mat n m) .f32) (a b : FVec Ideal (Mat n m) .bf16) : FVec Ideal (Mat n m) .bf16 :=
  fun j => ds j * b j * (sig (a j) * (1 + a j * (1 - sig (a j))))

/-- The gradient of the gated factor. -/
def gateVal (ds : FVec Ideal (Mat n m) .f32) (a : FVec Ideal (Mat n m) .bf16) : FVec Ideal (Mat n m) .bf16 := fun j => ds j * (a j * sig (a j))

/-- The gradient of the normalisation's argument plus what came along the residual. -/
def rmsArg (w : EReal) (x : FVec Ideal (Mat n d) .f32) (g : FVec Ideal (Mat 1 d) .f32) (dh dres : FVec Ideal (Mat n d) .f32) : FVec Ideal (Mat n d) .f32 :=
  fun j => inv w x (j 0) * (dh j * g (ix2 0 (j 1)) - x j * inv w x (j 0) *
    Ideal.div (∑ k : Fin d, dh (ix2 (j 0) k) * g (ix2 0 k) * (x (ix2 (j 0) k) * inv w x (j 0))) w) + dres j

/-- The gradient of the normalisation's gain. -/
def rmsGain (w : EReal) (x : FVec Ideal (Mat n d) .f32) (dh : FVec Ideal (Mat n d) .f32) : FVec Ideal (Mat 1 d) .f32 :=
  fun j => ∑ i : Fin n, dh (ix2 i (j 1)) * (x (ix2 i (j 1)) * inv w x i)

end Cert.Hand
end
-- ==== Proof.Ffn.Tiled.lean ====
/-
  The feed-forward block's calls, one by one: the array that each leaves, as a function of the arrays that it finds.
-/
module

public import proofs.«01_k».proof.Proof.Gen.FfnIdeal.Frame.Region0
public import proofs.«01_k».proof.Proof.Gen.FfnIdeal.Frame.Region1
public import proofs.«01_k».proof.Proof.Gen.FfnIdeal.Frame.Region2
public import proofs.«01_k».proof.Proof.Gen.FfnIdeal.Frame.Region4
public import proofs.«01_k».proof.Proof.Stages
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn.Hand

open Cert.FfnIdeal Cert.FfnIdeal.Gen Cert.Hand

/-- The row length of the model's width, as the programs write it. -/
abbrev w1024 : EReal := Ideal.ofBits FTy.f32 0x44800000#32

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem final0_2 (c : Dev nD) : (dat0 (F := Ideal) V c).arrAt 2 cfg0.N = rms w1024 (V c (Pipeline.arrRef spec0 0)) (V c (Pipeline.arrRef spec0 1)) := by
  refine (dat0 V c).arrAt_eq_of_covers 2 _ (by decide +kernel) fun t _ y => ?_
  blk_simp
  rw [after0_2]; frame_out
  pointwise [k0_pay1, rms, Hand.inv]
  blk_point [iblk0, idx0 t]

theorem idx1 : ∀ t : Fin cfg1.N, win1_0.index t = ![t.val % 16, 0] ∧ win1_1.index t = ![t.val / 16, 0] ∧ win1_2.index t = ![t.val / 16, 0]
    ∧ win1_3.index t = ![t.val % 16, t.val / 16] ∧ win1_4.index t = ![t.val % 16, t.val / 16] ∧ win1_5.index t = ![t.val % 16, t.val / 16] :=
  (by decide +kernel : ∀ t : Fin grid1.N, _)

theorem final1_3 (c : Dev nD) : (dat1 (F := Ideal) V c).arrAt 3 cfg1.N = nt (φ := .bf16) (ψ := .bf16) (χ := .bf16) (V c (Pipeline.arrRef spec1 0)) (V c (Pipeline.arrRef spec1 1)) := by
  refine (dat1 V c).arrAt_eq_of_covers 3 _ (by decide +kernel) fun t _ y => ?_
  blk_simp
  rw [after1_3]; frame_out
  pointwise [k1_pay4, k1_pay2, k1_pay1, Hand.nt]
  blk_point [iblk1, idx1 t]

theorem final1_4 (c : Dev nD) : (dat1 (F := Ideal) V c).arrAt 4 cfg1.N = nt (φ := .bf16) (ψ := .bf16) (χ := .bf16) (V c (Pipeline.arrRef spec1 0)) (V c (Pipeline.arrRef spec1 2)) := by
  refine (dat1 V c).arrAt_eq_of_covers 4 _ (by decide +kernel) fun t _ y => ?_
  blk_simp
  rw [after1_4]; frame_out
  pointwise [k1_pay5, k1_pay3, k1_pay1, Hand.nt]
  blk_point [iblk1, idx1 t]

theorem final1_5 (c : Dev nD) : (dat1 (F := Ideal) V c).arrAt 5 cfg1.N = gated (nt (φ := .bf16) (ψ := .bf16) (V c (Pipeline.arrRef spec1 0)) (V c (Pipeline.arrRef spec1 1)))
    (nt (φ := .bf16) (ψ := .bf16) (V c (Pipeline.arrRef spec1 0)) (V c (Pipeline.arrRef spec1 2))) := by
  refine (dat1 V c).arrAt_eq_of_covers 5 _ (by decide +kernel) fun t _ y => ?_
  blk_simp
  rw [after1_5]; frame_out
  pointwise [k1_pay6, k1_pay3, k1_pay2, k1_pay1, Hand.gated, Hand.nt, Hand.sig]
  blk_point [iblk1, idx1 t]

theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)

theorem final2_3 (c : Dev nD) : (dat2 (F := Ideal) V c).arrAt 3 cfg2.N
    = fun j => (show FVec Ideal S8192x1024 .f32 from V c (Pipeline.arrRef spec2 2)) j + half * nn (n := 8192) (m := 2816) (d := 1024) (φ := .bf16) (ψ := .bf16) (χ := .f32) (V c (Pipeline.arrRef spec2 0)) (V c (Pipeline.arrRef spec2 1)) j := by
  refine (dat2 V c).arrAt_eq_of_covers 3 _ (by decide +kernel) fun t _ y => ?_
  blk_simp
  rw [after2_3]; frame_out
  pointwise [k2_pay1, Hand.nn]
  blk_point [iblk2, idx2 t]

theorem idx4 : ∀ t : Fin cfg4.N, win4_0.index t = ![t.val % 16, 0] ∧ win4_1.index t = ![t.val / 16, 0] ∧ win4_2.index t = ![t.val % 16, t.val / 16]
    ∧ win4_3.index t = ![t.val % 16, t.val / 16] ∧ win4_4.index t = ![t.val % 16, t.val / 16] ∧ win4_5.index t = ![t.val % 16, t.val / 16] :=
  (by decide +kernel : ∀ t : Fin grid4.N, _)

theorem final4_4 (c : Dev nD) : (dat4 (F := Ideal) V c).arrAt 4 cfg4.N
    = gateArg (nt (φ := .bf16) (ψ := .bf16) (V c (Pipeline.arrRef spec4 0)) (V c (Pipeline.arrRef spec4 1))) (V c (Pipeline.arrRef spec4 2)) (V c (Pipeline.arrRef spec4 3)) := by
  refine (dat4 V c).arrAt_eq_of_covers 4 _ (by decide +kernel) fun t _ y => ?_
  blk_simp
  rw [after4_4]; frame_out
  pointwise [k4_pay4, k4_pay3, k4_pay2, k4_pay1, Hand.gateArg, Hand.nt, Hand.sig]
  blk_point [iblk4, idx4 t]

theorem final4_5 (c : Dev nD) : (dat4 (F := Ideal) V c).arrAt 5 cfg4.N
    = gateVal (nt (φ := .bf16) (ψ := .bf16) (V c (Pipeline.arrRef spec4 0)) (V c (Pipeline.arrRef spec4 1))) (V c (Pipeline.arrRef spec4 2)) := by
  refine (dat4 V c).arrAt_eq_of_covers 5 _ (by decide +kernel) fun t _ y => ?_
  blk_simp
  rw [after4_5]; frame_out
  pointwise [k4_pay5, k4_pay3, k4_pay2, k4_pay1, Hand.gateVal, Hand.nt, Hand.sig]
  blk_point [iblk4, idx4 t]

end Cert.Ffn.Hand
end
-- ==== Proof.Ffn.Sums.lean ====
/-
  The feed-forward block's weight gradients: each is a sum over the row blocks, one run of points for each block of rows of the result.
-/
module

public import proofs.«01_k».proof.Proof.Gen.FfnIdeal.Frame.Region3
public import proofs.«01_k».proof.Proof.Gen.FfnIdeal.Frame.Region5
public import proofs.«01_k».proof.Proof.Gen.FfnIdeal.Frame.Region6
public import proofs.«01_k».proof.Proof.Stages
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn.Hand

open Cert.FfnIdeal Cert.FfnIdeal.Gen Cert.Hand

variable (V : (c : Dev nD) → (b : Ref sig .tc) → Buf (Elt Ideal) ((c : Thread nD τ).loc b))

/-- A weight gradient's block of rows starts at zero. -/
theorem zero3 (j) : k3_pay1 (F := Ideal) j = 0 := by pointwise [k3_pay1]

/-- One point adds the product of its row blocks. -/
theorem pay3 (a b acc j) : k3_pay2 (F := Ideal) a b acc j = acc j + ∑ k : Fin 1024, a (ix2 k (j 0)) * b (ix2 k (j 1)) := by
  pointwise [k3_pay2]

theorem idx3 : ∀ t : Fin cfg3.N, win3_0.index t = ![t.val % 8, t.val / 8] ∧ win3_1.index t = ![t.val % 8, 0] ∧ win3_2.index t = ![t.val / 8, 0] :=
  (by decide +kernel : ∀ t : Fin grid3.N, _)

theorem final3_2 (c : Dev nD) : (dat3 (F := Ideal) V c).arrAt 2 cfg3.N = tn (φ := .bf16) (ψ := .bf16) (χ := .f32) (V c (Pipeline.arrRef spec3 0)) (V c (Pipeline.arrRef spec3 1)) := by
  refine (dat3 V c).arrAt_eq_of_covers 2 _ (by decide +kernel) fun t hf y => ?_
  blk_simp
  rw [after3_2, Pipeline.eq_sum_fin_of_reset_step_apply_of_flush (fun n h => outsAt3 V c n h) 8 (fun _ => 0) _
    (fun t h j => by rw [outsAt3_A V c t h]; frame_out; rw [pay3, zero3]) (fun t h j => by rw [outsAt3_B V c t h]; frame_out; rw [pay3])
    t ((flush3_2 t).mp hf) _, zero_add]
  unfold Hand.tn
  refine Fin.sum_mul_add_congr fun s k hl => ?_
  blk_point [iblk3, idx3 t, idx3 ⟨_, Pipeline.run_point_lt_of_flush t ((flush3_2 t).mp hf) s⟩]

theorem zero5 (j) : k5_pay1 (F := Ideal) j = 0 := zero3 j

theorem pay5 (a b acc j) : k5_pay2 (F := Ideal) a b acc j = acc j + ∑ k : Fin 1024, a (ix2 k (j 0)) * b (ix2 k (j 1)) := pay3 a b acc j

theorem idx5 : ∀ t : Fin cfg5.N, win5_0.index t = ![t.val % 8, t.val / 8] ∧ win5_1.index t = ![t.val % 8, 0] ∧ win5_2.index t = ![t.val / 8, 0] :=
  (by decide +kernel : ∀ t : Fin grid5.N, _)

theorem final5_2 (c : Dev nD) : (dat5 (F := Ideal) V c).arrAt 2 cfg5.N = tn (φ := .bf16) (ψ := .bf16) (χ := .f32) (V c (Pipeline.arrRef spec5 0)) (V c (Pipeline.arrRef spec5 1)) := by
  refine (dat5 V c).arrAt_eq_of_covers 2 _ (by decide +kernel) fun t hf y => ?_
  blk_simp
  rw [after5_2, Pipeline.eq_sum_fin_of_reset_step_apply_of_flush (fun n h => outsAt5 V c n h) 8 (fun _ => 0) _
    (fun t h j => by rw [outsAt5_A V c t h]; frame_out; rw [pay5, zero5]) (fun t h j => by rw [outsAt5_B V c t h]; frame_out; rw [pay5])
    t ((flush5_2 t).mp hf) _, zero_add]
  unfold Hand.tn
  refine Fin.sum_mul_add_congr fun s k hl => ?_
  blk_point [iblk5, idx5 t, idx5 ⟨_, Pipeline.run_point_lt_of_flush t ((flush5_2 t).mp hf) s⟩]

theorem zero6 (j) : k6_pay1 (F := Ideal) j = 0 := zero3 j

theorem pay6 (a b acc j) : k6_pay2 (F := Ideal) a b acc j = acc j + ∑ k : Fin 1024, a (ix2 k (j 0)) * b (ix2 k (j 1)) := pay3 a b acc j

theorem idx6 : ∀ t : Fin cfg6.N, win6_0.index t = ![t.val % 8, t.val / 8] ∧ win6_1.index t = ![t.val % 8, 0] ∧ win6_2.index t = ![t.val / 8, 0] :=
  (by decide +kernel : ∀ t : Fin grid6.N, _)

theorem final6_2 (c : Dev nD) : (dat6 (F := Ideal) V c).arrAt 2 cfg6.N = tn (φ := .bf16) (ψ := .bf16) (χ := .f32) (V c (Pipeline.arrRef spec6 0)) (V c (Pipeline.arrRef spec6 1)) := by
  refine (dat6 V c).arrAt_eq_of_covers 2 _ (by decide +kernel) fun t hf y => ?_
  blk_simp
  rw [after6_2, Pipeline.eq_sum_fin_of_reset_step_apply_of_flush (fun n h => outsAt6 V c n h) 8 (fun _ => 0) _
    (fun t h j => by rw [outsAt6_A V c t h]; frame_out; rw [pay6, zero6]) (fun t h j => by rw [outsAt6_B V c t h]; frame_out; rw [pay6])
    t ((flush6_2 t).mp hf) _, zero_add]
  unfold Hand.tn
  refine Fin.sum_mul_add_congr fun s k hl => ?_
  blk_point [iblk6, idx6 t, idx6 ⟨_, Pipeline.run_point_lt_of_flush t ((flush6_2 t).mp hf) s⟩]

end Cert.Ffn.Hand
end
-- ==== Proof.Ffn.Back.lean ====
/-
  The last call of the feed-forward block's backward pass: the gradient of the normalisation's argument and of its gain.
-/
module

public import proofs.«01_k».proof.Proof.Gen.FfnIdeal.Frame.Region7
public import proofs.«01_k».proof.Proof.Stages
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn.Hand

open Cert.FfnIdeal Cert.FfnIdeal.Gen Cert.Hand

variable (V : (c : Dev nD) → (b : Ref sig .tc) → Buf (Elt Ideal) ((c : Thread nD τ).loc b))

/-- The row length of the model's width, as the programs write it. -/
abbrev w7 : EReal := Ideal.ofBits FTy.f32 0x44800000#32

theorem idx7 : ∀ t : Fin cfg7.N, win7_0.index t = ![t.val, 0] ∧ win7_1.index t = ![t.val, 0] ∧ win7_2.index t = ![0, 0] ∧ win7_3.index t = ![0, 0]
    ∧ win7_4.index t = ![t.val, 0] ∧ win7_5.index t = ![0, 0] ∧ win7_6.index t = ![t.val, 0] ∧ win7_7.index t = ![t.val, 0] ∧ win7_8.index t = ![0, 0] :=
  (by decide +kernel : ∀ t : Fin grid7.N, _)

/-- The gradient of the normalised rows: both projections' gradients go back through their weights. -/
def back (da db : FVec Ideal (Mat 8192 2816) .bf16) (wg wu : FVec Ideal (Mat 2816 1024) .bf16) : FVec Ideal (Mat 8192 1024) .f32 :=
  fun j => (∑ k : Fin 2816, da (ix2 (j 0) k) * wg (ix2 k (j 1))) + ∑ k : Fin 2816, db (ix2 (j 0) k) * wu (ix2 k (j 1))

theorem final7_7 (c : Dev nD) : (dat7 (F := Ideal) V c).arrAt 7 cfg7.N = rmsArg w7 (V c (Pipeline.arrRef spec7 4)) (V c (Pipeline.arrRef spec7 5))
    (back (V c (Pipeline.arrRef spec7 0)) (V c (Pipeline.arrRef spec7 1)) (V c (Pipeline.arrRef spec7 2)) (V c (Pipeline.arrRef spec7 3)))
    (V c (Pipeline.arrRef spec7 6)) := by
  refine (dat7 V c).arrAt_eq_of_covers 7 _ (by decide +kernel) fun t _ y => ?_
  blk_simp
  rw [after7_7]
  by_cases h : t.val % 32 = 0
  · rw [outsAt7_A V c t h]; frame_out
    pointwise [k7_pay6, k7_pay5, k7_pay4, k7_pay3, rmsArg, back, Hand.inv]
    blk_point [iblk7, idx7 t]
  · rw [outsAt7_B V c t h]; frame_out
    pointwise [k7_pay6, k7_pay5, k7_pay4, k7_pay3, rmsArg, back, Hand.inv]
    blk_point [iblk7, idx7 t]

theorem zero7 (j) : k7_pay1 (F := Ideal) j = 0 := by pointwise [k7_pay1]

/-- One point adds its rows' share of the gain's gradient. -/
theorem pay7 (v0 v2 v5 v7 v11 acc j) : k7_pay2 (F := Ideal) (k7_pay3 v0 v2 v5 v7) (k7_pay5 v11) acc j = acc j + ∑ i : Fin 256,
    ((∑ k : Fin 2816, v0 (ix2 i k) * v2 (ix2 k (j 1))) + ∑ k : Fin 2816, v5 (ix2 i k) * v7 (ix2 k (j 1))) *
      (v11 (ix2 i (j 1)) * Ideal.rsqrt (Ideal.div (∑ k : Fin 1024, v11 (ix2 i k) * v11 (ix2 i k)) w7 + Ideal.ofBits FTy.f32 0x358637BD#32)) := by
  pointwise [k7_pay2, k7_pay3, k7_pay5, k7_pay4]

theorem final7_8 (c : Dev nD) : (dat7 (F := Ideal) V c).arrAt 8 cfg7.N = rmsGain w7 (V c (Pipeline.arrRef spec7 4))
    (back (V c (Pipeline.arrRef spec7 0)) (V c (Pipeline.arrRef spec7 1)) (V c (Pipeline.arrRef spec7 2)) (V c (Pipeline.arrRef spec7 3))) := by
  refine (dat7 V c).arrAt_eq_of_covers 8 _ (by decide +kernel) fun t hf y => ?_
  blk_simp
  rw [after7_8, Pipeline.eq_sum_fin_of_reset_step_apply_of_flush (fun n h => (outsAt7 V c n h).2) 32 (fun _ => 0) _
    (fun t h j => by rw [outsAt7_A V c t h]; frame_out; rw [pay7, zero7]) (fun t h j => by rw [outsAt7_B V c t h]; frame_out; rw [pay7])
    t ((flush7_8 t).mp hf) _, zero_add]
  unfold Hand.rmsGain
  refine Fin.sum_mul_add_congr fun s k hl => ?_
  unfold back Hand.inv
  blk_point [iblk7, idx7 t, idx7 ⟨_, Pipeline.run_point_lt_of_flush t ((flush7_8 t).mp hf) s⟩]

end Cert.Ffn.Hand
end
-- ==== Proof.Reals.lean ====
/-
  Reals inside the extended reals: finite sums of real numbers, the literals that the programs use, what a printed test
  "every element is finite" says, and the two spellings of the logistic function.
-/
module

public import Idealize.ShloMosaic.PureOps
public import Idealize.ShloMosaic.PureOps.Ideal
public import Idealize.ShloMosaic.Lib.ReduceAll
public import Idealize.ShloMosaic.Lib.Pointwise

@[expose] public section

noncomputable section

open Idealize.ShloMosaic

namespace Cert.Hand

/-- A sum of reals, taken in the extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The `f32` word of one half. -/
theorem half_f32 : Ideal.ofBits FTy.f32 (0x3F000000#32) = ((1 / 2 : ℝ) : EReal) := by
  simp [Ideal.ofBits, Ideal.ieee]
  rw [← EReal.coe_mul]
  norm_num

/-- The `f32` word of plus infinity. -/
theorem top_f32 : Ideal.ofBits FTy.f32 (0x7F800000#32) = ⊤ := by
  simp [Ideal.ofBits, Ideal.ieee]

/-- The `bf16` word of plus infinity. -/
theorem top_bf16 : Ideal.ofBits FTy.bf16 (0x7F80#16) = ⊤ := by
  simp [Ideal.ofBits, Ideal.ieee]

/-- An extended real whose absolute value is below infinity is a real. -/
theorem real_of_abs_lt {x : EReal} (h : max x (-x) < ⊤) : ∃ r : ℝ, x = (r : EReal) := by
  rcases lt_or_ge x ⊤ with h1 | h1
  · induction x using EReal.rec with
    | bot => simp at h
    | coe r => exact ⟨r, rfl⟩
    | top => simp at h1
  · rw [top_le_iff] at h1; subst h1; simp at h

/-- The rank-0 shape of a printed truth value. -/
abbrev S0 : Shape := ⟨0, ![]⟩

instance : Subsingleton S0.Idx := ⟨fun a b => funext fun i => i.elim0⟩

/-- What `jnp.all(jnp.abs(x) < jnp.inf)` says: every element of `x` is a real. -/
theorem reals_of_all {s : Shape} {φ : FTy} {axes : List (Fin s.rank)} (b : BitVec φ.bits) (hb : Ideal.ofBits φ b = ⊤) (x : FVec Ideal s φ)
    (init : IVec S0 1) (d : Fin S0.rank → Fin s.rank) (hc : S0.BroadcastsInDim s d) (h : s.ReducesTo axes S0) (hu : 0 < S0.numel) (j : S0.Idx)
    (e : Host.reduce IntOp.andi (cmpf .olt (Host.absf x) (broadcastInDim s d hc (constant S0 φ b))) init h hu j = 1#1) :
    ∃ f : s.Idx → ℝ, x = fun i => ((f i : ℝ) : EReal) := by
  have key : ∀ i, ∃ r : ℝ, (x i : EReal) = (r : EReal) := fun i => by
    have h1 := Host.reduce_andi_all _ _ h hu j e i
    refine real_of_abs_lt ?_
    have h2 : Ideal.cmp .olt (max (x i : EReal) (-(x i : EReal))) (Ideal.ofBits φ b) = 1#1 := h1
    rw [hb] at h2
    by_contra hn
    simp [Ideal.cmp, hn] at h2
  choose f hf using key
  exact ⟨f, funext hf⟩

/-- The logistic function through the hyperbolic tangent and through the exponential are one real function. -/
theorem logistic_tanh (a : ℝ) : (1 / 2 : ℝ) * (Real.tanh (1 / 2 * a) + 1) = 1 / (1 + Real.exp (-a)) := by
  rw [Real.tanh_eq_sinh_div_cosh, Real.sinh_eq, Real.cosh_eq]
  have h1 : Real.exp (-a) = Real.exp (-(1 / 2 * a)) * Real.exp (-(1 / 2 * a)) := by rw [← Real.exp_add]; congr 1; ring
  have h2 : Real.exp (1 / 2 * a) * Real.exp (-(1 / 2 * a)) = 1 := by rw [← Real.exp_add]; simp
  rw [h1]
  have p1 := Real.exp_pos (1 / 2 * a)
  have p2 := Real.exp_pos (-(1 / 2 * a))
  generalize Real.exp (1 / 2 * a) = u at *
  generalize Real.exp (-(1 / 2 * a)) = w at *
  have hw : w = u⁻¹ := by field_simp; linarith
  subst hw
  field_simp
  ring

/-- A quotient of reals with a nonzero divisor. -/
theorem div_real (x y : ℝ) (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

/-- The kernel's logistic of a real. -/
theorem sig_kernel (a : ℝ) : ((1 / 2 : ℝ) : EReal) * (Ideal.tanh (((1 / 2 : ℝ) : EReal) * (a : EReal)) + 1) = ((1 / (1 + Real.exp (-a)) : ℝ) : EReal) := by
  rw [← EReal.coe_mul]
  show ((1 / 2 : ℝ) : EReal) * (((Real.tanh (1 / 2 * a) : ℝ) : EReal) + ((1 : ℝ) : EReal)) = _
  rw [← EReal.coe_add, ← EReal.coe_mul, logistic_tanh]

/-- The reference's logistic of a real. -/
theorem sig_host (a : ℝ) : Ideal.div 1 (1 + Ideal.exp (-(a : EReal))) = ((1 / (1 + Real.exp (-a)) : ℝ) : EReal) := by
  rw [← EReal.coe_neg]
  show Ideal.div ((1 : ℝ) : EReal) (((1 : ℝ) : EReal) + ((Real.exp (-a) : ℝ) : EReal)) = _
  rw [← EReal.coe_add, div_real _ _ (by positivity)]

end Cert.Hand
end
-- ==== Proof.RealStages.lean ====
/-
  The stages of the training step over real numbers, and that the stages over extended reals, given arrays of reals,
  leave the arrays of these reals.
-/
module

public import proofs.«01_k».proof.Proof.Reals
public import proofs.«01_k».proof.Proof.Stages

@[expose] public section

noncomputable section

open Idealize.ShloMosaic

namespace Cert.Hand

variable {n m d : ℕ}

/-- A real matrix as an array of extended reals. -/
def cm {φ : FTy} (f : Fin n → Fin d → ℝ) : FVec Ideal (Mat n d) φ := fun j => ((f (j 0) (j 1) : ℝ) : EReal)

/-- A real vector as an array of extended reals. -/
def cv {φ : FTy} (f : Fin n → ℝ) : FVec Ideal ⟨1, ![n]⟩ φ := fun j => ((f (j 0) : ℝ) : EReal)

theorem cm_at {φ : FTy} (f : Fin n → Fin d → ℝ) (i : Fin n) (k : Fin d) : cm (φ := φ) f (ix2 i k) = ((f i k : ℝ) : EReal) := rfl

theorem cv_at {φ : FTy} (f : Fin n → ℝ) (i : Fin n) : cv (φ := φ) f (ix1 i) = ((f i : ℝ) : EReal) := rfl

/-- An array is that of a real matrix if its elements are. -/
theorem eq_cm {φ : FTy} {A : FVec Ideal (Mat n d) φ} {f : Fin n → Fin d → ℝ} (h : ∀ i k, A (ix2 i k) = ((f i k : ℝ) : EReal)) : A = cm f := by
  funext j
  have e : j = ix2 (n0 := n) (n1 := d) (j 0) (j 1) := by funext a; fin_cases a <;> rfl
  rw [e]
  exact h _ _

/-- An array is that of a real vector if its elements are. -/
theorem eq_cv {φ : FTy} {A : FVec Ideal ⟨1, ![n]⟩ φ} {f : Fin n → ℝ} (h : ∀ i, A (ix1 i) = ((f i : ℝ) : EReal)) : A = cv f := by
  funext j
  have e : j = ix1 (j 0) := by funext a; fin_cases a; rfl
  rw [e]
  exact h _

/-- An array of reals is the array of its matrix of reals. -/
theorem exists_cm {φ : FTy} (x : FVec Ideal (Mat n d) φ) (h : ∃ f : (Mat n d).Idx → ℝ, x = fun i => ((f i : ℝ) : EReal)) :
    ∃ f : Fin n → Fin d → ℝ, x = cm f := by
  obtain ⟨f, rfl⟩ := h
  refine ⟨fun i k => f (ix2 i k), funext fun j => ?_⟩
  show ((f j : ℝ) : EReal) = ((f (ix2 (j 0) (j 1)) : ℝ) : EReal)
  congr 2
  funext a
  fin_cases a <;> rfl

/-- An array of reals is the array of its vector of reals. -/
theorem exists_cv {φ : FTy} (x : FVec Ideal ⟨1, ![n]⟩ φ) (h : ∃ f : (⟨1, ![n]⟩ : Shape).Idx → ℝ, x = fun i => ((f i : ℝ) : EReal)) :
    ∃ f : Fin n → ℝ, x = cv f := by
  obtain ⟨f, rfl⟩ := h
  refine ⟨fun i => f (ix1 i), funext fun j => ?_⟩
  show ((f j : ℝ) : EReal) = ((f (ix1 (j 0)) : ℝ) : EReal)
  congr 2
  funext a
  fin_cases a; rfl

/-- The number that the normalisation adds to the mean square. -/
def eps : ℝ := 8796093 / 2 ^ 43

theorem eps_pos : 0 < eps := by unfold eps; positivity

/-- Its `f32` word. -/
theorem eps_f32 : Ideal.ofBits FTy.f32 (0x358637BD#32) = ((eps : ℝ) : EReal) := by
  simp [Ideal.ofBits, Ideal.ieee, eps]
  rw [← EReal.coe_mul]
  norm_num

/-- The `f32` word of 1024. -/
theorem w1024_f32 : Ideal.ofBits FTy.f32 (0x44800000#32) = ((1024 : ℝ) : EReal) := by
  simp [Ideal.ofBits, Ideal.ieee]
  rw [← EReal.coe_mul]
  norm_num

/-- The `f32` word of minus one half. -/
theorem neghalf_f32 : Ideal.ofBits FTy.f32 (0xBF000000#32) = ((-(1 / 2) : ℝ) : EReal) := by
  simp [Ideal.ofBits, Ideal.ieee]
  rw [← EReal.coe_mul]
  norm_num

/-- The reciprocal square root of a positive real. -/
theorem rsqrt_real (r : ℝ) (h : 0 < r) : Ideal.rsqrt (r : EReal) = (((√r)⁻¹ : ℝ) : EReal) := by
  show (if r < 0 then ⊥ else if r = 0 then ⊤ else ((((√r)⁻¹ : ℝ)) : EReal)) = _
  rw [if_neg (not_lt.2 h.le), if_neg h.ne']

/-- The mean square of a row, plus the small number. -/
def msq (x : Fin n → Fin 1024 → ℝ) (i : Fin n) : ℝ := (∑ k : Fin 1024, x i k * x i k) / 1024 + eps

theorem msq_pos (x : Fin n → Fin 1024 → ℝ) (i : Fin n) : 0 < msq x i :=
  add_pos_of_nonneg_of_pos (div_nonneg (Finset.sum_nonneg fun k _ => mul_self_nonneg _) (by norm_num)) eps_pos

/-- The reciprocal root mean square of a row. -/
def rinv (x : Fin n → Fin 1024 → ℝ) (i : Fin n) : ℝ := (√(msq x i))⁻¹

theorem rinv_sq (x : Fin n → Fin 1024 → ℝ) (i : Fin n) : rinv x i / msq x i = rinv x i * rinv x i * rinv x i := by
  have h := msq_pos x i
  have h2 : rinv x i * rinv x i = (msq x i)⁻¹ := by
    rw [rinv, ← mul_inv, Real.mul_self_sqrt h.le]
  rw [h2, div_eq_mul_inv, mul_comm]

/-- The normalised rows times the gain. -/
def rrms (x : Fin n → Fin 1024 → ℝ) (g : Fin 1024 → ℝ) (i : Fin n) (k : Fin 1024) : ℝ := x i k * rinv x i * g k

/-- A product of matrices. -/
def mmul (a : Fin n → Fin m → ℝ) (b : Fin m → Fin d → ℝ) (i : Fin n) (j : Fin d) : ℝ := ∑ k : Fin m, a i k * b k j

/-- A product of matrices whose second is given by its rows. -/
def mmulT (a : Fin n → Fin m → ℝ) (b : Fin d → Fin m → ℝ) (i : Fin n) (j : Fin d) : ℝ := ∑ k : Fin m, a i k * b j k

/-- A product of matrices whose first is given by its columns. -/
def tmul (a : Fin n → Fin m → ℝ) (b : Fin n → Fin d → ℝ) (i : Fin m) (j : Fin d) : ℝ := ∑ t : Fin n, a t i * b t j

/-- The logistic function. -/
def rsig (t : ℝ) : ℝ := 1 / (1 + Real.exp (-t))

/-- The gradient of the normalisation's argument plus what came along the residual. -/
def rrmsArg (x : Fin n → Fin 1024 → ℝ) (g : Fin 1024 → ℝ) (dh dres : Fin n → Fin 1024 → ℝ) (i : Fin n) (k : Fin 1024) : ℝ :=
  rinv x i * (dh i k * g k - x i k * rinv x i * ((∑ l : Fin 1024, dh i l * g l * (x i l * rinv x i)) / 1024)) + dres i k

/-- The gradient of the normalisation's gain. -/
def rrmsGain (x dh : Fin n → Fin 1024 → ℝ) (k : Fin 1024) : ℝ := ∑ i : Fin n, dh i k * (x i k * rinv x i)

/-! ## The stages, given arrays of reals -/

/-- The row of gains as a one-row matrix. -/
abbrev row (g : Fin d → ℝ) : Fin 1 → Fin d → ℝ := fun _ k => g k

theorem inv_cm (x : Fin n → Fin 1024 → ℝ) (i : Fin n) : inv (Ideal.ofBits FTy.f32 0x44800000#32) (cm x) i = ((rinv x i : ℝ) : EReal) := by
  unfold inv
  simp only [cm_at, ← EReal.coe_mul, sum_coe, w1024_f32, eps_f32]
  rw [div_real _ _ (by norm_num), ← EReal.coe_add]
  exact rsqrt_real _ (msq_pos x i)

theorem rms_cm (x : Fin n → Fin 1024 → ℝ) (g : Fin 1024 → ℝ) : rms (Ideal.ofBits FTy.f32 0x44800000#32) (cm x) (cm (row g)) = cm (rrms x g) := by
  refine eq_cm fun i k => ?_
  show cm (φ := .f32) x (ix2 i k) * inv _ (cm x) i * cm (φ := .f32) (row g) (ix2 0 k) = ((rrms x g i k : ℝ) : EReal)
  rw [inv_cm]
  simp only [cm_at, ← EReal.coe_mul]
  rfl

theorem nt_cm {φ ψ χ : FTy} (a : Fin n → Fin m → ℝ) (b : Fin d → Fin m → ℝ) :
    nt (φ := φ) (ψ := ψ) (χ := χ) (cm a) (cm b) = cm (mmulT a b) := by
  funext j
  simp only [nt, cm, ← EReal.coe_mul, sum_coe]
  rfl

theorem nn_cm {φ ψ χ : FTy} (a : Fin n → Fin m → ℝ) (b : Fin m → Fin d → ℝ) :
    nn (φ := φ) (ψ := ψ) (χ := χ) (cm a) (cm b) = cm (mmul a b) := by
  funext j
  simp only [nn, cm, ← EReal.coe_mul, sum_coe]
  rfl

theorem tn_cm {φ ψ χ : FTy} (a : Fin n → Fin m → ℝ) (b : Fin n → Fin d → ℝ) :
    tn (φ := φ) (ψ := ψ) (χ := χ) (cm a) (cm b) = cm (tmul a b) := by
  funext j
  simp only [tn, cm, ← EReal.coe_mul, sum_coe]
  rfl

theorem sig_real (a : ℝ) : sig (a : EReal) = ((rsig a : ℝ) : EReal) := by
  unfold sig half
  rw [half_f32]
  exact sig_kernel a

theorem gated_cm (a b : Fin n → Fin m → ℝ) : gated (cm a) (cm b) = cm fun i k => a i k * rsig (a i k) * b i k := by
  funext j
  simp only [gated, cm, sig_real, ← EReal.coe_mul]

theorem gateArg_cm (ds a b : Fin n → Fin m → ℝ) :
    gateArg (cm ds) (cm a) (cm b) = cm fun i k => ds i k * b i k * (rsig (a i k) * (1 + a i k * (1 - rsig (a i k)))) := by
  funext j
  simp only [gateArg, cm, sig_real, ← EReal.coe_mul, ← EReal.coe_one, ← EReal.coe_sub, ← EReal.coe_add]

theorem gateVal_cm (ds a : Fin n → Fin m → ℝ) : gateVal (cm ds) (cm a) = cm fun i k => ds i k * (a i k * rsig (a i k)) := by
  funext j
  simp only [gateVal, cm, sig_real, ← EReal.coe_mul]

theorem rmsArg_cm (x : Fin n → Fin 1024 → ℝ) (g : Fin 1024 → ℝ) (dh dres : Fin n → Fin 1024 → ℝ) :
    rmsArg (Ideal.ofBits FTy.f32 0x44800000#32) (cm x) (cm (row g)) (cm dh) (cm dres) = cm (rrmsArg x g dh dres) := by
  refine eq_cm fun i k => ?_
  show inv _ (cm x) i * (cm (φ := .f32) dh (ix2 i k) * cm (φ := .f32) (row g) (ix2 0 k) - cm (φ := .f32) x (ix2 i k) * inv _ (cm x) i *
    Ideal.div (∑ l : Fin 1024, cm (φ := .f32) dh (ix2 i l) * cm (φ := .f32) (row g) (ix2 0 l) * (cm (φ := .f32) x (ix2 i l) * inv _ (cm x) i)) _)
      + cm (φ := .f32) dres (ix2 i k) = ((rrmsArg x g dh dres i k : ℝ) : EReal)
  rw [inv_cm]
  simp only [cm_at, ← EReal.coe_mul, sum_coe, w1024_f32]
  rw [div_real _ _ (by norm_num)]
  simp only [← EReal.coe_mul, ← EReal.coe_sub, ← EReal.coe_add]
  rfl

theorem rmsGain_cm (x dh : Fin n → Fin 1024 → ℝ) :
    rmsGain (Ideal.ofBits FTy.f32 0x44800000#32) (cm x) (cm dh) = cm (row (rrmsGain x dh)) := by
  funext j
  unfold rmsGain
  simp only [inv_cm]
  simp only [cm, ← EReal.coe_mul, sum_coe]
  rfl

end Cert.Hand
end
-- ==== Proof.Ffn.Spec.lean ====
/-
  The feed-forward block over real numbers: its value, and the gradients of its input, its gain and its three weights,
  given the gradient of its value.
-/
module

public import proofs.«01_k».proof.Proof.RealStages

@[expose] public section

noncomputable section

open Idealize.ShloMosaic Cert.Hand

namespace Cert.Ffn.Hand

/-- The block's arguments, and the gradient of its value. -/
structure Args where
  x : Fin 8192 → Fin 1024 → ℝ
  g : Fin 1024 → ℝ
  wg : Fin 1024 → Fin 2816 → ℝ
  wu : Fin 1024 → Fin 2816 → ℝ
  wd : Fin 2816 → Fin 1024 → ℝ
  dout : Fin 8192 → Fin 1024 → ℝ

namespace Args

variable (P : Args)

/-- The normalised rows. -/
def h : Fin 8192 → Fin 1024 → ℝ := rrms P.x P.g
/-- The gate's argument. -/
def a : Fin 8192 → Fin 2816 → ℝ := mmul P.h P.wg
/-- The gated factor. -/
def b : Fin 8192 → Fin 2816 → ℝ := mmul P.h P.wu
/-- The gated product. -/
def s (i : Fin 8192) (k : Fin 2816) : ℝ := P.a i k * rsig (P.a i k) * P.b i k
/-- The block's value: the input plus half the projection back. -/
def y (i : Fin 8192) (k : Fin 1024) : ℝ := P.x i k + 1 / 2 * mmul P.s P.wd i k
/-- The gradient that reaches the projection back. -/
def dy (i : Fin 8192) (k : Fin 1024) : ℝ := 1 / 2 * P.dout i k
/-- The gradient of the gated product. -/
def ds : Fin 8192 → Fin 2816 → ℝ := mmulT P.dy P.wd
/-- The gradient of the gate's argument. -/
def da (i : Fin 8192) (k : Fin 2816) : ℝ := P.ds i k * P.b i k * (rsig (P.a i k) * (1 + P.a i k * (1 - rsig (P.a i k))))
/-- The gradient of the gated factor. -/
def db (i : Fin 8192) (k : Fin 2816) : ℝ := P.ds i k * (P.a i k * rsig (P.a i k))
/-- The gradients of the three weights. -/
def dwd : Fin 2816 → Fin 1024 → ℝ := tmul P.s P.dy
def dwgT : Fin 2816 → Fin 1024 → ℝ := tmul P.da P.h
def dwuT : Fin 2816 → Fin 1024 → ℝ := tmul P.db P.h
def dwg (k : Fin 1024) (n : Fin 2816) : ℝ := P.dwgT n k
def dwu (k : Fin 1024) (n : Fin 2816) : ℝ := P.dwuT n k
/-- The gradient of the normalised rows. -/
def dh (i : Fin 8192) (k : Fin 1024) : ℝ := mmulT P.da P.wg i k + mmulT P.db P.wu i k
/-- The gradient of the input, with what came along the residual. -/
def dx : Fin 8192 → Fin 1024 → ℝ := rrmsArg P.x P.g P.dh P.dout
/-- The gradient of the gain. -/
def dg : Fin 1024 → ℝ := rrmsGain P.x P.dh

end Args
end Cert.Ffn.Hand
end
-- ==== Proof.Ffn.Fold.lean ====
/-
  The feed-forward block's calls in their order: what every array holds, given arrays of reals.
-/
module

public import proofs.«01_k».proof.Proof.Gen.FfnIdeal.Frame.Fold0
public import proofs.«01_k».proof.Proof.Ffn.Tiled
public import proofs.«01_k».proof.Proof.Ffn.Sums
public import proofs.«01_k».proof.Proof.Ffn.Back
public import proofs.«01_k».proof.Proof.Ffn.Spec
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn.Hand

open Cert.FfnIdeal Cert.FfnIdeal.Gen Cert.Hand

/-- The program's argument arrays hold the reals `P`. -/
structure Is (m : (ℓ : Loc nD τ sig) → Buf (Elt Ideal) ℓ) (c : Dev nD) (P : Args) : Prop where
  x : @Eq (FVec Ideal (Mat 8192 1024) .f32) (m ((c : Thread nD τ).loc main_arg0)) (cm P.x)
  g : @Eq (FVec Ideal ⟨1, ![1024]⟩ .f32) (m ((c : Thread nD τ).loc main_arg1)) (cv P.g)
  wg : @Eq (FVec Ideal (Mat 1024 2816) .f32) (m ((c : Thread nD τ).loc main_arg2)) (cm P.wg)
  wu : @Eq (FVec Ideal (Mat 1024 2816) .f32) (m ((c : Thread nD τ).loc main_arg3)) (cm P.wu)
  wd : @Eq (FVec Ideal (Mat 2816 1024) .f32) (m ((c : Thread nD τ).loc main_arg4)) (cm P.wd)
  dout : @Eq (FVec Ideal (Mat 8192 1024) .f32) (m ((c : Thread nD τ).loc main_arg5)) (cm P.dout)

variable (m : (ℓ : Loc nD τ sig) → Buf (Elt Ideal) ℓ) (ρ : Dev nD → PrngReg) (c : Dev nD) (P : Args)

theorem at_g (hP : Is m c P) : @Eq (FVec Ideal (Mat 1 1024) .f32) (W1 m ρ c (Proc.devRef .tc main_v0)) (cm (row P.g)) := by
  refine eq_cm fun i k => ?_
  show StableHlo.after hostOps0 _ _ _ = _
  after_results
  have e := hP.g
  pointwise [W0]
  exact congrFun e (ix1 k)

theorem at_wg (hP : Is m c P) : @Eq (FVec Ideal (Mat 2816 1024) .bf16) (W1 m ρ c (Proc.devRef .tc main_v2)) (cm (fun n k => P.wg k n)) := by
  refine eq_cm fun n k => ?_
  show StableHlo.after hostOps0 _ _ _ = _
  after_results
  pointwise [W0]
  exact congrFun hP.wg (ix2 k n)

theorem at_wu (hP : Is m c P) : @Eq (FVec Ideal (Mat 2816 1024) .bf16) (W1 m ρ c (Proc.devRef .tc main_v4)) (cm (fun n k => P.wu k n)) := by
  refine eq_cm fun n k => ?_
  show StableHlo.after hostOps0 _ _ _ = _
  after_results
  pointwise [W0]
  exact congrFun hP.wu (ix2 k n)

theorem at_wd (hP : Is m c P) : @Eq (FVec Ideal (Mat 2816 1024) .bf16) (W1 m ρ c (Proc.devRef .tc main_v5)) (cm P.wd) := by
  refine eq_cm fun n k => ?_
  show StableHlo.after hostOps0 _ _ _ = _
  after_results
  pointwise [W0]
  exact congrFun hP.wd (ix2 n k)

theorem at_h (hP : Is m c P) : @Eq (FVec Ideal (Mat 8192 1024) .bf16) (W2 m ρ c (Proc.devRef .tc main_v6)) (cm P.h) := by
  have e0 : @Eq (FVec Ideal (Mat 8192 1024) .f32) (V1 m ρ c (Pipeline.arrRef spec0 0)) (cm P.x) := (W1_of m ρ c main_arg0 (by decide)).trans (hP.x)
  have e1 : @Eq (FVec Ideal (Mat 1 1024) .f32) (V1 m ρ c (Pipeline.arrRef spec0 1)) (cm (row P.g)) := at_g m ρ c P hP
  refine (W2_arr m ρ c 2).trans ((final0_2 (V1 m ρ) c).trans ?_)
  rw [e0, e1]
  exact rms_cm _ _

theorem at_a (hP : Is m c P) : @Eq (FVec Ideal (Mat 8192 2816) .bf16) (W3 m ρ c (Proc.devRef .tc main_v7_0)) (cm P.a) := by
  have e0 : @Eq (FVec Ideal (Mat 8192 1024) .bf16) (V2 m ρ c (Pipeline.arrRef spec1 0)) (cm P.h) := at_h m ρ c P hP
  have e1 : @Eq (FVec Ideal (Mat 2816 1024) .bf16) (V2 m ρ c (Pipeline.arrRef spec1 1)) (cm (fun n k => P.wg k n)) := (W2_of m ρ c main_v2 (by decide)).trans (at_wg m ρ c P hP)
  refine (W3_arr m ρ c 3).trans ((final1_3 (V2 m ρ) c).trans ?_)
  rw [e0, e1]
  exact nt_cm _ _

theorem at_b (hP : Is m c P) : @Eq (FVec Ideal (Mat 8192 2816) .bf16) (W3 m ρ c (Proc.devRef .tc main_v7_1)) (cm P.b) := by
  have e0 : @Eq (FVec Ideal (Mat 8192 1024) .bf16) (V2 m ρ c (Pipeline.arrRef spec1 0)) (cm P.h) := at_h m ρ c P hP
  have e1 : @Eq (FVec Ideal (Mat 2816 1024) .bf16) (V2 m ρ c (Pipeline.arrRef spec1 2)) (cm (fun n k => P.wu k n)) := (W2_of m ρ c main_v4 (by decide)).trans (at_wu m ρ c P hP)
  refine (W3_arr m ρ c 4).trans ((final1_4 (V2 m ρ) c).trans ?_)
  rw [e0, e1]
  exact nt_cm _ _

theorem at_s (hP : Is m c P) : @Eq (FVec Ideal (Mat 8192 2816) .bf16) (W3 m ρ c (Proc.devRef .tc main_v7_2)) (cm P.s) := by
  have e0 : @Eq (FVec Ideal (Mat 8192 1024) .bf16) (V2 m ρ c (Pipeline.arrRef spec1 0)) (cm P.h) := at_h m ρ c P hP
  have e1 : @Eq (FVec Ideal (Mat 2816 1024) .bf16) (V2 m ρ c (Pipeline.arrRef spec1 1)) (cm (fun n k => P.wg k n)) := (W2_of m ρ c main_v2 (by decide)).trans (at_wg m ρ c P hP)
  have e2 : @Eq (FVec Ideal (Mat 2816 1024) .bf16) (V2 m ρ c (Pipeline.arrRef spec1 2)) (cm (fun n k => P.wu k n)) := (W2_of m ρ c main_v4 (by decide)).trans (at_wu m ρ c P hP)
  refine (W3_arr m ρ c 5).trans ((final1_5 (V2 m ρ) c).trans ?_)
  rw [e0, e1, e2]
  exact (congrArg₂ gated (nt_cm _ _) (nt_cm _ _)).trans (gated_cm _ _)

theorem at_y (hP : Is m c P) : @Eq (FVec Ideal (Mat 8192 1024) .f32) (W4 m ρ c (Proc.devRef .tc main_v8)) (cm P.y) := by
  have e0 : @Eq (FVec Ideal (Mat 8192 2816) .bf16) (V3 m ρ c (Pipeline.arrRef spec2 0)) (cm P.s) := at_s m ρ c P hP
  have e1 : @Eq (FVec Ideal (Mat 2816 1024) .bf16) (V3 m ρ c (Pipeline.arrRef spec2 1)) (cm P.wd) := ((W3_of m ρ c main_v5 (by decide)).trans (W2_of m ρ c main_v5 (by decide))).trans (at_wd m ρ c P hP)
  have e2 : @Eq (FVec Ideal (Mat 8192 1024) .f32) (V3 m ρ c (Pipeline.arrRef spec2 2)) (cm P.x) := ((W3_of m ρ c main_arg0 (by decide)).trans ((W2_of m ρ c main_arg0 (by decide)).trans (W1_of m ρ c main_arg0 (by decide)))).trans (hP.x)
  refine (W4_arr m ρ c 3).trans ((final2_3 (V3 m ρ) c).trans ?_)
  rw [e0, e1, e2]
  refine eq_cm fun i k => ?_
  show cm (φ := .f32) P.x (ix2 i k) + Ideal.ofBits FTy.f32 0x3F000000#32 * nn (φ := .bf16) (ψ := .bf16) (χ := .f32) (cm P.s) (cm P.wd) (ix2 i k) = _
  rw [nn_cm, half_f32]
  simp only [cm_at, ← EReal.coe_mul, ← EReal.coe_add]
  rfl

theorem at_dy (hP : Is m c P) : @Eq (FVec Ideal (Mat 8192 1024) .bf16) (W5 m ρ c (Proc.devRef .tc main_v11)) (cm P.dy) := by
  have e : @Eq (FVec Ideal (Mat 8192 1024) .f32) (W4 m ρ c (Proc.devRef .tc main_arg5)) (cm P.dout) := (W4_args m ρ c main_arg5 (by decide)).trans hP.dout
  refine eq_cm fun i k => ?_
  show StableHlo.after hostOps3 _ _ _ = _
  after_results
  rw [e]
  pointwise
  rw [cm_at, half_f32, ← EReal.coe_mul, mul_comm]
  rfl

theorem at_dwd (hP : Is m c P) : @Eq (FVec Ideal (Mat 2816 1024) .f32) (W6 m ρ c (Proc.devRef .tc main_v12)) (cm P.dwd) := by
  have e0 : @Eq (FVec Ideal (Mat 8192 2816) .bf16) (V5 m ρ c (Pipeline.arrRef spec3 0)) (cm P.s) := ((W5_of m ρ c main_v7_2 (by decide)).trans (W4_of m ρ c main_v7_2 (by decide))).trans (at_s m ρ c P hP)
  have e1 : @Eq (FVec Ideal (Mat 8192 1024) .bf16) (V5 m ρ c (Pipeline.arrRef spec3 1)) (cm P.dy) := at_dy m ρ c P hP
  refine (W6_arr m ρ c 2).trans ((final3_2 (V5 m ρ) c).trans ?_)
  rw [e0, e1]
  exact tn_cm _ _

theorem at_da (hP : Is m c P) : @Eq (FVec Ideal (Mat 8192 2816) .bf16) (W7 m ρ c (Proc.devRef .tc main_v13_0)) (cm P.da) := by
  have e0 : @Eq (FVec Ideal (Mat 8192 1024) .bf16) (V6 m ρ c (Pipeline.arrRef spec4 0)) (cm P.dy) := (W6_of m ρ c main_v11 (by decide)).trans (at_dy m ρ c P hP)
  have e1 : @Eq (FVec Ideal (Mat 2816 1024) .bf16) (V6 m ρ c (Pipeline.arrRef spec4 1)) (cm P.wd) := ((W6_of m ρ c main_v5 (by decide)).trans ((W5_of m ρ c main_v5 (by decide)).trans ((W4_of m ρ c main_v5 (by decide)).trans ((W3_of m ρ c main_v5 (by decide)).trans (W2_of m ρ c main_v5 (by decide)))))).trans (at_wd m ρ c P hP)
  have e2 : @Eq (FVec Ideal (Mat 8192 2816) .bf16) (V6 m ρ c (Pipeline.arrRef spec4 2)) (cm P.a) := ((W6_of m ρ c main_v7_0 (by decide)).trans ((W5_of m ρ c main_v7_0 (by decide)).trans (W4_of m ρ c main_v7_0 (by decide)))).trans (at_a m ρ c P hP)
  have e3 : @Eq (FVec Ideal (Mat 8192 2816) .bf16) (V6 m ρ c (Pipeline.arrRef spec4 3)) (cm P.b) := ((W6_of m ρ c main_v7_1 (by decide)).trans ((W5_of m ρ c main_v7_1 (by decide)).trans (W4_of m ρ c main_v7_1 (by decide)))).trans (at_b m ρ c P hP)
  refine (W7_arr m ρ c 4).trans ((final4_4 (V6 m ρ) c).trans ?_)
  rw [e0, e1, e2, e3]
  rw [nt_cm]; exact gateArg_cm _ _ _

theorem at_db (hP : Is m c P) : @Eq (FVec Ideal (Mat 8192 2816) .bf16) (W7 m ρ c (Proc.devRef .tc main_v13_1)) (cm P.db) := by
  have e0 : @Eq (FVec Ideal (Mat 8192 1024) .bf16) (V6 m ρ c (Pipeline.arrRef spec4 0)) (cm P.dy) := (W6_of m ρ c main_v11 (by decide)).trans (at_dy m ρ c P hP)
  have e1 : @Eq (FVec Ideal (Mat 2816 1024) .bf16) (V6 m ρ c (Pipeline.arrRef spec4 1)) (cm P.wd) := ((W6_of m ρ c main_v5 (by decide)).trans ((W5_of m ρ c main_v5 (by decide)).trans ((W4_of m ρ c main_v5 (by decide)).trans ((W3_of m ρ c main_v5 (by decide)).trans (W2_of m ρ c main_v5 (by decide)))))).trans (at_wd m ρ c P hP)
  have e2 : @Eq (FVec Ideal (Mat 8192 2816) .bf16) (V6 m ρ c (Pipeline.arrRef spec4 2)) (cm P.a) := ((W6_of m ρ c main_v7_0 (by decide)).trans ((W5_of m ρ c main_v7_0 (by decide)).trans (W4_of m ρ c main_v7_0 (by decide)))).trans (at_a m ρ c P hP)
  refine (W7_arr m ρ c 5).trans ((final4_5 (V6 m ρ) c).trans ?_)
  rw [e0, e1, e2]
  rw [nt_cm]; exact gateVal_cm _ _

theorem at_dwgT (hP : Is m c P) : @Eq (FVec Ideal (Mat 2816 1024) .f32) (W8 m ρ c (Proc.devRef .tc main_v14)) (cm P.dwgT) := by
  have e0 : @Eq (FVec Ideal (Mat 8192 2816) .bf16) (V7 m ρ c (Pipeline.arrRef spec5 0)) (cm P.da) := at_da m ρ c P hP
  have e1 : @Eq (FVec Ideal (Mat 8192 1024) .bf16) (V7 m ρ c (Pipeline.arrRef spec5 1)) (cm P.h) := ((W7_of m ρ c main_v6 (by decide)).trans ((W6_of m ρ c main_v6 (by decide)).trans ((W5_of m ρ c main_v6 (by decide)).trans ((W4_of m ρ c main_v6 (by decide)).trans (W3_of m ρ c main_v6 (by decide)))))).trans (at_h m ρ c P hP)
  refine (W8_arr m ρ c 2).trans ((final5_2 (V7 m ρ) c).trans ?_)
  rw [e0, e1]
  exact tn_cm _ _

theorem at_dwuT (hP : Is m c P) : @Eq (FVec Ideal (Mat 2816 1024) .f32) (W9 m ρ c (Proc.devRef .tc main_v15)) (cm P.dwuT) := by
  have e0 : @Eq (FVec Ideal (Mat 8192 2816) .bf16) (V8 m ρ c (Pipeline.arrRef spec6 0)) (cm P.db) := (W8_of m ρ c main_v13_1 (by decide)).trans (at_db m ρ c P hP)
  have e1 : @Eq (FVec Ideal (Mat 8192 1024) .bf16) (V8 m ρ c (Pipeline.arrRef spec6 1)) (cm P.h) := ((W8_of m ρ c main_v6 (by decide)).trans ((W7_of m ρ c main_v6 (by decide)).trans ((W6_of m ρ c main_v6 (by decide)).trans ((W5_of m ρ c main_v6 (by decide)).trans ((W4_of m ρ c main_v6 (by decide)).trans (W3_of m ρ c main_v6 (by decide))))))).trans (at_h m ρ c P hP)
  refine (W9_arr m ρ c 2).trans ((final6_2 (V8 m ρ) c).trans ?_)
  rw [e0, e1]
  exact tn_cm _ _

theorem at_dx (hP : Is m c P) : @Eq (FVec Ideal (Mat 8192 1024) .f32) (W10 m ρ c (Proc.devRef .tc main_v16_0)) (cm P.dx) := by
  have e0 : @Eq (FVec Ideal (Mat 8192 1024) .f32) (V9 m ρ c (Pipeline.arrRef spec7 4)) (cm P.x) := ((W9_of m ρ c main_arg0 (by decide)).trans ((W8_of m ρ c main_arg0 (by decide)).trans ((W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide)))))))))).trans (hP.x)
  have e1 : @Eq (FVec Ideal (Mat 1 1024) .f32) (V9 m ρ c (Pipeline.arrRef spec7 5)) (cm (row P.g)) := ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))).trans (at_g m ρ c P hP)
  have e2 : @Eq (FVec Ideal (Mat 8192 2816) .bf16) (V9 m ρ c (Pipeline.arrRef spec7 0)) (cm P.da) := ((W9_of m ρ c main_v13_0 (by decide)).trans (W8_of m ρ c main_v13_0 (by decide))).trans (at_da m ρ c P hP)
  have e3 : @Eq (FVec Ideal (Mat 8192 2816) .bf16) (V9 m ρ c (Pipeline.arrRef spec7 1)) (cm P.db) := ((W9_of m ρ c main_v13_1 (by decide)).trans (W8_of m ρ c main_v13_1 (by decide))).trans (at_db m ρ c P hP)
  have e4 : @Eq (FVec Ideal (Mat 2816 1024) .bf16) (V9 m ρ c (Pipeline.arrRef spec7 2)) (cm (fun n k => P.wg k n)) := ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))))).trans (at_wg m ρ c P hP)
  have e5 : @Eq (FVec Ideal (Mat 2816 1024) .bf16) (V9 m ρ c (Pipeline.arrRef spec7 3)) (cm (fun n k => P.wu k n)) := ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (W2_of m ρ c main_v4 (by decide))))))))).trans (at_wu m ρ c P hP)
  have e6 : @Eq (FVec Ideal (Mat 8192 1024) .f32) (V9 m ρ c (Pipeline.arrRef spec7 6)) (cm P.dout) := ((W9_of m ρ c main_arg5 (by decide)).trans ((W8_of m ρ c main_arg5 (by decide)).trans ((W7_of m ρ c main_arg5 (by decide)).trans ((W6_of m ρ c main_arg5 (by decide)).trans ((W5_of m ρ c main_arg5 (by decide)).trans ((W4_of m ρ c main_arg5 (by decide)).trans ((W3_of m ρ c main_arg5 (by decide)).trans ((W2_of m ρ c main_arg5 (by decide)).trans (W1_of m ρ c main_arg5 (by decide)))))))))).trans (hP.dout)
  refine (W10_arr m ρ c 7).trans ((final7_7 (V9 m ρ) c).trans ?_)
  rw [e0, e1, e2, e3, e4, e5, e6]
  have e : back (cm P.da) (cm P.db) (cm fun n k => P.wg k n) (cm fun n k => P.wu k n) = cm P.dh := by
    refine eq_cm fun i k => ?_
    show nn (φ := .bf16) (ψ := .bf16) (χ := .f32) (cm P.da) (cm fun n k => P.wg k n) (ix2 i k)
      + nn (φ := .bf16) (ψ := .bf16) (χ := .f32) (cm P.db) (cm fun n k => P.wu k n) (ix2 i k) = _
    rw [nn_cm, nn_cm]
    simp only [cm_at, ← EReal.coe_add]
    rfl
  rw [e]
  exact rmsArg_cm _ _ _ _

theorem at_dgRow (hP : Is m c P) : @Eq (FVec Ideal (Mat 1 1024) .f32) (W10 m ρ c (Proc.devRef .tc main_v16_1)) (cm (row P.dg)) := by
  have e0 : @Eq (FVec Ideal (Mat 8192 1024) .f32) (V9 m ρ c (Pipeline.arrRef spec7 4)) (cm P.x) := ((W9_of m ρ c main_arg0 (by decide)).trans ((W8_of m ρ c main_arg0 (by decide)).trans ((W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide)))))))))).trans (hP.x)
  have e1 : @Eq (FVec Ideal (Mat 8192 2816) .bf16) (V9 m ρ c (Pipeline.arrRef spec7 0)) (cm P.da) := ((W9_of m ρ c main_v13_0 (by decide)).trans (W8_of m ρ c main_v13_0 (by decide))).trans (at_da m ρ c P hP)
  have e2 : @Eq (FVec Ideal (Mat 8192 2816) .bf16) (V9 m ρ c (Pipeline.arrRef spec7 1)) (cm P.db) := ((W9_of m ρ c main_v13_1 (by decide)).trans (W8_of m ρ c main_v13_1 (by decide))).trans (at_db m ρ c P hP)
  have e3 : @Eq (FVec Ideal (Mat 2816 1024) .bf16) (V9 m ρ c (Pipeline.arrRef spec7 2)) (cm (fun n k => P.wg k n)) := ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))))).trans (at_wg m ρ c P hP)
  have e4 : @Eq (FVec Ideal (Mat 2816 1024) .bf16) (V9 m ρ c (Pipeline.arrRef spec7 3)) (cm (fun n k => P.wu k n)) := ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (W2_of m ρ c main_v4 (by decide))))))))).trans (at_wu m ρ c P hP)
  refine (W10_arr m ρ c 8).trans ((final7_8 (V9 m ρ) c).trans ?_)
  rw [e0, e1, e2, e3, e4]
  have e : back (cm P.da) (cm P.db) (cm fun n k => P.wg k n) (cm fun n k => P.wu k n) = cm P.dh := by
    refine eq_cm fun i k => ?_
    show nn (φ := .bf16) (ψ := .bf16) (χ := .f32) (cm P.da) (cm fun n k => P.wg k n) (ix2 i k)
      + nn (φ := .bf16) (ψ := .bf16) (χ := .f32) (cm P.db) (cm fun n k => P.wu k n) (ix2 i k) = _
    rw [nn_cm, nn_cm]
    simp only [cm_at, ← EReal.coe_add]
    rfl
  rw [e]
  exact rmsGain_cm _ _

theorem at_end_y (hP : Is m c P) : @Eq (FVec Ideal (Mat 8192 1024) .f32) (W11 m ρ c (Proc.devRef .tc main_v8)) (cm P.y) := by
  exact ((W11_of m ρ c main_v8 (by decide)).trans ((W10_of m ρ c main_v8 (by decide)).trans ((W9_of m ρ c main_v8 (by decide)).trans ((W8_of m ρ c main_v8 (by decide)).trans ((W7_of m ρ c main_v8 (by decide)).trans ((W6_of m ρ c main_v8 (by decide)).trans (W5_of m ρ c main_v8 (by decide)))))))).trans (at_y m ρ c P hP)

theorem at_end_dwd (hP : Is m c P) : @Eq (FVec Ideal (Mat 2816 1024) .f32) (W11 m ρ c (Proc.devRef .tc main_v12)) (cm P.dwd) := by
  exact ((W11_of m ρ c main_v12 (by decide)).trans ((W10_of m ρ c main_v12 (by decide)).trans ((W9_of m ρ c main_v12 (by decide)).trans ((W8_of m ρ c main_v12 (by decide)).trans (W7_of m ρ c main_v12 (by decide)))))).trans (at_dwd m ρ c P hP)

theorem at_end_dx (hP : Is m c P) : @Eq (FVec Ideal (Mat 8192 1024) .f32) (W11 m ρ c (Proc.devRef .tc main_v16_0)) (cm P.dx) := by
  exact (W11_of m ρ c main_v16_0 (by decide)).trans (at_dx m ρ c P hP)

theorem at_end_dwg (hP : Is m c P) : @Eq (FVec Ideal (Mat 1024 2816) .f32) (W11 m ρ c (Proc.devRef .tc main_v18)) (cm P.dwg) := by
  have e : @Eq (FVec Ideal (Mat 2816 1024) .f32) (W10 m ρ c (Proc.devRef .tc main_v14)) (cm P.dwgT) := ((W10_of m ρ c main_v14 (by decide)).trans (W9_of m ρ c main_v14 (by decide))).trans (at_dwgT m ρ c P hP)
  refine eq_cm fun k n => ?_
  show StableHlo.after hostOps8 _ _ _ = _
  after_results
  pointwise
  exact congrFun e (ix2 n k)

theorem at_end_dwu (hP : Is m c P) : @Eq (FVec Ideal (Mat 1024 2816) .f32) (W11 m ρ c (Proc.devRef .tc main_v19)) (cm P.dwu) := by
  have e : @Eq (FVec Ideal (Mat 2816 1024) .f32) (W10 m ρ c (Proc.devRef .tc main_v15)) (cm P.dwuT) := (W10_of m ρ c main_v15 (by decide)).trans (at_dwuT m ρ c P hP)
  refine eq_cm fun k n => ?_
  show StableHlo.after hostOps8 _ _ _ = _
  after_results
  pointwise
  exact congrFun e (ix2 n k)

theorem at_end_dg (hP : Is m c P) : @Eq (FVec Ideal ⟨1, ![1024]⟩ .f32) (W11 m ρ c (Proc.devRef .tc main_v17)) (cv P.dg) := by
  refine eq_cv fun k => ?_
  show StableHlo.after hostOps8 _ _ _ = _
  after_results
  pointwise
  exact congrFun (at_dgRow m ρ c P hP) (ix2 0 k)

end Cert.Ffn.Hand
end
-- ==== Proof.Ffn.Ref.lean ====
/-
  The reference of the feed-forward block, given arrays of reals: every intermediate array is that of the block over the
  reals, up to the last gradients, where the derivative of the normalisation takes another form.
-/
module

public import proofs.«01_k».proof.Proof.Gen.FfnRefIdeal.Read
public import proofs.«01_k».proof.Proof.Ffn.Spec
public import Idealize.ShloMosaic.Lib.Pointwise

@[expose] public section

set_option maxRecDepth 16384

noncomputable section

open Idealize.ShloMosaic Idealize.ShloMosaic.TcCoe

namespace Cert.Ffn.Hand

open Cert.Hand Cert.FfnRefIdeal Cert.FfnRefIdeal.Read

variable (P : Args)

/-- The mean square plus the small number. -/
theorem ref_v6 (i : Fin 8192) (z : Fin 1) : val_main_v6 (F := Ideal) (cm (φ := .f32) P.x) (ix2 i z) = ((msq P.x i : ℝ) : EReal) := by
  pointwise [val_main_v0, val_main_cst, val_main_v1, val_main_v2, val_main_cst_0, val_main_v3, val_main_v4, val_main_cst_1, val_main_v5, val_main_v6]
  simp only [cm_at, ← EReal.coe_mul, sum_coe, w1024_f32, eps_f32]
  rw [div_real _ _ (by norm_num), ← EReal.coe_add]
  rfl

theorem ref_v7 (i : Fin 8192) (z : Fin 1) : val_main_v7 (F := Ideal) (cm (φ := .f32) P.x) (ix2 i z) = ((rinv P.x i : ℝ) : EReal) := by
  pointwise [val_main_v7]
  rw [ref_v6]
  exact rsqrt_real _ (msq_pos P.x i)

/-- The derivative of the reciprocal square root. -/
theorem ref_v10 (i : Fin 8192) (z : Fin 1) :
    val_main_v10 (F := Ideal) (cm (φ := .f32) P.x) (ix2 i z) = ((-(1 / 2) * (rinv P.x i * rinv P.x i * rinv P.x i) : ℝ) : EReal) := by
  pointwise [val_main_v10, val_main_v9, val_main_cst_2, val_main_v8]
  rw [ref_v6, ref_v7, div_real _ _ (msq_pos P.x i).ne', neghalf_f32, ← EReal.coe_mul, rinv_sq]

theorem ref_v12 : val_main_v12 (F := Ideal) (cm (φ := .f32) P.x) = cm (φ := .f32) fun i k => P.x i k * rinv P.x i := by
  refine eq_cm fun i k => ?_
  pointwise [val_main_v12, val_main_v11]
  rw [ref_v7, cm_at, ← EReal.coe_mul]

theorem ref_v15 : val_main_v15 (F := Ideal) (cm (φ := .f32) P.x) (cv (φ := .f32) P.g) = cm (φ := .f32) P.h := by
  refine eq_cm fun i k => ?_
  pointwise [val_main_v15, val_main_v14, val_main_v13]
  rw [ref_v12, cm_at, cv_at, ← EReal.coe_mul]
  rfl

theorem ref_v16 : val_main_v16 (F := Ideal) (cm (φ := .f32) P.x) (cv (φ := .f32) P.g) (cm (φ := .f32) P.wg) = cm (φ := .f32) P.a := by
  refine eq_cm fun i k => ?_
  pointwise [val_main_v16]
  simp only [ref_v15, cm_at, ← EReal.coe_mul, sum_coe]
  rfl

theorem ref_v18 : val_main_v18 (F := Ideal) (cm (φ := .f32) P.x) (cv (φ := .f32) P.g) (cm (φ := .f32) P.wu) = cm (φ := .f32) P.b := by
  refine eq_cm fun i k => ?_
  pointwise [val_main_v18]
  simp only [ref_v15, cm_at, ← EReal.coe_mul, sum_coe]
  rfl

theorem ref_v17_2 : val_main_v17_2 (F := Ideal) (cm (φ := .f32) P.x) (cv (φ := .f32) P.g) (cm (φ := .f32) P.wg) = cm (φ := .f32) fun i k => rsig (P.a i k) := by
  refine eq_cm fun i k => ?_
  pointwise [val_main_call0_v0, val_main_call0_v1, val_main_call0_cst, val_main_call0_v2, val_main_call0_v3, val_main_call0_cst_0, val_main_call0_v4, val_main_v17_2]
  rw [ref_v16, cm_at]
  exact sig_host _

theorem ref_v17_1 : val_main_v17_1 (F := Ideal) (cm (φ := .f32) P.x) (cv (φ := .f32) P.g) (cm (φ := .f32) P.wg) = cm (φ := .f32) fun i k => rsig (P.a i k) * (1 - rsig (P.a i k)) := by
  refine eq_cm fun i k => ?_
  pointwise [val_main_call0_cst_1, val_main_call0_v6, val_main_call0_v7, val_main_v17_1]
  rw [ref_v17_2, cm_at, ← EReal.coe_one, ← EReal.coe_sub, ← EReal.coe_mul]

theorem ref_v17_0 : val_main_v17_0 (F := Ideal) (cm (φ := .f32) P.x) (cv (φ := .f32) P.g) (cm (φ := .f32) P.wg) = cm (φ := .f32) fun i k => P.a i k * rsig (P.a i k) := by
  refine eq_cm fun i k => ?_
  pointwise [val_main_v17_0]
  rw [ref_v16, ref_v17_2, cm_at, cm_at, ← EReal.coe_mul]

theorem ref_v19 : val_main_v19 (F := Ideal) (cm (φ := .f32) P.x) (cv (φ := .f32) P.g) (cm (φ := .f32) P.wg) (cm (φ := .f32) P.wu) = cm (φ := .f32) P.s := by
  refine eq_cm fun i k => ?_
  pointwise [val_main_v19]
  rw [ref_v17_0, ref_v18, cm_at, cm_at, ← EReal.coe_mul]
  rfl

/-- The block's value. -/
theorem ref_y : val_main_v23 (F := Ideal) (cm (φ := .f32) P.x) (cv (φ := .f32) P.g) (cm (φ := .f32) P.wg) (cm (φ := .f32) P.wu) (cm (φ := .f32) P.wd) = cm (φ := .f32) P.y := by
  refine eq_cm fun i k => ?_
  pointwise [val_main_v20, val_main_cst_3, val_main_v21, val_main_v22, val_main_v23]
  simp only [ref_v19, cm_at, ← EReal.coe_mul, sum_coe, half_f32, ← EReal.coe_add]
  rfl

theorem ref_v26 : val_main_v26 (F := Ideal) (cm (φ := .f32) P.dout) = cm (φ := .f32) P.dy := by
  refine eq_cm fun i k => ?_
  pointwise [val_main_v24, val_main_cst_4, val_main_v25, val_main_v26]
  simp only [cm_at, ← EReal.coe_mul, half_f32]
  rfl

theorem ref_dwd : val_main_v28 (F := Ideal) (cm (φ := .f32) P.x) (cv (φ := .f32) P.g) (cm (φ := .f32) P.wg) (cm (φ := .f32) P.wu) (cm (φ := .f32) P.dout) = cm (φ := .f32) P.dwd := by
  refine eq_cm fun i k => ?_
  pointwise [val_main_v27, val_main_v28]
  simp only [ref_v19, ref_v26, cm_at, ← EReal.coe_mul, sum_coe]
  simp only [Args.dwd, tmul, mul_comm]

theorem ref_v29 : val_main_v29 (F := Ideal) (cm (φ := .f32) P.wd) (cm (φ := .f32) P.dout) = cm (φ := .f32) P.ds := by
  refine eq_cm fun i k => ?_
  pointwise [val_main_v29]
  simp only [ref_v26, cm_at, ← EReal.coe_mul, sum_coe]
  rfl

theorem ref_v30 : val_main_v30 (F := Ideal) (cm (φ := .f32) P.x) (cv (φ := .f32) P.g) (cm (φ := .f32) P.wg) (cm (φ := .f32) P.wd) (cm (φ := .f32) P.dout) = cm (φ := .f32) P.db := by
  refine eq_cm fun i k => ?_
  pointwise [val_main_v30]
  simp only [ref_v29, ref_v17_0, cm_at, ← EReal.coe_mul]
  rw [mul_comm]; rfl

theorem ref_v31 : val_main_v31 (F := Ideal) (cm (φ := .f32) P.x) (cv (φ := .f32) P.g) (cm (φ := .f32) P.wu) (cm (φ := .f32) P.wd) (cm (φ := .f32) P.dout) = cm (φ := .f32) fun i k => P.ds i k * P.b i k := by
  refine eq_cm fun i k => ?_
  pointwise [val_main_v31]
  simp only [ref_v29, ref_v18, cm_at, ← EReal.coe_mul]

theorem ref_v35 : val_main_v35 (F := Ideal) (cm (φ := .f32) P.x) (cv (φ := .f32) P.g) (cm (φ := .f32) P.wg) (cm (φ := .f32) P.wu) (cm (φ := .f32) P.wd) (cm (φ := .f32) P.dout) = cm (φ := .f32) P.da := by
  refine eq_cm fun i k => ?_
  pointwise [val_main_call1_v0, val_main_call1_v1, val_main_call1_v2, val_main_v35]
  simp only [ref_v31, ref_v16, ref_v17_1, ref_v17_2, cm_at, ← EReal.coe_mul, ← EReal.coe_add]
  congr 1
  unfold Args.da
  ring

theorem ref_dwu : val_main_v33 (F := Ideal) (cm (φ := .f32) P.x) (cv (φ := .f32) P.g) (cm (φ := .f32) P.wg) (cm (φ := .f32) P.wd) (cm (φ := .f32) P.dout) = cm (φ := .f32) P.dwu := by
  refine eq_cm fun i k => ?_
  pointwise [val_main_v32, val_main_v33]
  simp only [ref_v30, ref_v15, cm_at, ← EReal.coe_mul, sum_coe]
  rfl

theorem ref_dwg : val_main_v37 (F := Ideal) (cm (φ := .f32) P.x) (cv (φ := .f32) P.g) (cm (φ := .f32) P.wg) (cm (φ := .f32) P.wu) (cm (φ := .f32) P.wd) (cm (φ := .f32) P.dout) = cm (φ := .f32) P.dwg := by
  refine eq_cm fun i k => ?_
  pointwise [val_main_v36, val_main_v37]
  simp only [ref_v35, ref_v15, cm_at, ← EReal.coe_mul, sum_coe]
  rfl

theorem ref_v39 : val_main_v39 (F := Ideal) (cm (φ := .f32) P.x) (cv (φ := .f32) P.g) (cm (φ := .f32) P.wg) (cm (φ := .f32) P.wu) (cm (φ := .f32) P.wd) (cm (φ := .f32) P.dout) = cm (φ := .f32) P.dh := by
  refine eq_cm fun i k => ?_
  pointwise [val_main_v34, val_main_v38, val_main_v39]
  simp only [ref_v30, ref_v35, cm_at, ← EReal.coe_mul, sum_coe, ← EReal.coe_add]
  rw [add_comm]; rfl

/-- The gradient of the gain. -/
theorem ref_dg : val_main_v45 (F := Ideal) (cm (φ := .f32) P.x) (cv (φ := .f32) P.g) (cm (φ := .f32) P.wg) (cm (φ := .f32) P.wu) (cm (φ := .f32) P.wd) (cm (φ := .f32) P.dout) = cv (φ := .f32) P.dg := by
  refine eq_cv fun k => ?_
  pointwise [val_main_v40, val_main_cst_5, val_main_v41, val_main_v42, val_main_cst_6, val_main_v45]
  simp only [ref_v12, ref_v39, cm_at, ← EReal.coe_mul, sum_coe]
  simp only [Args.dg, rrmsGain, mul_comm, Finset.univ_unique, Finset.sum_singleton]

theorem ref_v44 : val_main_v44 (F := Ideal) (cm (φ := .f32) P.x) (cv (φ := .f32) P.g) (cm (φ := .f32) P.wg) (cm (φ := .f32) P.wu) (cm (φ := .f32) P.wd) (cm (φ := .f32) P.dout) = cm (φ := .f32) fun i k => P.dh i k * P.g k := by
  refine eq_cm fun i k => ?_
  pointwise [val_main_v13, val_main_v43, val_main_v44]
  simp only [ref_v39, cm_at, cv_at, ← EReal.coe_mul]

/-- What the mean square's gradient adds, for every element of a row the same. -/
theorem ref_v55 (i : Fin 8192) : val_main_v55 (F := Ideal) (cm (φ := .f32) P.x) (cv (φ := .f32) P.g) (cm (φ := .f32) P.wg) (cm (φ := .f32) P.wu) (cm (φ := .f32) P.wd) (cm (φ := .f32) P.dout) (ix1 i) =
    (((∑ k : Fin 1024, P.x i k * (P.dh i k * P.g k)) * (-(1 / 2) * (rinv P.x i * rinv P.x i * rinv P.x i)) / 1024 : ℝ) : EReal) := by
  pointwise [val_main_v46, val_main_cst_7, val_main_v47, val_main_v48, val_main_v52, val_main_cst_8, val_main_v53, val_main_v54, val_main_cst_9, val_main_v55]
  simp only [ref_v10, ref_v44, cm_at, ← EReal.coe_mul, sum_coe, w1024_f32]
  rw [Finset.univ_unique, Finset.sum_singleton, div_real _ _ (by norm_num)]

/-- The two forms of the normalisation's derivative. -/
theorem rmsArg_form (r d xk gk s u res : ℝ) (h : u = s * r) :
    res + d * gk * r + xk * (s * (-(1 / 2) * (r * r * r)) / 1024) + s * (-(1 / 2) * (r * r * r)) / 1024 * xk
      = r * (d * gk - xk * r * (u / 1024)) + res := by
  rw [h]; ring

/-- The gradient of the input. -/
theorem ref_dx : val_main_v60 (F := Ideal) (cm (φ := .f32) P.x) (cv (φ := .f32) P.g) (cm (φ := .f32) P.wg) (cm (φ := .f32) P.wu) (cm (φ := .f32) P.wd) (cm (φ := .f32) P.dout) = cm (φ := .f32) P.dx := by
  refine eq_cm fun i k => ?_
  pointwise [val_main_v49, val_main_v50, val_main_v51, val_main_v56, val_main_v57, val_main_v58, val_main_v59, val_main_v60]
  simp only [ref_v7, ref_v44, ref_v55, cm_at, ← EReal.coe_mul, ← EReal.coe_add]
  congr 1
  refine rmsArg_form _ _ _ _ _ _ _ ?_
  rw [Finset.sum_mul]
  exact Finset.sum_congr rfl fun l _ => by ring

end Cert.Ffn.Hand
end
-- ==== Proof.Ffn.Value.lean ====
/-
  The feed-forward block: for finite arguments the kernel's results are the reference's.
-/
module

public import proofs.«01_k».proof.Defs
public import proofs.«01_k».proof.Proof.Ffn.Run
public import proofs.«01_k».proof.Proof.Ffn.Fold
public import proofs.«01_k».proof.Proof.Ffn.Ref
public import proofs.«01_k».proof.Proof.Gen.FfnRefIdeal.Run
public import Idealize.ShloMosaic.Lib.Claim

@[expose] public section

set_option maxRecDepth 16384

noncomputable section

open Idealize.ShloMosaic Idealize.ShloMosaic.TcCoe Idealize.SL.Sem

namespace Cert.Ffn.Hand

open Cert.Hand

/-- The shape facts of the printed precondition. -/
instance preFacts : Cert.Pre_ffn_finite.Facts where
  bcast_S_S8192x1024 := by decide
  reducesTo_S8192x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

/-- The precondition read back: every argument is an array of reals. -/
theorem reals (x : FVec Ideal (Mat 8192 1024) .f32) (g : FVec Ideal ⟨1, ![1024]⟩ .f32) (wg wu : FVec Ideal (Mat 1024 2816) .f32)
    (wd : FVec Ideal (Mat 2816 1024) .f32) (dout : FVec Ideal (Mat 8192 1024) .f32)
    (h : Cert.Pre_ffn_finite.fn (F := Ideal) x g wg wu wd dout = fun _ => 1#1) :
    ∃ P : Args, x = cm P.x ∧ g = cv P.g ∧ wg = cm P.wg ∧ wu = cm P.wu ∧ wd = cm P.wd ∧ dout = cm P.dout := by
  have h0 := congrFun h ix0
  obtain ⟨h1, h6⟩ := IntOp.andi_eq_one.1 h0
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  obtain ⟨f1, e1⟩ := exists_cm _ (reals_of_all _ top_f32 _ _ _ _ _ _ _ h1)
  obtain ⟨f2, e2⟩ := exists_cv _ (reals_of_all _ top_f32 _ _ _ _ _ _ _ h2)
  obtain ⟨f3, e3⟩ := exists_cm _ (reals_of_all _ top_f32 _ _ _ _ _ _ _ h3)
  obtain ⟨f4, e4⟩ := exists_cm _ (reals_of_all _ top_f32 _ _ _ _ _ _ _ h4)
  obtain ⟨f5, e5⟩ := exists_cm _ (reals_of_all _ top_f32 _ _ _ _ _ _ _ h5)
  obtain ⟨f6, e6⟩ := exists_cm _ (reals_of_all _ top_f32 _ _ _ _ _ _ _ h6)
  exact ⟨⟨f1, f2, f3, f4, f5, f6⟩, e1, e2, e3, e4, e5, e6⟩

end Cert.Ffn.Hand

namespace Cert.FfnIdeal.Hand

open Cert.Hand Cert.Ffn.Hand Cert.FfnIdeal Cert.FfnIdeal.Gen

/-- The kernel's run: given arrays of reals, its six results are the block's value and gradients over the reals,
    and its arguments are unchanged. -/
theorem kernel_run (m : (ℓ : Loc nD τ sig) → Buf (Elt Ideal) ℓ) (ρ : Dev nD → PrngReg) (P : Dev nD → Args) (hP : ∀ c, Is m c (P c)) :
    θ_run defs (onTc (τ := τ) (main (F := Ideal))) ⟨m, fun _ => 0, ρ⟩ (fun r => ∀ c : Dev nD,
      @Eq (FVec Ideal (Mat 8192 1024) .f32) (r.2.mem ((c.tc : Thread nD τ).loc main_v8)) (cm (P c).y)
      ∧ @Eq (FVec Ideal (Mat 8192 1024) .f32) (r.2.mem ((c.tc : Thread nD τ).loc main_v16_0)) (cm (P c).dx)
      ∧ @Eq (FVec Ideal ⟨1, ![1024]⟩ .f32) (r.2.mem ((c.tc : Thread nD τ).loc main_v17)) (cv (P c).dg)
      ∧ @Eq (FVec Ideal (Mat 1024 2816) .f32) (r.2.mem ((c.tc : Thread nD τ).loc main_v18)) (cm (P c).dwg)
      ∧ @Eq (FVec Ideal (Mat 1024 2816) .f32) (r.2.mem ((c.tc : Thread nD τ).loc main_v19)) (cm (P c).dwu)
      ∧ @Eq (FVec Ideal (Mat 2816 1024) .f32) (r.2.mem ((c.tc : Thread nD τ).loc main_v12)) (cm (P c).dwd)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v8 (by decide))).trans (at_end_y m ρ c (P c) (hP c)),
     (h c _ (mem_uc main_v16_0 (by decide))).trans (at_end_dx m ρ c (P c) (hP c)),
     (h c _ (mem_uc main_v17 (by decide))).trans (at_end_dg m ρ c (P c) (hP c)),
     (h c _ (mem_uc main_v18 (by decide))).trans (at_end_dwg m ρ c (P c) (hP c)),
     (h c _ (mem_uc main_v19 (by decide))).trans (at_end_dwu m ρ c (P c) (hP c)),
     (h c _ (mem_uc main_v12 (by decide))).trans (at_end_dwd m ρ c (P c) (hP c)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c)⟩) (run m ρ)

end Cert.FfnIdeal.Hand

namespace Cert.FfnRefIdeal.Hand

open Cert.Hand Cert.Ffn.Hand Cert.FfnRefIdeal Cert.FfnRefIdeal.Gen

/-- The reference's run: given the same arrays of reals, its six results are those values too. -/
theorem reference_run (m : (ℓ : Loc nD τ sig) → Buf (Elt Ideal) ℓ) (ρ : Dev nD → PrngReg) (P : Dev nD → Args)
    (hx : ∀ c : Dev nD, @Eq (FVec Ideal (Mat 8192 1024) .f32) (m ((c.tc : Thread nD τ).loc main_arg0)) (cm (P c).x))
    (hg : ∀ c : Dev nD, @Eq (FVec Ideal ⟨1, ![1024]⟩ .f32) (m ((c.tc : Thread nD τ).loc main_arg1)) (cv (P c).g))
    (hwg : ∀ c : Dev nD, @Eq (FVec Ideal (Mat 1024 2816) .f32) (m ((c.tc : Thread nD τ).loc main_arg2)) (cm (P c).wg))
    (hwu : ∀ c : Dev nD, @Eq (FVec Ideal (Mat 1024 2816) .f32) (m ((c.tc : Thread nD τ).loc main_arg3)) (cm (P c).wu))
    (hwd : ∀ c : Dev nD, @Eq (FVec Ideal (Mat 2816 1024) .f32) (m ((c.tc : Thread nD τ).loc main_arg4)) (cm (P c).wd))
    (hdout : ∀ c : Dev nD, @Eq (FVec Ideal (Mat 8192 1024) .f32) (m ((c.tc : Thread nD τ).loc main_arg5)) (cm (P c).dout)) :
    θ_run defs (onTc (τ := τ) (main (F := Ideal))) ⟨m, fun _ => 0, ρ⟩ (fun r => ∀ c : Dev nD,
      @Eq (FVec Ideal (Mat 8192 1024) .f32) (r.2.mem ((c.tc : Thread nD τ).loc main_v23)) (cm (P c).y)
      ∧ @Eq (FVec Ideal (Mat 8192 1024) .f32) (r.2.mem ((c.tc : Thread nD τ).loc main_v60)) (cm (P c).dx)
      ∧ @Eq (FVec Ideal ⟨1, ![1024]⟩ .f32) (r.2.mem ((c.tc : Thread nD τ).loc main_v45)) (cv (P c).dg)
      ∧ @Eq (FVec Ideal (Mat 1024 2816) .f32) (r.2.mem ((c.tc : Thread nD τ).loc main_v37)) (cm (P c).dwg)
      ∧ @Eq (FVec Ideal (Mat 1024 2816) .f32) (r.2.mem ((c.tc : Thread nD τ).loc main_v33)) (cm (P c).dwu)
      ∧ @Eq (FVec Ideal (Mat 2816 1024) .f32) (r.2.mem ((c.tc : Thread nD τ).loc main_v28)) (cm (P c).dwd)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.FfnRefIdeal.Value.run (F := Ideal) m ρ)
  obtain ⟨h1, h2, h3, h4, h5, h6, ha⟩ := h c
  refine ⟨h1.trans ((Read.val_main_v23_eq ..).trans ?_), h2.trans ((Read.val_main_v60_eq ..).trans ?_),
    h3.trans ((Read.val_main_v45_eq ..).trans ?_), h4.trans ((Read.val_main_v37_eq ..).trans ?_),
    h5.trans ((Read.val_main_v33_eq ..).trans ?_), h6.trans ((Read.val_main_v28_eq ..).trans ?_), ha⟩
  · rw [hx c, hg c, hwg c, hwu c, hwd c]; exact ref_y (P c)
  · rw [hx c, hg c, hwg c, hwu c, hwd c, hdout c]; exact ref_dx (P c)
  · rw [hx c, hg c, hwg c, hwu c, hwd c, hdout c]; exact ref_dg (P c)
  · rw [hx c, hg c, hwg c, hwu c, hwd c, hdout c]; exact ref_dwg (P c)
  · rw [hx c, hg c, hwg c, hwd c, hdout c]; exact ref_dwu (P c)
  · rw [hx c, hg c, hwg c, hwu c, hdout c]; exact ref_dwd (P c)

end Cert.FfnRefIdeal.Hand

namespace Cert.Ffn.Hand

open Cert.Hand

set_option maxHeartbeats 1600000 in
/-- The claim about the block's six results. -/
theorem algebraic : Cert.algebraic_FfnIdeal_FfnRefIdeal_pre_ffn_finite (hPre_ffn_finite := preFacts) := by
  intro m g m' g' hpre hagree
  have hP := fun c => reals _ _ _ _ _ _ (hpre c)
  choose P h0 h1 h2 h3 h4 h5 using hP
  exact ⟨fun c => cm (P c).y, fun c => cm (P c).dx, fun c => cv (P c).dg, fun c => cm (P c).dwg, fun c => cm (P c).dwu,
    fun c => cm (P c).dwd, Cert.FfnIdeal.Hand.kernel_run m g P (fun c => ⟨h0 c, h1 c, h2 c, h3 c, h4 c, h5 c⟩),
    Cert.FfnRefIdeal.Hand.reference_run m' g' P (fun c => (hagree c).1.trans (h0 c)) (fun c => (hagree c).2.1.trans (h1 c))
      (fun c => (hagree c).2.2.1.trans (h2 c)) (fun c => (hagree c).2.2.2.1.trans (h3 c))
      (fun c => (hagree c).2.2.2.2.1.trans (h4 c)) (fun c => (hagree c).2.2.2.2.2.trans (h5 c))⟩

end Cert.Ffn.Hand
end
-- ==== Proof.Cross.Run.lean ====
/-
  The run of the cross-attention block's calls: every array that the program holds ends as the fold over its calls says.
-/
module

public import proofs.«01_k».proof.Proof.Gen.CrossIdeal.Frame

@[expose] public section

set_option maxRecDepth 16384

noncomputable section

namespace Cert.Cross.Hand

open Cert.CrossIdeal Cert.CrossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every weakly fair execution ends, and every array that outlives the calls then holds what the fold says. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => h)

end Cert.Cross.Hand
end
-- ==== Proof.Cross.Tiled.lean ====
/-
  The cross-attention block's normalisations and products by rows, call by call: the array that each leaves, as a function of the arrays that it finds.
-/
module

public import proofs.«01_k».proof.Proof.Gen.CrossIdeal.Frame.Region0
public import proofs.«01_k».proof.Proof.Gen.CrossIdeal.Frame.Region1
public import proofs.«01_k».proof.Proof.Gen.CrossIdeal.Frame.Region2
public import proofs.«01_k».proof.Proof.Gen.CrossIdeal.Frame.Region3
public import proofs.«01_k».proof.Proof.Gen.CrossIdeal.Frame.Region5
public import proofs.«01_k».proof.Proof.Gen.CrossIdeal.Frame.Region7
public import proofs.«01_k».proof.Proof.Gen.CrossIdeal.Frame.Region11
public import proofs.«01_k».proof.Proof.Stages
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Cross.Hand

open Cert.CrossIdeal Cert.CrossIdeal.Gen Cert.Hand

/-- The row length of the model's width, as the programs write it. -/
abbrev w1024 : EReal := Ideal.ofBits FTy.f32 0x44800000#32

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem final0_2 (c : Dev nD) : (dat0 (F := Ideal) V c).arrAt 2 cfg0.N = rms w1024 (V c (Pipeline.arrRef spec0 0)) (V c (Pipeline.arrRef spec0 1)) := by
  refine (dat0 V c).arrAt_eq_of_covers 2 _ (by decide +kernel) fun t _ y => ?_
  blk_simp
  rw [after0_2]; frame_out
  pointwise [k0_pay1, rms, Hand.inv]
  blk_point [iblk0, idx0 t]

theorem idx1 : ∀ t : Fin cfg1.N, win1_0.index t = ![0, 0] ∧ win1_1.index t = ![0, 0] ∧ win1_2.index t = ![0, 0] :=
  (by decide +kernel : ∀ t : Fin grid1.N, _)

theorem final1_2 (c : Dev nD) : (dat1 (F := Ideal) V c).arrAt 2 cfg1.N = rms w1024 (V c (Pipeline.arrRef spec1 0)) (V c (Pipeline.arrRef spec1 1)) := by
  refine (dat1 V c).arrAt_eq_of_covers 2 _ (by decide +kernel) fun t _ y => ?_
  blk_simp
  rw [after1_2]; frame_out
  pointwise [k1_pay1, rms, Hand.inv]
  blk_point [iblk1, idx1 t]

theorem idx2 : ∀ t : Fin cfg2.N, win2_0.index t = ![t.val, 0] ∧ win2_1.index t = ![0, 0] ∧ win2_2.index t = ![t.val, 0] :=
  (by decide +kernel : ∀ t : Fin grid2.N, _)

theorem final2_2 (c : Dev nD) : (dat2 (F := Ideal) V c).arrAt 2 cfg2.N = nn (n := 8192) (m := 1024) (d := 1024) (φ := .bf16) (ψ := .bf16) (χ := .bf16) (V c (Pipeline.arrRef spec2 0)) (V c (Pipeline.arrRef spec2 1)) := by
  refine (dat2 V c).arrAt_eq_of_covers 2 _ (by decide +kernel) fun t _ y => ?_
  blk_simp
  rw [after2_2]; frame_out
  pointwise [k2_pay1, Hand.nn]
  blk_point [iblk2, idx2 t]

theorem idx3 : ∀ t : Fin cfg3.N, win3_0.index t = ![0, 0] ∧ win3_1.index t = ![0, 0] ∧ win3_2.index t = ![0, 0] :=
  (by decide +kernel : ∀ t : Fin grid3.N, _)

theorem final3_2 (c : Dev nD) : (dat3 (F := Ideal) V c).arrAt 2 cfg3.N = nt (φ := .bf16) (ψ := .bf16) (χ := .bf16) (V c (Pipeline.arrRef spec3 0)) (V c (Pipeline.arrRef spec3 1)) := by
  refine (dat3 V c).arrAt_eq_of_covers 2 _ (by decide +kernel) fun t _ y => ?_
  blk_simp
  rw [after3_2]; frame_out
  pointwise [k3_pay1, Hand.nt]
  blk_point [iblk3, idx3 t]

theorem idx5 : ∀ t : Fin cfg5.N, win5_0.index t = ![t.val, 0] ∧ win5_1.index t = ![0, 0] ∧ win5_2.index t = ![t.val, 0] ∧ win5_3.index t = ![t.val, 0] :=
  (by decide +kernel : ∀ t : Fin grid5.N, _)

theorem final5_3 (c : Dev nD) : (dat5 (F := Ideal) V c).arrAt 3 cfg5.N = fun j => (show FVec Ideal S8192x1024 .f32 from V c (Pipeline.arrRef spec5 2)) j + nn (n := 8192) (m := 1024) (d := 1024) (φ := .bf16) (ψ := .bf16) (χ := .f32) (V c (Pipeline.arrRef spec5 0)) (V c (Pipeline.arrRef spec5 1)) j := by
  refine (dat5 V c).arrAt_eq_of_covers 3 _ (by decide +kernel) fun t _ y => ?_
  blk_simp
  rw [after5_3]; frame_out
  pointwise [k5_pay1, Hand.nn]
  blk_point [iblk5, idx5 t]

theorem idx7 : ∀ t : Fin cfg7.N, win7_0.index t = ![t.val, 0] ∧ win7_1.index t = ![0, 0] ∧ win7_2.index t = ![t.val, 0] :=
  (by decide +kernel : ∀ t : Fin grid7.N, _)

theorem final7_2 (c : Dev nD) : (dat7 (F := Ideal) V c).arrAt 2 cfg7.N = nt (φ := .f32) (ψ := .bf16) (χ := .bf16) (V c (Pipeline.arrRef spec7 0)) (V c (Pipeline.arrRef spec7 1)) := by
  refine (dat7 V c).arrAt_eq_of_covers 2 _ (by decide +kernel) fun t _ y => ?_
  blk_simp
  rw [after7_2]; frame_out
  pointwise [k7_pay1, Hand.nt]
  blk_point [iblk7, idx7 t]

theorem idx11 : ∀ t : Fin cfg11.N, win11_0.index t = ![0, 0] ∧ win11_1.index t = ![0, 0] ∧ win11_2.index t = ![0, 0] :=
  (by decide +kernel : ∀ t : Fin grid11.N, _)

theorem final11_2 (c : Dev nD) : (dat11 (F := Ideal) V c).arrAt 2 cfg11.N = nn (n := 256) (m := 2048) (d := 1024) (φ := .f32) (ψ := .bf16) (χ := .f32) (V c (Pipeline.arrRef spec11 0)) (V c (Pipeline.arrRef spec11 1)) := by
  refine (dat11 V c).arrAt_eq_of_covers 2 _ (by decide +kernel) fun t _ y => ?_
  blk_simp
  rw [after11_2]; frame_out
  pointwise [k11_pay1, Hand.nn]
  blk_point [iblk11, idx11 t]

end Cert.Cross.Hand
end
-- ==== Proof.Cross.Sums.lean ====
/-
  The cross-attention block's weight gradients: sums over the row blocks, one run of points for each block of rows of the result.
-/
module

public import proofs.«01_k».proof.Proof.Gen.CrossIdeal.Frame.Region6
public import proofs.«01_k».proof.Proof.Gen.CrossIdeal.Frame.Region9
public import proofs.«01_k».proof.Proof.Gen.CrossIdeal.Frame.Region10
public import proofs.«01_k».proof.Proof.Stages
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Cross.Hand

open Cert.CrossIdeal Cert.CrossIdeal.Gen Cert.Hand

variable (V : (c : Dev nD) → (b : Ref sig .tc) → Buf (Elt Ideal) ((c : Thread nD τ).loc b))

theorem zero6 (j) : k6_pay1 (F := Ideal) j = 0 := by pointwise [k6_pay1]

/-- One point adds the product of its row blocks. -/
theorem pay6 (a b acc j) : k6_pay2 (F := Ideal) a b acc j = acc j + ∑ k : Fin 1024, a (ix2 k (j 0)) * b (ix2 k (j 1)) := by
  pointwise [k6_pay2]

theorem idx6 : ∀ t : Fin cfg6.N, win6_0.index t = ![t.val % 8, t.val / 8] ∧ win6_1.index t = ![t.val % 8, 0] ∧ win6_2.index t = ![t.val / 8, 0] :=
  (by decide +kernel : ∀ t : Fin grid6.N, _)

theorem final6_2 (c : Dev nD) : (dat6 (F := Ideal) V c).arrAt 2 cfg6.N = tn (φ := .bf16) (ψ := .f32) (χ := .f32) (V c (Pipeline.arrRef spec6 0)) (V c (Pipeline.arrRef spec6 1)) := by
  refine (dat6 V c).arrAt_eq_of_covers 2 _ (by decide +kernel) fun t hf y => ?_
  blk_simp
  rw [after6_2, Pipeline.eq_sum_fin_of_reset_step_apply_of_flush (fun n h => outsAt6 V c n h) 8 (fun _ => 0) _
    (fun t h j => by rw [outsAt6_A V c t h]; frame_out; rw [pay6, zero6]) (fun t h j => by rw [outsAt6_B V c t h]; frame_out; rw [pay6])
    t ((flush6_2 t).mp hf) _, zero_add]
  unfold Hand.tn
  refine Fin.sum_mul_add_congr fun s k hl => ?_
  blk_point [iblk6, idx6 t, idx6 ⟨_, Pipeline.run_point_lt_of_flush t ((flush6_2 t).mp hf) s⟩]

theorem zero9 (j) : k9_pay1 (F := Ideal) j = 0 := by pointwise [k9_pay1]

/-- One point adds the product of its row blocks. -/
theorem pay9 (a b acc j) : k9_pay2 (F := Ideal) a b acc j = acc j + ∑ k : Fin 1024, a (ix2 k (j 0)) * b (ix2 k (j 1)) := by
  pointwise [k9_pay2]

theorem idx9 : ∀ t : Fin cfg9.N, win9_0.index t = ![t.val % 8, t.val / 8] ∧ win9_1.index t = ![t.val % 8, 0] ∧ win9_2.index t = ![t.val / 8, 0] :=
  (by decide +kernel : ∀ t : Fin grid9.N, _)

theorem final9_2 (c : Dev nD) : (dat9 (F := Ideal) V c).arrAt 2 cfg9.N = tn (φ := .bf16) (ψ := .bf16) (χ := .f32) (V c (Pipeline.arrRef spec9 0)) (V c (Pipeline.arrRef spec9 1)) := by
  refine (dat9 V c).arrAt_eq_of_covers 2 _ (by decide +kernel) fun t hf y => ?_
  blk_simp
  rw [after9_2, Pipeline.eq_sum_fin_of_reset_step_apply_of_flush (fun n h => outsAt9 V c n h) 8 (fun _ => 0) _
    (fun t h j => by rw [outsAt9_A V c t h]; frame_out; rw [pay9, zero9]) (fun t h j => by rw [outsAt9_B V c t h]; frame_out; rw [pay9])
    t ((flush9_2 t).mp hf) _, zero_add]
  unfold Hand.tn
  refine Fin.sum_mul_add_congr fun s k hl => ?_
  blk_point [iblk9, idx9 t, idx9 ⟨_, Pipeline.run_point_lt_of_flush t ((flush9_2 t).mp hf) s⟩]

theorem zero10 (j) : k10_pay1 (F := Ideal) j = 0 := by pointwise [k10_pay1]

/-- The only point of a block adds its product to zero. -/
theorem pay10 (a b acc j) : k10_pay2 (F := Ideal) a b acc j = acc j + ∑ k : Fin 256, a (ix2 k (j 0)) * b (ix2 k (j 1)) := by
  pointwise [k10_pay2]

theorem idx10 : ∀ t : Fin cfg10.N, win10_0.index t = ![0, t.val] ∧ win10_1.index t = ![0, 0] ∧ win10_2.index t = ![t.val, 0] :=
  (by decide +kernel : ∀ t : Fin grid10.N, _)

theorem final10_2 (c : Dev nD) : (dat10 (F := Ideal) V c).arrAt 2 cfg10.N = tn (n := 256) (m := 2048) (d := 1024) (φ := .f32) (ψ := .bf16) (χ := .f32) (V c (Pipeline.arrRef spec10 0)) (V c (Pipeline.arrRef spec10 1)) := by
  refine (dat10 V c).arrAt_eq_of_covers 2 _ (by decide +kernel) fun t _ y => ?_
  blk_simp
  rw [after10_2]; unfold outsAt10; frame_out
  rw [pay10, zero10, zero_add]; unfold Hand.tn
  blk_point [iblk10, idx10 t]

end Cert.Cross.Hand
end
-- ==== Proof.Cross.Back.lean ====
/-
  The gradients of the two normalisations of the cross-attention block: of the rows' and of their gain.
-/
module

public import proofs.«01_k».proof.Proof.Gen.CrossIdeal.Frame.Region12
public import proofs.«01_k».proof.Proof.Gen.CrossIdeal.Frame.Region13
public import proofs.«01_k».proof.Proof.Stages
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Cross.Hand

open Cert.CrossIdeal Cert.CrossIdeal.Gen Cert.Hand

/-- The row length of the model's width, as the programs write it. -/
abbrev w7 : EReal := Ideal.ofBits FTy.f32 0x44800000#32

variable (V : (c : Dev nD) → (b : Ref sig .tc) → Buf (Elt Ideal) ((c : Thread nD τ).loc b))

theorem idx12 : ∀ t : Fin cfg12.N, win12_0.index t = ![0, 0] ∧ win12_1.index t = ![0, 0] ∧ win12_2.index t = ![0, 0] ∧ win12_3.index t = ![0, 0] ∧ win12_4.index t = ![0, 0] :=
  (by decide +kernel : ∀ t : Fin grid12.N, _)

theorem zero12 (j) : k12_pay5 (F := Ideal) j = 0 := by pointwise [k12_pay5]

/-- The gain's gradient from the memory rows. -/
theorem pay12 (v0 v11 acc j) : k12_pay6 (F := Ideal) v0 v11 acc j = acc j + ∑ i : Fin 256, v11 (ix2 i (j 1)) *
    (v0 (ix2 i (j 1)) * Ideal.rsqrt (Ideal.div (∑ k : Fin 1024, v0 (ix2 i k) * v0 (ix2 i k)) w7 + Ideal.ofBits FTy.f32 0x358637BD#32)) := by
  pointwise [k12_pay6, k12_pay3, k12_pay2, k12_pay1]

theorem final12_4 (c : Dev nD) : (dat12 (F := Ideal) V c).arrAt 4 cfg12.N = rmsGain w7 (V c (Pipeline.arrRef spec12 0)) (V c (Pipeline.arrRef spec12 2)) := by
  refine (dat12 V c).arrAt_eq_of_covers 4 _ (by decide +kernel) fun t _ y => ?_
  blk_simp
  rw [after12_4]; unfold outsAt12; frame_out
  rw [pay12, zero12, zero_add]; unfold Hand.rmsGain Hand.inv
  blk_point [iblk12, idx12 t]

theorem idx13 : ∀ t : Fin cfg13.N, win13_0.index t = ![t.val, 0] ∧ win13_1.index t = ![0, 0] ∧ win13_2.index t = ![t.val, 0] ∧ win13_3.index t = ![0, 0] ∧ win13_4.index t = ![t.val, 0] ∧ win13_5.index t = ![t.val, 0] ∧ win13_6.index t = ![0, 0] :=
  (by decide +kernel : ∀ t : Fin grid13.N, _)

theorem final13_5 (c : Dev nD) : (dat13 (F := Ideal) V c).arrAt 5 cfg13.N = rmsArg w7 (V c (Pipeline.arrRef spec13 2)) (V c (Pipeline.arrRef spec13 3))
    (nt (φ := .bf16) (ψ := .bf16) (χ := .f32) (V c (Pipeline.arrRef spec13 0)) (V c (Pipeline.arrRef spec13 1))) (V c (Pipeline.arrRef spec13 4)) := by
  refine (dat13 V c).arrAt_eq_of_covers 5 _ (by decide +kernel) fun t _ y => ?_
  blk_simp
  rw [after13_5]
  by_cases h : t.val % 16 = 0
  · rw [outsAt13_A V c t h]; frame_out
    pointwise [k13_pay5, k13_pay4, k13_pay3, k13_pay2, rmsArg, Hand.nt, Hand.inv]
    blk_point [iblk13, idx13 t]
  · rw [outsAt13_B V c t h]; frame_out
    pointwise [k13_pay5, k13_pay4, k13_pay3, k13_pay2, rmsArg, Hand.nt, Hand.inv]
    blk_point [iblk13, idx13 t]

theorem zero13 (j) : k13_pay6 (F := Ideal) j = 0 := by pointwise [k13_pay6]

/-- One point adds its rows' share of the gain's gradient. -/
theorem pay13 (v0 v2 v5 acc j) : k13_pay1 (F := Ideal) (k13_pay2 v0 v2) (k13_pay4 v5) acc j = acc j + ∑ i : Fin 512,
    (∑ k : Fin 1024, v0 (ix2 i k) * v2 (ix2 (j 1) k)) *
      (v5 (ix2 i (j 1)) * Ideal.rsqrt (Ideal.div (∑ k : Fin 1024, v5 (ix2 i k) * v5 (ix2 i k)) w7 + Ideal.ofBits FTy.f32 0x358637BD#32)) := by
  pointwise [k13_pay1, k13_pay2, k13_pay4, k13_pay3]

theorem final13_6 (c : Dev nD) : (dat13 (F := Ideal) V c).arrAt 6 cfg13.N = rmsGain w7 (V c (Pipeline.arrRef spec13 2))
    (nt (φ := .bf16) (ψ := .bf16) (χ := .f32) (V c (Pipeline.arrRef spec13 0)) (V c (Pipeline.arrRef spec13 1))) := by
  refine (dat13 V c).arrAt_eq_of_covers 6 _ (by decide +kernel) fun t hf y => ?_
  blk_simp
  rw [after13_6, Pipeline.eq_sum_fin_of_reset_step_apply_of_flush (fun n h => (outsAt13 V c n h).2) 16 (fun _ => 0) _
    (fun t h j => by rw [outsAt13_A V c t h]; frame_out; rw [pay13, zero13]) (fun t h j => by rw [outsAt13_B V c t h]; frame_out; rw [pay13])
    t ((flush13_6 t).mp hf) _, zero_add]
  unfold Hand.rmsGain
  refine Fin.sum_mul_add_congr fun s k hl => ?_
  unfold Hand.nt Hand.inv
  blk_point [iblk13, idx13 t, idx13 ⟨_, Pipeline.run_point_lt_of_flush t ((flush13_6 t).mp hf) s⟩]

end Cert.Cross.Hand
end
-- ==== Proof.Attn.lean ====
/-
  The memory attention's stages as functions of whole arrays of extended reals: four heads of 256 columns, the
  keys in the first 1024 columns of `kv` and the values in the other 1024.
-/
module

public import proofs.«01_k».proof.Proof.Stages

@[expose] public section

noncomputable section

open Idealize.ShloMosaic

namespace Cert.Hand

variable {n : ℕ}

/-- The scale of the scores, as the programs write it. -/
abbrev c16 : EReal := Ideal.ofBits FTy.f32 0x3D800000#32

/-- The score of a query row against key row `m`. -/
def sc (q : Fin 256 → EReal) (k : Fin 256 → Fin 256 → EReal) (m : Fin 256) : EReal := (∑ d, q d * k m d) * c16

/-- The largest score of a query row. -/
def scMax (q : Fin 256 → EReal) (k : Fin 256 → Fin 256 → EReal) : EReal := Finset.fold max (Ideal.ofBits FTy.f32 0xFF800000#32) (sc q k) Finset.univ

/-- The attention's weight of key row `m`. -/
def att (q : Fin 256 → EReal) (k : Fin 256 → Fin 256 → EReal) (m : Fin 256) : EReal :=
  Ideal.div (Ideal.exp (sc q k m - scMax q k)) (∑ l, Ideal.exp (sc q k l - scMax q k))

/-- The gradient of the unscaled score, from the gradient `d` of the row that the attention leaves. -/
def dsc (q d : Fin 256 → EReal) (k v : Fin 256 → Fin 256 → EReal) (m : Fin 256) : EReal :=
  att q k m * ((∑ c, d c * v m c) - ∑ l, att q k l * ∑ c, d c * v l c) * c16

/-- Row `i` of head `p`. -/
def hq (q : FVec Ideal (Mat n 1024) .bf16) (p : Fin 4) (i : Fin n) (d : Fin 256) : EReal := q (ix2 i ⟨256 * p.val + d.val, by omega⟩)

/-- The keys of head `p`. -/
def hk (kv : FVec Ideal (Mat 256 2048) .bf16) (p : Fin 4) (m d : Fin 256) : EReal := kv (ix2 m ⟨256 * p.val + d.val, by omega⟩)

/-- The values of head `p`. -/
def hv (kv : FVec Ideal (Mat 256 2048) .bf16) (p : Fin 4) (m d : Fin 256) : EReal := kv (ix2 m ⟨1024 + 256 * p.val + d.val, by omega⟩)

/-- The head of a column. -/
def hd (c : Fin 1024) : Fin 4 := ⟨c.val / 256, by omega⟩

/-- The column of the values that belongs to a column of the queries. -/
def vcol (c : Fin 1024) : Fin 2048 := ⟨1024 + c.val, by omega⟩

/-- The column of the keys that belongs to a column of the queries. -/
def kcol (c : Fin 1024) : Fin 2048 := ⟨c.val, by omega⟩

/-- What the attention leaves. -/
def xatt (q : FVec Ideal (Mat n 1024) .bf16) (kv : FVec Ideal (Mat 256 2048) .bf16) : FVec Ideal (Mat n 1024) .bf16 :=
  fun j => ∑ m, att (hq q (hd (j 1)) (j 0)) (hk kv (hd (j 1))) m * kv (ix2 m (vcol (j 1)))

/-- The gradient of the queries. -/
def xattQ (q : FVec Ideal (Mat n 1024) .bf16) (kv : FVec Ideal (Mat 256 2048) .bf16) (d : FVec Ideal (Mat n 1024) .bf16) : FVec Ideal (Mat n 1024) .bf16 :=
  fun j => ∑ m, dsc (hq q (hd (j 1)) (j 0)) (hq d (hd (j 1)) (j 0)) (hk kv (hd (j 1))) (hv kv (hd (j 1))) m * kv (ix2 m (kcol (j 1)))

/-- Row `i`'s share of the gradient of the keys and the values. -/
def kvTerm (q : FVec Ideal (Mat n 1024) .bf16) (kv : FVec Ideal (Mat 256 2048) .bf16) (d : FVec Ideal (Mat n 1024) .bf16)
    (m : Fin 256) (c : Fin 2048) (i : Fin n) : EReal :=
  if h : c.val < 1024 then dsc (hq q (hd ⟨c.val, h⟩) i) (hq d (hd ⟨c.val, h⟩) i) (hk kv (hd ⟨c.val, h⟩)) (hv kv (hd ⟨c.val, h⟩)) m * q (ix2 i ⟨c.val, h⟩)
  else att (hq q (hd ⟨c.val - 1024, by omega⟩) i) (hk kv (hd ⟨c.val - 1024, by omega⟩)) m * d (ix2 i ⟨c.val - 1024, by omega⟩)

/-- A row's share depends on the row, the keys and the values alone. -/
theorem kvTerm_congr {n' : ℕ} (q : FVec Ideal (Mat n 1024) .bf16) (kv : FVec Ideal (Mat 256 2048) .bf16) (d : FVec Ideal (Mat n 1024) .bf16)
    (q' : FVec Ideal (Mat n' 1024) .bf16) (kv' : FVec Ideal (Mat 256 2048) .bf16) (d' : FVec Ideal (Mat n' 1024) .bf16)
    (m : Fin 256) (c : Fin 2048) (i : Fin n) (i' : Fin n') (hq' : ∀ a, q (ix2 i a) = q' (ix2 i' a)) (hd' : ∀ a, d (ix2 i a) = d' (ix2 i' a))
    (hkv : ∀ l a, kv (ix2 l a) = kv' (ix2 l a)) : kvTerm q kv d m c i = kvTerm q' kv' d' m c i' := by
  have eq : ∀ p, hq q p i = hq q' p i' := fun p => funext fun e => hq' _
  have ed : ∀ p, hq d p i = hq d' p i' := fun p => funext fun e => hd' _
  have ek : ∀ p, hk kv p = hk kv' p := fun p => funext fun l => funext fun e => hkv _ _
  have ev : ∀ p, hv kv p = hv kv' p := fun p => funext fun l => funext fun e => hkv _ _
  unfold kvTerm
  simp only [eq, ed, ek, ev, hq', hd']

/-- The gradient of the keys and the values. -/
def xattKV (q : FVec Ideal (Mat n 1024) .bf16) (kv : FVec Ideal (Mat 256 2048) .bf16) (d : FVec Ideal (Mat n 1024) .bf16) : FVec Ideal (Mat 256 2048) .f32 :=
  fun j => ∑ i, kvTerm q kv d (j 0) (j 1) i

end Cert.Hand
end
-- ==== Proof.Cross.Attn.lean ====
/-
  The memory attention's two calls: four heads, each stored as its own piece of a tile. One point of the backward call
  leaves a tile of the queries' gradient and adds its rows' share of the gradient of the keys and the values.
-/
module

public import proofs.«01_k».proof.Proof.Gen.CrossIdeal.Frame.Region4
public import proofs.«01_k».proof.Proof.Gen.CrossIdeal.Frame.Region8
public import proofs.«01_k».proof.Proof.Attn
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Cross.Hand

open Cert.CrossIdeal Cert.CrossIdeal.Gen Cert.Hand

variable (V : (c : Dev nD) → (b : Ref sig .tc) → Buf (Elt Ideal) ((c : Thread nD τ).loc b))

/-! ## One head -/

/-- The weights times the values. -/
theorem headO (q k v) (x : S512x256.Idx) (r : Fin 512) (c : Fin 256) (hr : x 0 = r) (hc : x 1 = c) : k4_pay2 (F := Ideal) q k v x
    = ∑ m, att (fun e => q (ix2 r e)) (fun m e => k (ix2 m e)) m * v (ix2 m c) := by
  subst hr hc
  pointwise [k4_pay2]
  rfl

/-- The gradient of the scores times the keys. -/
theorem headQ (q d k v w) (x : S512x256.Idx) (r : Fin 512) (c : Fin 256) (hr : x 0 = r) (hc : x 1 = c) : k8_pay8 (F := Ideal) q d k v w x
    = ∑ m, dsc (fun e => q (ix2 r e)) (fun e => d (ix2 r e)) (fun m e => k (ix2 m e)) (fun m e => v (ix2 m e)) m * w (ix2 m c) := by
  subst hr hc
  pointwise [k8_pay8, k8_pay7, k8_pay6, k8_pay5, k8_pay4]
  rfl

/-- The keys' gradient takes the gradient of the scores times the queries. -/
theorem headK (q d k v acc) (x : S256x256.Idx) (r c : Fin 256) (hr : x 0 = r) (hc : x 1 = c) : k8_pay9 (F := Ideal) (k8_pay4 q) (k8_pay7 q d k v) acc x
    = acc x + ∑ i : Fin 512, dsc (fun e => q (ix2 i e)) (fun e => d (ix2 i e)) (fun m e => k (ix2 m e)) (fun m e => v (ix2 m e)) r * q (ix2 i c) := by
  subst hr hc
  pointwise [k8_pay9, k8_pay7, k8_pay6, k8_pay5, k8_pay4]
  rfl

/-- The values' gradient takes the weights times the gradient of what the attention left. -/
theorem headV (q d k acc) (x : S256x256.Idx) (r c : Fin 256) (hr : x 0 = r) (hc : x 1 = c) : k8_pay10 (F := Ideal) (k8_pay5 d) (k8_pay6 q k) acc x
    = acc x + ∑ i : Fin 512, att (fun e => q (ix2 i e)) (fun m e => k (ix2 m e)) r * d (ix2 i c) := by
  subst hr hc
  pointwise [k8_pay10, k8_pay6, k8_pay5, k8_pay4]
  rfl

/-! ## What a head loads -/

section Loads

variable (x0 : Vec Ideal S512x1024 .bf16) (x1 : Vec Ideal S256x2048 .bf16)

theorem ld_q (p : Fin 4) (o : ℕ) (inb) (h : o = 256 * p.val) (i : Fin 512) (e : Fin 256) :
    View.ld (Val := Elt Ideal) (e' := .bf16) x0 (Rect.unit (s := S512x1024) ![0, o] S512x256.size inb) (ix2 i e) = hq (n := 512) x0 p i e := by
  subst h
  unfold hq
  refine congrArg x0 (funext fun a => Fin.ext ?_)
  fin_cases a <;> simp [Rect.emb_apply]

theorem ld_k (p : Fin 4) (o : ℕ) (inb) (h : o = 256 * p.val) (m e : Fin 256) :
    View.ld (Val := Elt Ideal) (e' := .bf16) x1 (Rect.unit (s := S256x2048) ![0, o] S256x256.size inb) (ix2 m e) = hk x1 p m e := by
  subst h
  unfold hk
  refine congrArg x1 (funext fun a => Fin.ext ?_)
  fin_cases a <;> simp [Rect.emb_apply]

theorem ld_v (p : Fin 4) (o : ℕ) (inb) (h : o = 1024 + 256 * p.val) (m e : Fin 256) :
    View.ld (Val := Elt Ideal) (e' := .bf16) x1 (Rect.unit (s := S256x2048) ![0, o] S256x256.size inb) (ix2 m e) = hv x1 p m e := by
  subst h
  unfold hv
  refine congrArg x1 (funext fun a => Fin.ext ?_)
  fin_cases a <;> simp [Rect.emb_apply]

end Loads

theorem hd_eq (c : Fin 1024) (p : Fin 4) (x : Fin 256) (h : c.val = 256 * p.val + x.val) : hd c = p := Fin.ext (by show c.val / 256 = p.val; omega)

section Pieces

variable (x0 : Vec Ideal S512x1024 .bf16) (x1 : Vec Ideal S256x2048 .bf16) (x2 : Vec Ideal S512x1024 .bf16) (p : Fin 4)
  (q d : Vec Ideal S512x256 .bf16) (k v : Vec Ideal S256x256 .bf16)

theorem pieceO (y : S512x1024.Idx) (x : S512x256.Idx) (r : Fin 512) (c : Fin 256) (hr : x 0 = r) (hc : x 1 = c)
    (h0 : (y 0 : ℕ) = r.val) (h1 : (y 1 : ℕ) = 256 * p.val + c.val)
    (eq : ∀ i e, q (ix2 i e) = hq (n := 512) x0 p i e) (ek : ∀ m e, k (ix2 m e) = hk x1 p m e) (ev : ∀ m e, v (ix2 m e) = hv x1 p m e) :
    k4_pay2 (F := Ideal) q k v x = xatt (n := 512) x0 x1 y := by
  rw [headO _ _ _ x r c hr hc]
  simp only [eq, ek, ev]
  show _ = ∑ m, att (hq (n := 512) x0 (hd (y 1)) (y 0)) (hk x1 (hd (y 1))) m * x1 (ix2 m (vcol (y 1)))
  rw [hd_eq (y 1) p c h1, show y 0 = r from Fin.ext h0]
  refine Finset.sum_congr rfl fun m _ => ?_
  congr 1
  unfold hv vcol
  congr 2
  refine Fin.ext ?_
  show 1024 + 256 * p.val + c.val = 1024 + (y 1).val
  omega

theorem pieceQ (y : S512x1024.Idx) (x : S512x256.Idx) (r : Fin 512) (c : Fin 256) (hr : x 0 = r) (hc : x 1 = c)
    (h0 : (y 0 : ℕ) = r.val) (h1 : (y 1 : ℕ) = 256 * p.val + c.val)
    (eq : ∀ i e, q (ix2 i e) = hq (n := 512) x0 p i e) (ed : ∀ i e, d (ix2 i e) = hq (n := 512) x2 p i e)
    (ek : ∀ m e, k (ix2 m e) = hk x1 p m e) (ev : ∀ m e, v (ix2 m e) = hv x1 p m e) :
    k8_pay8 (F := Ideal) q d k v k x = xattQ (n := 512) x0 x1 x2 y := by
  rw [headQ _ _ _ _ _ x r c hr hc]
  simp only [eq, ed, ek, ev]
  show _ = ∑ m, dsc (hq (n := 512) x0 (hd (y 1)) (y 0)) (hq (n := 512) x2 (hd (y 1)) (y 0)) (hk x1 (hd (y 1))) (hv x1 (hd (y 1))) m * x1 (ix2 m (kcol (y 1)))
  rw [hd_eq (y 1) p c h1, show y 0 = r from Fin.ext h0]
  refine Finset.sum_congr rfl fun m _ => ?_
  congr 1
  unfold hk kcol
  congr 2
  refine Fin.ext ?_
  show 256 * p.val + c.val = (y 1).val
  omega

theorem pieceK (y : S256x2048.Idx) (x : S256x256.Idx) (r c : Fin 256) (hr : x 0 = r) (hc : x 1 = c)
    (h0 : (y 0 : ℕ) = r.val) (h1 : (y 1 : ℕ) = 256 * p.val + c.val)
    (eq : ∀ i e, q (ix2 i e) = hq (n := 512) x0 p i e) (ed : ∀ i e, d (ix2 i e) = hq (n := 512) x2 p i e)
    (ek : ∀ m e, k (ix2 m e) = hk x1 p m e) (ev : ∀ m e, v (ix2 m e) = hv x1 p m e) (acc : Vec Ideal S256x256 .f32) (a : EReal) (ea : acc x = a) :
    k8_pay9 (F := Ideal) (k8_pay4 q) (k8_pay7 q d k v) acc x = a + ∑ i, kvTerm (n := 512) x0 x1 x2 (y 0) (y 1) i := by
  rw [headK _ _ _ _ _ x r c hr hc, ea]
  simp only [eq, ed, ek, ev]
  congr 1
  refine Finset.sum_congr rfl fun i _ => ?_
  have h : (y 1).val < 1024 := by omega
  unfold kvTerm
  rw [dif_pos h, hd_eq ⟨(y 1).val, h⟩ p c h1, show y 0 = r from Fin.ext h0]
  congr 1
  unfold hq
  congr 2
  refine Fin.ext ?_
  show 256 * p.val + c.val = (y 1).val
  omega

theorem pieceV (y : S256x2048.Idx) (x : S256x256.Idx) (r c : Fin 256) (hr : x 0 = r) (hc : x 1 = c)
    (h0 : (y 0 : ℕ) = r.val) (h1 : (y 1 : ℕ) = 1024 + 256 * p.val + c.val)
    (eq : ∀ i e, q (ix2 i e) = hq (n := 512) x0 p i e) (ed : ∀ i e, d (ix2 i e) = hq (n := 512) x2 p i e)
    (ek : ∀ m e, k (ix2 m e) = hk x1 p m e) (acc : Vec Ideal S256x256 .f32) (a : EReal) (ea : acc x = a) :
    k8_pay10 (F := Ideal) (k8_pay5 d) (k8_pay6 q k) acc x = a + ∑ i, kvTerm (n := 512) x0 x1 x2 (y 0) (y 1) i := by
  rw [headV _ _ _ _ x r c hr hc, ea]
  simp only [eq, ed, ek]
  congr 1
  refine Finset.sum_congr rfl fun i _ => ?_
  have h : ¬ (y 1).val < 1024 := by omega
  unfold kvTerm
  rw [dif_neg h, hd_eq ⟨(y 1).val - 1024, _⟩ p c (by show (y 1).val - 1024 = _; omega), show y 0 = r from Fin.ext h0]
  congr 1
  unfold hq
  congr 2
  refine Fin.ext ?_
  show 256 * p.val + c.val = (y 1).val - 1024
  omega

end Pieces

/-! ## The forward call -/

theorem tile4 (x0 x1) (y : S512x1024.Idx) : out4_2 (F := Ideal) x0 x1 y = xatt (n := 512) x0 x1 y := by
  unfold out4_2
  canon_tiles x h
  · exact pieceO x0 x1 3 _ _ _ y x _ _ rfl rfl h0 h1 (ld_q x0 3 _ _ rfl) (ld_k x1 3 _ _ rfl) (ld_v x1 3 _ _ rfl)
  · exact pieceO x0 x1 2 _ _ _ y x _ _ rfl rfl h0 h1 (ld_q x0 2 _ _ rfl) (ld_k x1 2 _ _ rfl) (ld_v x1 2 _ _ rfl)
  · exact pieceO x0 x1 1 _ _ _ y x _ _ rfl rfl h0 h1 (ld_q x0 1 _ _ rfl) (ld_k x1 1 _ _ rfl) (ld_v x1 1 _ _ rfl)
  · exact pieceO x0 x1 0 _ _ _ y x _ _ rfl rfl h0 (by rw [h1]; simp) (ld_q x0 0 _ _ rfl) (ld_k x1 0 _ _ rfl) (ld_v x1 0 _ _ rfl)

theorem idx4 : ∀ t : Fin cfg4.N, win4_0.index t = ![t.val, 0] ∧ win4_1.index t = ![0, 0] ∧ win4_2.index t = ![t.val, 0] :=
  (by decide +kernel : ∀ t : Fin grid4.N, _)

theorem final4_2 (c : Dev nD) : (dat4 (F := Ideal) V c).arrAt 2 cfg4.N = xatt (n := 8192) (V c (Pipeline.arrRef spec4 0)) (V c (Pipeline.arrRef spec4 1)) := by
  refine (dat4 V c).arrAt_eq_of_covers 2 _ (by decide +kernel) fun t _ y => ?_
  blk_simp
  rw [after4_2]
  refine (tile4 _ _ _).trans ?_
  unfold xatt hq hk hd vcol
  blk_point [iblk4, idx4 t]

/-! ## The backward call -/

theorem idx8 : ∀ t : Fin cfg8.N, win8_0.index t = ![t.val, 0] ∧ win8_1.index t = ![0, 0] ∧ win8_2.index t = ![t.val, 0] ∧ win8_3.index t = ![t.val, 0] ∧ win8_4.index t = ![0, 0] :=
  (by decide +kernel : ∀ t : Fin grid8.N, _)

/-- Pieces that hold an index hide what was stored before them. -/
theorem canon_front {S : Shape} {e : EltTy} (L M : List (View.Piece (Elt Ideal) S e)) (y : S.Idx) (h : ∃ p ∈ L, y ∈ p.1.set) :
    View.canon (L ++ M) y = View.canon L y := by
  induction L with
  | nil => obtain ⟨p, hp, _⟩ := h; exact absurd hp List.not_mem_nil
  | cons q L ih =>
    by_cases hm : y ∈ q.1.set
    · obtain ⟨x, rfl⟩ := q.1.exists_idx_of_mem hm
      rw [show q.1.idx x = q.1.emb x from rfl]
      exact (View.canon_cons_emb q.1 q.2 (L ++ M) x).trans (View.canon_cons_emb q.1 q.2 L x).symm
    · rw [View.canon_cons_of_not_mem q L hm]
      refine (View.canon_cons_of_not_mem q (L ++ M) hm).trans (ih ?_)
      obtain ⟨p, hp, hy⟩ := h
      rcases List.mem_cons.mp hp with rfl | hp
      · exact absurd hy hm
      · exact ⟨p, hp, hy⟩

/-- Two pieces of 256 columns each, one after the other, have no index in common. -/
theorem apart (o o' : ℕ) (inb inb') (h : o + 256 ≤ o' ∨ o' + 256 ≤ o) :
    Disjoint (Rect.unit (s := S256x2048) ![0, o] S256x256.size inb).set (Rect.unit (s := S256x2048) ![0, o'] S256x256.size inb').toLoadRect.set := by
  rw [Finset.disjoint_left]
  intro i hi hi'
  have a : o ≤ (i 1).val ∧ (i 1).val < o + 256 := Rect.mem_set_unit.mp hi 1
  have b : o' ≤ (i 1).val ∧ (i 1).val < o' + 256 := Rect.mem_set_unit.mp hi' 1
  omega

/-- What a head loads of the gradient of the keys and the values. -/
theorem ld_acc (A : Vec Ideal S256x2048 .f32) (o : ℕ) (inb) (y : S256x2048.Idx) (x : S256x256.Idx) (h0 : (y 0 : ℕ) = x 0) (h1 : (y 1 : ℕ) = o + x 1) :
    View.ld (Val := Elt Ideal) (e' := .f32) A (Rect.unit (s := S256x2048) ![0, o] S256x256.size inb) x = A y := by
  refine congrArg A (funext fun a => Fin.ext ?_)
  fin_cases a <;> simp [Rect.emb_apply, h0, h1]

/-- A point of the backward call after the first adds its rows' share. -/
theorem step8 (c : Dev nD) (t : Fin cfg8.N) (h : ¬ t.val % 16 = 0) (y : S256x2048.Idx) : (outsAt8 (F := Ideal) V c t.val t.isLt).2 y
    = (outsAt8 V c (t.val - 1) (by omega)).2 y + ∑ i : Fin 512, kvTerm (n := 512) (iblk8 V c 0 t) (iblk8 V c 1 t) (iblk8 V c 2 t) (y 0) (y 1) i := by
  rw [outsAt8_B V c t h]; frame_out
  canon_tiles x h
  · refine pieceV _ _ _ 3 _ _ _ y x _ _ rfl rfl h0 h1 (ld_q _ 3 _ _ rfl) (ld_q _ 3 _ _ rfl) (ld_k _ 3 _ _ rfl) _ _ ?_
    exact ld_acc _ _ _ y x h0 h1
  · refine pieceK _ _ _ 3 _ _ _ _ y x _ _ rfl rfl h0 h1 (ld_q _ 3 _ _ rfl) (ld_q _ 3 _ _ rfl) (ld_k _ 3 _ _ rfl) (ld_v _ 3 _ _ rfl) _ _ ?_
    exact ld_acc _ _ _ y x h0 h1
  · refine pieceV _ _ _ 2 _ _ _ y x _ _ rfl rfl h0 h1 (ld_q _ 2 _ _ rfl) (ld_q _ 2 _ _ rfl) (ld_k _ 2 _ _ rfl) _ _ ?_
    exact ld_acc _ _ _ y x h0 h1
  · refine pieceK _ _ _ 2 _ _ _ _ y x _ _ rfl rfl h0 h1 (ld_q _ 2 _ _ rfl) (ld_q _ 2 _ _ rfl) (ld_k _ 2 _ _ rfl) (ld_v _ 2 _ _ rfl) _ _ ?_
    exact ld_acc _ _ _ y x h0 h1
  · refine pieceV _ _ _ 1 _ _ _ y x _ _ rfl rfl h0 h1 (ld_q _ 1 _ _ rfl) (ld_q _ 1 _ _ rfl) (ld_k _ 1 _ _ rfl) _ _ ?_
    exact ld_acc _ _ _ y x h0 h1
  · refine pieceK _ _ _ 1 _ _ _ _ y x _ _ rfl rfl h0 h1 (ld_q _ 1 _ _ rfl) (ld_q _ 1 _ _ rfl) (ld_k _ 1 _ _ rfl) (ld_v _ 1 _ _ rfl) _ _ ?_
    exact ld_acc _ _ _ y x h0 h1
  · refine pieceV _ _ _ 0 _ _ _ y x _ _ rfl rfl h0 h1 (ld_q _ 0 _ _ rfl) (ld_q _ 0 _ _ rfl) (ld_k _ 0 _ _ rfl) _ _ ?_
    exact ld_acc _ _ _ y x h0 h1
  · refine pieceK _ _ _ 0 _ _ _ _ y x _ _ rfl rfl h0 (by omega) (ld_q _ 0 _ _ rfl) (ld_q _ 0 _ _ rfl) (ld_k _ 0 _ _ rfl) (ld_v _ 0 _ _ rfl) _ _ ?_
    exact ld_acc _ _ _ y x h0 (by omega)

/-- The gradient of the keys and the values starts at zero, -/
theorem zero8 (j) : k8_pay3 (F := Ideal) j = 0 := by pointwise [k8_pay3]

/-- a head reads this zero -/
theorem read_zero (v : View sig .tc .vmem S256x2048 .f32) (inb) (r : Rect S256x2048) (x : r.shape.Idx) :
    v.readCov (Val := Elt Ideal) [(⟨Rect.unit (s := S256x2048) ![0, 0] S256x2048.size inb, k8_pay3 (F := Ideal)⟩ : View.Piece (Elt Ideal) S256x2048 .f32)] r.toLoadRect x = (0 : EReal) := by
  rw [View.readCov_fill _ _ _ _ _ (by decide)]
  exact zero8 _

/-- past the pieces of the heads before it. -/
theorem read_past (v : View sig .tc .vmem S256x2048 .f32) (p : View.Piece (Elt Ideal) S256x2048 .f32) (L : List (View.Piece (Elt Ideal) S256x2048 .f32))
    (r : Rect S256x2048) (x : r.shape.Idx) (h : Disjoint p.1.set r.toLoadRect.set) (hL : v.readCov (Val := Elt Ideal) L r.toLoadRect x = (0 : EReal)) :
    v.readCov (Val := Elt Ideal) (p :: L) r.toLoadRect x = (0 : EReal) :=
  (congrFun (View.readCov_cons_of_disjoint v p L r.toLoadRect h) x).trans hL

/-- The first point of the backward call leaves its rows' share. -/
theorem start8 (c : Dev nD) (t : Fin cfg8.N) (h : t.val % 16 = 0) (y : S256x2048.Idx) : (outsAt8 (F := Ideal) V c t.val t.isLt).2 y
    = 0 + ∑ i : Fin 512, kvTerm (n := 512) (iblk8 V c 0 t) (iblk8 V c 1 t) (iblk8 V c 2 t) (y 0) (y 1) i := by
  rw [outsAt8_A V c t h]; frame_out
  refine (canon_front [_, _, _, _, _, _, _, _] [_] y (View.cover_of_tiled_head _ _ _ rfl y)).trans ?_
  canon_tiles x h
  · refine pieceV _ _ _ 3 _ _ _ y x _ _ rfl rfl h0 h1 (ld_q _ 3 _ _ rfl) (ld_q _ 3 _ _ rfl) (ld_k _ 3 _ _ rfl) _ _ ?_
    exact read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_zero _ _ _ _)))))))
  · refine pieceK _ _ _ 3 _ _ _ _ y x _ _ rfl rfl h0 h1 (ld_q _ 3 _ _ rfl) (ld_q _ 3 _ _ rfl) (ld_k _ 3 _ _ rfl) (ld_v _ 3 _ _ rfl) _ _ ?_
    exact read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_zero _ _ _ _))))))
  · refine pieceV _ _ _ 2 _ _ _ y x _ _ rfl rfl h0 h1 (ld_q _ 2 _ _ rfl) (ld_q _ 2 _ _ rfl) (ld_k _ 2 _ _ rfl) _ _ ?_
    exact read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_zero _ _ _ _)))))
  · refine pieceK _ _ _ 2 _ _ _ _ y x _ _ rfl rfl h0 h1 (ld_q _ 2 _ _ rfl) (ld_q _ 2 _ _ rfl) (ld_k _ 2 _ _ rfl) (ld_v _ 2 _ _ rfl) _ _ ?_
    exact read_past _ _ _ _ _ (apart _ _ (by decide) (by decide) (by decide)) (read_past _ _ _ _ _ (apart _ _ (by decide) (by decide) (by decide)) (read_past _ _ _ _ _ (apart _ _ (by decide) (by decide) (by decide)) (read_past _ _ _ _ _ (apart _ _ (by decide) (by decide) (by decide)) (read_zero _ _ _ _))))
  · refine pieceV _ _ _ 1 _ _ _ y x _ _ rfl rfl h0 h1 (ld_q _ 1 _ _ rfl) (ld_q _ 1 _ _ rfl) (ld_k _ 1 _ _ rfl) _ _ ?_
    exact read_past _ _ _ _ _ (apart _ _ (by decide) (by decide) (by decide)) (read_past _ _ _ _ _ (apart _ _ (by decide) (by decide) (by decide)) (read_past _ _ _ _ _ (apart _ _ (by decide) (by decide) (by decide)) (read_zero _ _ _ _)))
  · refine pieceK _ _ _ 1 _ _ _ _ y x _ _ rfl rfl h0 h1 (ld_q _ 1 _ _ rfl) (ld_q _ 1 _ _ rfl) (ld_k _ 1 _ _ rfl) (ld_v _ 1 _ _ rfl) _ _ ?_
    exact read_past _ _ _ _ _ (apart _ _ (by decide) (by decide) (by decide)) (read_past _ _ _ _ _ (apart _ _ (by decide) (by decide) (by decide)) (read_zero _ _ _ _))
  · refine pieceV _ _ _ 0 _ _ _ y x _ _ rfl rfl h0 h1 (ld_q _ 0 _ _ rfl) (ld_q _ 0 _ _ rfl) (ld_k _ 0 _ _ rfl) _ _ ?_
    exact read_past _ _ _ _ _ (apart _ _ (by decide) (by decide) (by decide)) (read_zero _ _ _ _)
  · refine pieceK _ _ _ 0 _ _ _ _ y x _ _ rfl rfl h0 (by omega) (ld_q _ 0 _ _ rfl) (ld_q _ 0 _ _ rfl) (ld_k _ 0 _ _ rfl) (ld_v _ 0 _ _ rfl) _ _ ?_
    exact read_zero _ _ _ _

theorem final8_4 (c : Dev nD) : (dat8 (F := Ideal) V c).arrAt 4 cfg8.N
    = xattKV (n := 8192) (V c (Pipeline.arrRef spec8 0)) (V c (Pipeline.arrRef spec8 1)) (V c (Pipeline.arrRef spec8 2)) := by
  refine (dat8 V c).arrAt_eq_of_covers 4 _ (by decide +kernel) fun t hf y => ?_
  blk_simp
  rw [after8_4, Pipeline.eq_sum_fin_of_reset_step_apply_of_flush (fun n h => (outsAt8 V c n h).2) 16 (fun _ => 0)
    (fun p y => ∑ i : Fin 512, kvTerm (n := 512) (iblk8 V c 0 p) (iblk8 V c 1 p) (iblk8 V c 2 p) (y 0) (y 1) i)
    (fun t h j => start8 V c t h j) (fun t h j => step8 V c t h j) t ((flush8_4 t).mp hf) _, zero_add]
  unfold xattKV
  refine Fin.sum_mul_add_congr fun s k hl => ?_
  have e : ((cfg8.win 4).blk t).view.emb y = y := by blk_ext [idx8 t]
  rw [e]
  refine kvTerm_congr _ _ _ _ _ _ _ _ _ _ (fun a => ?_) (fun a => ?_) (fun m a => ?_)
  all_goals blk_point [iblk8, idx8 ⟨_, Pipeline.run_point_lt_of_flush t ((flush8_4 t).mp hf) s⟩]

theorem tile8 (c : Dev nD) (t : Fin cfg8.N) (y : S512x1024.Idx) : (outsAt8 (F := Ideal) V c t.val t.isLt).1 y
    = xattQ (n := 512) (iblk8 V c 0 t) (iblk8 V c 1 t) (iblk8 V c 2 t) y := by
  by_cases h : t.val % 16 = 0
  · rw [outsAt8_A V c t h]; frame_out
    canon_tiles x h
    · exact pieceQ _ _ _ 3 _ _ _ _ y x _ _ rfl rfl h0 h1 (ld_q _ 3 _ _ rfl) (ld_q _ 3 _ _ rfl) (ld_k _ 3 _ _ rfl) (ld_v _ 3 _ _ rfl)
    · exact pieceQ _ _ _ 2 _ _ _ _ y x _ _ rfl rfl h0 h1 (ld_q _ 2 _ _ rfl) (ld_q _ 2 _ _ rfl) (ld_k _ 2 _ _ rfl) (ld_v _ 2 _ _ rfl)
    · exact pieceQ _ _ _ 1 _ _ _ _ y x _ _ rfl rfl h0 h1 (ld_q _ 1 _ _ rfl) (ld_q _ 1 _ _ rfl) (ld_k _ 1 _ _ rfl) (ld_v _ 1 _ _ rfl)
    · exact pieceQ _ _ _ 0 _ _ _ _ y x _ _ rfl rfl h0 (by rw [h1]; simp) (ld_q _ 0 _ _ rfl) (ld_q _ 0 _ _ rfl) (ld_k _ 0 _ _ rfl) (ld_v _ 0 _ _ rfl)
  · rw [outsAt8_B V c t h]; frame_out
    canon_tiles x h
    · exact pieceQ _ _ _ 3 _ _ _ _ y x _ _ rfl rfl h0 h1 (ld_q _ 3 _ _ rfl) (ld_q _ 3 _ _ rfl) (ld_k _ 3 _ _ rfl) (ld_v _ 3 _ _ rfl)
    · exact pieceQ _ _ _ 2 _ _ _ _ y x _ _ rfl rfl h0 h1 (ld_q _ 2 _ _ rfl) (ld_q _ 2 _ _ rfl) (ld_k _ 2 _ _ rfl) (ld_v _ 2 _ _ rfl)
    · exact pieceQ _ _ _ 1 _ _ _ _ y x _ _ rfl rfl h0 h1 (ld_q _ 1 _ _ rfl) (ld_q _ 1 _ _ rfl) (ld_k _ 1 _ _ rfl) (ld_v _ 1 _ _ rfl)
    · exact pieceQ _ _ _ 0 _ _ _ _ y x _ _ rfl rfl h0 (by rw [h1]; simp) (ld_q _ 0 _ _ rfl) (ld_q _ 0 _ _ rfl) (ld_k _ 0 _ _ rfl) (ld_v _ 0 _ _ rfl)

theorem final8_3 (c : Dev nD) : (dat8 (F := Ideal) V c).arrAt 3 cfg8.N
    = xattQ (n := 8192) (V c (Pipeline.arrRef spec8 0)) (V c (Pipeline.arrRef spec8 1)) (V c (Pipeline.arrRef spec8 2)) := by
  refine (dat8 V c).arrAt_eq_of_covers 3 _ (by decide +kernel) fun t _ y => ?_
  blk_simp
  rw [after8_3]
  refine (tile8 V c t _).trans ?_
  unfold xattQ hq hk hv hd kcol
  blk_point [iblk8, idx8 t]

end Cert.Cross.Hand
end
-- ==== Proof.RealAttn.lean ====
/-
  The attention over real numbers: of a block of queries against 256 keys and values in four heads, and its gradients; and that
  the attention over extended reals, given arrays of reals, leaves the arrays of these reals.
-/
module

public import proofs.«01_k».proof.Proof.RealStages
public import proofs.«01_k».proof.Proof.Attn

@[expose] public section

noncomputable section

open Idealize.ShloMosaic

namespace Cert.Hand

variable {n : ℕ}

/-- The `f32` word of one sixteenth. -/
theorem sixteenth_f32 : Ideal.ofBits FTy.f32 (0x3D800000#32) = ((1 / 16 : ℝ) : EReal) := by
  simp [Ideal.ofBits, Ideal.ieee]
  rw [← EReal.coe_mul]
  norm_num

/-- The `f32` word of −∞. -/
theorem bot_f32 : Ideal.ofBits FTy.f32 (0xFF800000#32) = ⊥ := by
  simp [Ideal.ofBits, Ideal.ieee]

/-- The `f32` word of one. -/
theorem one_f32 : Ideal.ofBits FTy.f32 (0x3F800000#32) = 1 := by
  simp [Ideal.ofBits, Ideal.ieee]
  rw [← EReal.coe_mul]
  norm_num

/-- The largest of finitely many reals is a real. -/
theorem max_real (f : Fin 256 → ℝ) : ∃ M : ℝ, Finset.fold max (Ideal.ofBits FTy.f32 0xFF800000#32) (fun m => ((f m : ℝ) : EReal)) Finset.univ = (M : EReal) := by
  rw [bot_f32]
  obtain ⟨m, _, h⟩ := Finset.exists_mem_eq_sup (Finset.univ : Finset (Fin 256)) Finset.univ_nonempty fun m => ((f m : ℝ) : EReal)
  exact ⟨f m, h⟩

/-- That real. -/
def rmax (f : Fin 256 → ℝ) : ℝ := (Finset.fold max (Ideal.ofBits FTy.f32 0xFF800000#32) (fun m => ((f m : ℝ) : EReal)) Finset.univ).toReal

theorem rmax_eq (f : Fin 256 → ℝ) : Finset.fold max (Ideal.ofBits FTy.f32 0xFF800000#32) (fun m => ((f m : ℝ) : EReal)) Finset.univ = ((rmax f : ℝ) : EReal) := by
  unfold rmax
  obtain ⟨M, h⟩ := max_real f
  rw [h, EReal.toReal_coe]

/-- The exponential of a real. -/
theorem exp_real (x : ℝ) : Ideal.exp (x : EReal) = ((Real.exp x : ℝ) : EReal) := rfl

/-- A positive sum of exponentials. -/
theorem sum_exp_pos (f : Fin 256 → ℝ) : 0 < ∑ l, Real.exp (f l) := Finset.sum_pos (fun l _ => Real.exp_pos _) Finset.univ_nonempty

/-- The weights do not depend on the number taken from every score. -/
theorem shift (f : Fin 256 → ℝ) (M : ℝ) (m : Fin 256) :
    Real.exp (f m - M) / ∑ l, Real.exp (f l - M) = Real.exp (f m) / ∑ l, Real.exp (f l) := by
  simp only [Real.exp_sub]
  rw [← Finset.sum_div]
  exact div_div_div_cancel_right₀ (Real.exp_pos M).ne' _ _

/-- The score of a query row against key row `m`. -/
def rsc (q : Fin 256 → ℝ) (k : Fin 256 → Fin 256 → ℝ) (m : Fin 256) : ℝ := (∑ d, q d * k m d) * (1 / 16)

/-- The attention's weight of key row `m`. -/
def ratt (q : Fin 256 → ℝ) (k : Fin 256 → Fin 256 → ℝ) (m : Fin 256) : ℝ := Real.exp (rsc q k m) / ∑ l, Real.exp (rsc q k l)

/-- The gradient of the unscaled score. -/
def rdsc (q d : Fin 256 → ℝ) (k v : Fin 256 → Fin 256 → ℝ) (m : Fin 256) : ℝ :=
  ratt q k m * ((∑ c, d c * v m c) - ∑ l, ratt q k l * ∑ c, d c * v l c) * (1 / 16)

theorem sc_real (q : Fin 256 → ℝ) (k : Fin 256 → Fin 256 → ℝ) (m : Fin 256) :
    sc (fun d => ((q d : ℝ) : EReal)) (fun m d => ((k m d : ℝ) : EReal)) m = ((rsc q k m : ℝ) : EReal) := by
  unfold sc c16
  simp only [← EReal.coe_mul, sum_coe, sixteenth_f32]
  rfl

theorem att_real (q : Fin 256 → ℝ) (k : Fin 256 → Fin 256 → ℝ) (m : Fin 256) :
    att (fun d => ((q d : ℝ) : EReal)) (fun m d => ((k m d : ℝ) : EReal)) m = ((ratt q k m : ℝ) : EReal) := by
  unfold att scMax
  have e : sc (fun d => ((q d : ℝ) : EReal)) (fun m d => ((k m d : ℝ) : EReal)) = fun m => ((rsc q k m : ℝ) : EReal) := funext (sc_real q k)
  rw [e]
  obtain ⟨M, h⟩ := max_real (rsc q k)
  rw [h]
  simp only [← EReal.coe_sub, exp_real, sum_coe]
  rw [div_real _ _ (sum_exp_pos _).ne', shift]
  rfl

theorem dsc_real (q d : Fin 256 → ℝ) (k v : Fin 256 → Fin 256 → ℝ) (m : Fin 256) :
    dsc (fun d => ((q d : ℝ) : EReal)) (fun c => ((d c : ℝ) : EReal)) (fun m d => ((k m d : ℝ) : EReal)) (fun m d => ((v m d : ℝ) : EReal)) m
      = ((rdsc q d k v m : ℝ) : EReal) := by
  unfold dsc c16
  simp only [att_real, ← EReal.coe_mul, sum_coe, ← EReal.coe_sub, sixteenth_f32]
  rfl

/-- Row `i` of head `p`. -/
def rhq (q : Fin n → Fin 1024 → ℝ) (p : Fin 4) (i : Fin n) (d : Fin 256) : ℝ := q i ⟨256 * p.val + d.val, by omega⟩

/-- The keys of head `p`. -/
def rhk (kv : Fin 256 → Fin 2048 → ℝ) (p : Fin 4) (m d : Fin 256) : ℝ := kv m ⟨256 * p.val + d.val, by omega⟩

/-- The values of head `p`. -/
def rhv (kv : Fin 256 → Fin 2048 → ℝ) (p : Fin 4) (m d : Fin 256) : ℝ := kv m ⟨1024 + 256 * p.val + d.val, by omega⟩

/-- The weight that row `i` of head `p` gives to key row `m`. -/
def rp (q : Fin n → Fin 1024 → ℝ) (kv : Fin 256 → Fin 2048 → ℝ) (p : Fin 4) (i : Fin n) (m : Fin 256) : ℝ := ratt (rhq q p i) (rhk kv p) m

/-- The gradient of the unscaled score of row `i` of head `p` against key row `m`. -/
def rds (q : Fin n → Fin 1024 → ℝ) (kv : Fin 256 → Fin 2048 → ℝ) (d : Fin n → Fin 1024 → ℝ) (p : Fin 4) (i : Fin n) (m : Fin 256) : ℝ :=
  rdsc (rhq q p i) (rhq d p i) (rhk kv p) (rhv kv p) m

/-- What the attention leaves. -/
def rxatt (q : Fin n → Fin 1024 → ℝ) (kv : Fin 256 → Fin 2048 → ℝ) (i : Fin n) (c : Fin 1024) : ℝ := ∑ m, rp q kv (hd c) i m * kv m (vcol c)

/-- The gradient of the queries. -/
def rxattQ (q : Fin n → Fin 1024 → ℝ) (kv : Fin 256 → Fin 2048 → ℝ) (d : Fin n → Fin 1024 → ℝ) (i : Fin n) (c : Fin 1024) : ℝ :=
  ∑ m, rds q kv d (hd c) i m * kv m (kcol c)

/-- The gradient of the keys. -/
def rxattK (q : Fin n → Fin 1024 → ℝ) (kv : Fin 256 → Fin 2048 → ℝ) (d : Fin n → Fin 1024 → ℝ) (m : Fin 256) (c : Fin 1024) : ℝ :=
  ∑ i, rds q kv d (hd c) i m * q i c

/-- The gradient of the values. -/
def rxattV (q : Fin n → Fin 1024 → ℝ) (kv : Fin 256 → Fin 2048 → ℝ) (d : Fin n → Fin 1024 → ℝ) (m : Fin 256) (c : Fin 1024) : ℝ :=
  ∑ i, rp q kv (hd c) i m * d i c

/-- The gradient of the keys and the values. -/
def rxattKV (q : Fin n → Fin 1024 → ℝ) (kv : Fin 256 → Fin 2048 → ℝ) (d : Fin n → Fin 1024 → ℝ) (m : Fin 256) (c : Fin 2048) : ℝ :=
  if h : c.val < 1024 then rxattK q kv d m ⟨c.val, h⟩ else rxattV q kv d m ⟨c.val - 1024, by omega⟩

theorem xatt_cm (q : Fin n → Fin 1024 → ℝ) (kv : Fin 256 → Fin 2048 → ℝ) : xatt (cm q) (cm kv) = cm (rxatt q kv) := by
  refine eq_cm fun i c => ?_
  show ∑ m, att (fun d => ((rhq q (hd c) i d : ℝ) : EReal)) (fun m d => ((rhk kv (hd c) m d : ℝ) : EReal)) m * ((kv m (vcol c) : ℝ) : EReal) = _
  simp only [att_real, ← EReal.coe_mul, sum_coe]
  rfl

theorem xattQ_cm (q : Fin n → Fin 1024 → ℝ) (kv : Fin 256 → Fin 2048 → ℝ) (d : Fin n → Fin 1024 → ℝ) :
    xattQ (cm q) (cm kv) (cm d) = cm (rxattQ q kv d) := by
  refine eq_cm fun i c => ?_
  show ∑ m, dsc (fun e => ((rhq q (hd c) i e : ℝ) : EReal)) (fun e => ((rhq d (hd c) i e : ℝ) : EReal)) (fun m e => ((rhk kv (hd c) m e : ℝ) : EReal))
    (fun m e => ((rhv kv (hd c) m e : ℝ) : EReal)) m * ((kv m (kcol c) : ℝ) : EReal) = _
  simp only [dsc_real, ← EReal.coe_mul, sum_coe]
  rfl

theorem xattKV_cm (q : Fin n → Fin 1024 → ℝ) (kv : Fin 256 → Fin 2048 → ℝ) (d : Fin n → Fin 1024 → ℝ) :
    xattKV (cm q) (cm kv) (cm d) = cm (rxattKV q kv d) := by
  refine eq_cm fun m c => ?_
  show ∑ i, kvTerm (cm q) (cm kv) (cm d) m c i = _
  unfold kvTerm rxattKV
  by_cases h : c.val < 1024
  · simp only [dif_pos h]
    show ∑ i, dsc (fun e => ((rhq q (hd ⟨c.val, h⟩) i e : ℝ) : EReal)) (fun e => ((rhq d (hd ⟨c.val, h⟩) i e : ℝ) : EReal))
      (fun m e => ((rhk kv (hd ⟨c.val, h⟩) m e : ℝ) : EReal)) (fun m e => ((rhv kv (hd ⟨c.val, h⟩) m e : ℝ) : EReal)) m * ((q i ⟨c.val, h⟩ : ℝ) : EReal) = _
    simp only [dsc_real, ← EReal.coe_mul, sum_coe]
    rfl
  · simp only [dif_neg h]
    show ∑ i, att (fun e => ((rhq q (hd ⟨c.val - 1024, _⟩) i e : ℝ) : EReal)) (fun m e => ((rhk kv (hd ⟨c.val - 1024, _⟩) m e : ℝ) : EReal)) m
      * ((d i ⟨c.val - 1024, _⟩ : ℝ) : EReal) = _
    simp only [att_real, ← EReal.coe_mul, sum_coe]
    rfl

end Cert.Hand
end
-- ==== Proof.Cross.Spec.lean ====
/-
  The cross-attention block over real numbers: its value, and the gradients of its input, its two gains and its three weights,
  given the gradient of its value.
-/
module

public import proofs.«01_k».proof.Proof.RealAttn

@[expose] public section

noncomputable section

open Idealize.ShloMosaic Cert.Hand

namespace Cert.Cross.Hand

/-- The block's arguments, and the gradient of its value. -/
structure Args where
  x : Fin 8192 → Fin 1024 → ℝ
  mem : Fin 256 → Fin 1024 → ℝ
  g : Fin 1024 → ℝ
  gm : Fin 1024 → ℝ
  wq : Fin 1024 → Fin 1024 → ℝ
  wkv : Fin 1024 → Fin 2048 → ℝ
  wo : Fin 1024 → Fin 1024 → ℝ
  dout : Fin 8192 → Fin 1024 → ℝ

namespace Args

variable (P : Args)

/-- The normalised rows. -/
def h : Fin 8192 → Fin 1024 → ℝ := rrms P.x P.g
/-- The normalised memory rows. -/
def memn : Fin 256 → Fin 1024 → ℝ := rrms P.mem P.gm
/-- The queries. -/
def q : Fin 8192 → Fin 1024 → ℝ := mmul P.h P.wq
/-- The keys and the values. -/
def kv : Fin 256 → Fin 2048 → ℝ := mmul P.memn P.wkv
/-- What the attention leaves. -/
def o : Fin 8192 → Fin 1024 → ℝ := rxatt P.q P.kv
/-- The block's value: the input plus the attention's projection. -/
def y (i : Fin 8192) (k : Fin 1024) : ℝ := P.x i k + mmul P.o P.wo i k
/-- The gradient of what the attention leaves. -/
def do' : Fin 8192 → Fin 1024 → ℝ := mmulT P.dout P.wo
/-- The gradient of the queries. -/
def dq : Fin 8192 → Fin 1024 → ℝ := rxattQ P.q P.kv P.do'
/-- The gradient of the keys and the values. -/
def dkv : Fin 256 → Fin 2048 → ℝ := rxattKV P.q P.kv P.do'
/-- The gradients of the three weights. -/
def dwo : Fin 1024 → Fin 1024 → ℝ := tmul P.o P.dout
def dwq : Fin 1024 → Fin 1024 → ℝ := tmul P.h P.dq
def dwkvT : Fin 2048 → Fin 1024 → ℝ := tmul P.dkv P.memn
def dwkv (k : Fin 1024) (n : Fin 2048) : ℝ := P.dwkvT n k
/-- The gradient of the normalised memory rows. -/
def dmemn : Fin 256 → Fin 1024 → ℝ := mmulT P.dkv P.wkv
/-- The gradient of the memory's gain. -/
def dgm : Fin 1024 → ℝ := rrmsGain P.mem P.dmemn
/-- The gradient of the normalised rows. -/
def dh : Fin 8192 → Fin 1024 → ℝ := mmulT P.dq P.wq
/-- The gradient of the input, with what came along the residual. -/
def dx : Fin 8192 → Fin 1024 → ℝ := rrmsArg P.x P.g P.dh P.dout
/-- The gradient of the gain. -/
def dg : Fin 1024 → ℝ := rrmsGain P.x P.dh

end Args
end Cert.Cross.Hand
end
-- ==== Proof.Cross.Fold.lean ====
/-
  The cross-attention block's calls in their order: what every array holds, given arrays of reals.
-/
module

public import proofs.«01_k».proof.Proof.Gen.CrossIdeal.Frame.Fold0
public import proofs.«01_k».proof.Proof.Cross.Tiled
public import proofs.«01_k».proof.Proof.Cross.Sums
public import proofs.«01_k».proof.Proof.Cross.Back
public import proofs.«01_k».proof.Proof.Cross.Attn
public import proofs.«01_k».proof.Proof.Cross.Spec
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Cross.Hand

open Cert.CrossIdeal Cert.CrossIdeal.Gen Cert.Hand

/-- The program's argument arrays hold the reals `P`. -/
structure Is (m : (ℓ : Loc nD τ sig) → Buf (Elt Ideal) ℓ) (c : Dev nD) (P : Args) : Prop where
  x : @Eq (FVec Ideal (Mat 8192 1024) .f32) (m ((c : Thread nD τ).loc main_arg0)) (cm P.x)
  mem : @Eq (FVec Ideal (Mat 256 1024) .f32) (m ((c : Thread nD τ).loc main_arg1)) (cm P.mem)
  g : @Eq (FVec Ideal ⟨1, ![1024]⟩ .f32) (m ((c : Thread nD τ).loc main_arg2)) (cv P.g)
  gm : @Eq (FVec Ideal ⟨1, ![1024]⟩ .f32) (m ((c : Thread nD τ).loc main_arg3)) (cv P.gm)
  wq : @Eq (FVec Ideal (Mat 1024 1024) .f32) (m ((c : Thread nD τ).loc main_arg4)) (cm P.wq)
  wkv : @Eq (FVec Ideal (Mat 1024 2048) .f32) (m ((c : Thread nD τ).loc main_arg5)) (cm P.wkv)
  wo : @Eq (FVec Ideal (Mat 1024 1024) .f32) (m ((c : Thread nD τ).loc main_arg6)) (cm P.wo)
  dout : @Eq (FVec Ideal (Mat 8192 1024) .f32) (m ((c : Thread nD τ).loc main_arg7)) (cm P.dout)

variable (m : (ℓ : Loc nD τ sig) → Buf (Elt Ideal) ℓ) (ρ : Dev nD → PrngReg) (c : Dev nD) (P : Args)

theorem at_g (hP : Is m c P) : @Eq (FVec Ideal (Mat 1 1024) .f32) (W1 m ρ c (Proc.devRef .tc main_v0)) (cm (row P.g)) := by
  refine eq_cm fun i k => ?_
  show StableHlo.after hostOps0 _ _ _ = _
  after_results
  have e := hP.g
  pointwise [W0]
  exact congrFun e (ix1 k)

theorem at_gm (hP : Is m c P) : @Eq (FVec Ideal (Mat 1 1024) .f32) (W1 m ρ c (Proc.devRef .tc main_v1)) (cm (row P.gm)) := by
  refine eq_cm fun i k => ?_
  show StableHlo.after hostOps0 _ _ _ = _
  after_results
  have e := hP.gm
  pointwise [W0]
  exact congrFun e (ix1 k)

theorem at_wq (hP : Is m c P) : @Eq (FVec Ideal (Mat 1024 1024) .bf16) (W1 m ρ c (Proc.devRef .tc main_v2)) (cm P.wq) := by
  refine eq_cm fun i k => ?_
  show StableHlo.after hostOps0 _ _ _ = _
  after_results
  pointwise [W0]
  exact congrFun hP.wq (ix2 i k)

theorem at_wkv (hP : Is m c P) : @Eq (FVec Ideal (Mat 2048 1024) .bf16) (W1 m ρ c (Proc.devRef .tc main_v4)) (cm (fun n k => P.wkv k n)) := by
  refine eq_cm fun i k => ?_
  show StableHlo.after hostOps0 _ _ _ = _
  after_results
  pointwise [W0]
  exact congrFun hP.wkv (ix2 k i)

theorem at_wo (hP : Is m c P) : @Eq (FVec Ideal (Mat 1024 1024) .bf16) (W1 m ρ c (Proc.devRef .tc main_v5)) (cm P.wo) := by
  refine eq_cm fun i k => ?_
  show StableHlo.after hostOps0 _ _ _ = _
  after_results
  pointwise [W0]
  exact congrFun hP.wo (ix2 i k)

theorem at_h (hP : Is m c P) : @Eq (FVec Ideal (Mat 8192 1024) .bf16) (W2 m ρ c (Proc.devRef .tc main_v6)) (cm P.h) := by
  have e0 : @Eq (FVec Ideal (Mat 8192 1024) .f32) (V1 m ρ c (Pipeline.arrRef spec0 0)) (cm P.x) := (W1_of m ρ c main_arg0 (by decide)).trans (hP.x)
  have e1 : @Eq (FVec Ideal (Mat 1 1024) .f32) (V1 m ρ c (Pipeline.arrRef spec0 1)) (cm (row P.g)) := at_g m ρ c P hP
  refine (W2_arr m ρ c 2).trans ((final0_2 (V1 m ρ) c).trans ?_)
  rw [e0, e1]
  exact rms_cm _ _

theorem at_memn (hP : Is m c P) : @Eq (FVec Ideal (Mat 256 1024) .bf16) (W3 m ρ c (Proc.devRef .tc main_v7)) (cm P.memn) := by
  have e0 : @Eq (FVec Ideal (Mat 256 1024) .f32) (V2 m ρ c (Pipeline.arrRef spec1 0)) (cm P.mem) := ((W2_of m ρ c main_arg1 (by decide)).trans (W1_of m ρ c main_arg1 (by decide))).trans (hP.mem)
  have e1 : @Eq (FVec Ideal (Mat 1 1024) .f32) (V2 m ρ c (Pipeline.arrRef spec1 1)) (cm (row P.gm)) := (W2_of m ρ c main_v1 (by decide)).trans (at_gm m ρ c P hP)
  refine (W3_arr m ρ c 2).trans ((final1_2 (V2 m ρ) c).trans ?_)
  rw [e0, e1]
  exact rms_cm _ _

theorem at_q (hP : Is m c P) : @Eq (FVec Ideal (Mat 8192 1024) .bf16) (W4 m ρ c (Proc.devRef .tc main_v8)) (cm P.q) := by
  have e0 : @Eq (FVec Ideal (Mat 8192 1024) .bf16) (V3 m ρ c (Pipeline.arrRef spec2 0)) (cm P.h) := (W3_of m ρ c main_v6 (by decide)).trans (at_h m ρ c P hP)
  have e1 : @Eq (FVec Ideal (Mat 1024 1024) .bf16) (V3 m ρ c (Pipeline.arrRef spec2 1)) (cm P.wq) := ((W3_of m ρ c main_v2 (by decide)).trans (W2_of m ρ c main_v2 (by decide))).trans (at_wq m ρ c P hP)
  refine (W4_arr m ρ c 2).trans ((final2_2 (V3 m ρ) c).trans ?_)
  rw [e0, e1]
  exact nn_cm _ _

theorem at_kv (hP : Is m c P) : @Eq (FVec Ideal (Mat 256 2048) .bf16) (W5 m ρ c (Proc.devRef .tc main_v9)) (cm P.kv) := by
  have e0 : @Eq (FVec Ideal (Mat 256 1024) .bf16) (V4 m ρ c (Pipeline.arrRef spec3 0)) (cm P.memn) := (W4_of m ρ c main_v7 (by decide)).trans (at_memn m ρ c P hP)
  have e1 : @Eq (FVec Ideal (Mat 2048 1024) .bf16) (V4 m ρ c (Pipeline.arrRef spec3 1)) (cm (fun n k => P.wkv k n)) := ((W4_of m ρ c main_v4 (by decide)).trans ((W3_of m ρ c main_v4 (by decide)).trans (W2_of m ρ c main_v4 (by decide)))).trans (at_wkv m ρ c P hP)
  refine (W5_arr m ρ c 2).trans ((final3_2 (V4 m ρ) c).trans ?_)
  rw [e0, e1]
  exact nt_cm _ _

theorem at_o (hP : Is m c P) : @Eq (FVec Ideal (Mat 8192 1024) .bf16) (W6 m ρ c (Proc.devRef .tc main_v10)) (cm P.o) := by
  have e0 : @Eq (FVec Ideal (Mat 8192 1024) .bf16) (V5 m ρ c (Pipeline.arrRef spec4 0)) (cm P.q) := (W5_of m ρ c main_v8 (by decide)).trans (at_q m ρ c P hP)
  have e1 : @Eq (FVec Ideal (Mat 256 2048) .bf16) (V5 m ρ c (Pipeline.arrRef spec4 1)) (cm P.kv) := at_kv m ρ c P hP
  refine (W6_arr m ρ c 2).trans ((final4_2 (V5 m ρ) c).trans ?_)
  rw [e0, e1]
  exact xatt_cm _ _

theorem at_y (hP : Is m c P) : @Eq (FVec Ideal (Mat 8192 1024) .f32) (W7 m ρ c (Proc.devRef .tc main_v11)) (cm P.y) := by
  have e0 : @Eq (FVec Ideal (Mat 8192 1024) .bf16) (V6 m ρ c (Pipeline.arrRef spec5 0)) (cm P.o) := at_o m ρ c P hP
  have e1 : @Eq (FVec Ideal (Mat 1024 1024) .bf16) (V6 m ρ c (Pipeline.arrRef spec5 1)) (cm P.wo) := ((W6_of m ρ c main_v5 (by decide)).trans ((W5_of m ρ c main_v5 (by decide)).trans ((W4_of m ρ c main_v5 (by decide)).trans ((W3_of m ρ c main_v5 (by decide)).trans (W2_of m ρ c main_v5 (by decide)))))).trans (at_wo m ρ c P hP)
  have e2 : @Eq (FVec Ideal (Mat 8192 1024) .f32) (V6 m ρ c (Pipeline.arrRef spec5 2)) (cm P.x) := ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide))))))).trans (hP.x)
  refine (W7_arr m ρ c 3).trans ((final5_3 (V6 m ρ) c).trans ?_)
  rw [e0, e1, e2]
  refine eq_cm fun i k => ?_
  show cm (φ := .f32) P.x (ix2 i k) + nn (φ := .bf16) (ψ := .bf16) (χ := .f32) (cm P.o) (cm P.wo) (ix2 i k) = _
  rw [nn_cm]
  simp only [cm_at, ← EReal.coe_add]
  rfl

theorem at_dwo (hP : Is m c P) : @Eq (FVec Ideal (Mat 1024 1024) .f32) (W8 m ρ c (Proc.devRef .tc main_v12)) (cm P.dwo) := by
  have e0 : @Eq (FVec Ideal (Mat 8192 1024) .bf16) (V7 m ρ c (Pipeline.arrRef spec6 0)) (cm P.o) := (W7_of m ρ c main_v10 (by decide)).trans (at_o m ρ c P hP)
  have e1 : @Eq (FVec Ideal (Mat 8192 1024) .f32) (V7 m ρ c (Pipeline.arrRef spec6 1)) (cm P.dout) := ((W7_of m ρ c main_arg7 (by decide)).trans ((W6_of m ρ c main_arg7 (by decide)).trans ((W5_of m ρ c main_arg7 (by decide)).trans ((W4_of m ρ c main_arg7 (by decide)).trans ((W3_of m ρ c main_arg7 (by decide)).trans ((W2_of m ρ c main_arg7 (by decide)).trans (W1_of m ρ c main_arg7 (by decide)))))))).trans (hP.dout)
  refine (W8_arr m ρ c 2).trans ((final6_2 (V7 m ρ) c).trans ?_)
  rw [e0, e1]
  exact tn_cm _ _

theorem at_do (hP : Is m c P) : @Eq (FVec Ideal (Mat 8192 1024) .bf16) (W9 m ρ c (Proc.devRef .tc main_v13)) (cm P.do') := by
  have e0 : @Eq (FVec Ideal (Mat 8192 1024) .f32) (V8 m ρ c (Pipeline.arrRef spec7 0)) (cm P.dout) := ((W8_of m ρ c main_arg7 (by decide)).trans ((W7_of m ρ c main_arg7 (by decide)).trans ((W6_of m ρ c main_arg7 (by decide)).trans ((W5_of m ρ c main_arg7 (by decide)).trans ((W4_of m ρ c main_arg7 (by decide)).trans ((W3_of m ρ c main_arg7 (by decide)).trans ((W2_of m ρ c main_arg7 (by decide)).trans (W1_of m ρ c main_arg7 (by decide))))))))).trans (hP.dout)
  have e1 : @Eq (FVec Ideal (Mat 1024 1024) .bf16) (V8 m ρ c (Pipeline.arrRef spec7 1)) (cm P.wo) := ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide)))))))).trans (at_wo m ρ c P hP)
  refine (W9_arr m ρ c 2).trans ((final7_2 (V8 m ρ) c).trans ?_)
  rw [e0, e1]
  exact nt_cm _ _

theorem at_dq (hP : Is m c P) : @Eq (FVec Ideal (Mat 8192 1024) .bf16) (W10 m ρ c (Proc.devRef .tc main_v14_0)) (cm P.dq) := by
  have e0 : @Eq (FVec Ideal (Mat 8192 1024) .bf16) (V9 m ρ c (Pipeline.arrRef spec8 0)) (cm P.q) := ((W9_of m ρ c main_v8 (by decide)).trans ((W8_of m ρ c main_v8 (by decide)).trans ((W7_of m ρ c main_v8 (by decide)).trans ((W6_of m ρ c main_v8 (by decide)).trans (W5_of m ρ c main_v8 (by decide)))))).trans (at_q m ρ c P hP)
  have e1 : @Eq (FVec Ideal (Mat 256 2048) .bf16) (V9 m ρ c (Pipeline.arrRef spec8 1)) (cm P.kv) := ((W9_of m ρ c main_v9 (by decide)).trans ((W8_of m ρ c main_v9 (by decide)).trans ((W7_of m ρ c main_v9 (by decide)).trans (W6_of m ρ c main_v9 (by decide))))).trans (at_kv m ρ c P hP)
  have e2 : @Eq (FVec Ideal (Mat 8192 1024) .bf16) (V9 m ρ c (Pipeline.arrRef spec8 2)) (cm P.do') := at_do m ρ c P hP
  refine (W10_arr m ρ c 3).trans ((final8_3 (V9 m ρ) c).trans ?_)
  rw [e0, e1, e2]
  exact xattQ_cm _ _ _

theorem at_dkv (hP : Is m c P) : @Eq (FVec Ideal (Mat 256 2048) .f32) (W10 m ρ c (Proc.devRef .tc main_v14_1)) (cm P.dkv) := by
  have e0 : @Eq (FVec Ideal (Mat 8192 1024) .bf16) (V9 m ρ c (Pipeline.arrRef spec8 0)) (cm P.q) := ((W9_of m ρ c main_v8 (by decide)).trans ((W8_of m ρ c main_v8 (by decide)).trans ((W7_of m ρ c main_v8 (by decide)).trans ((W6_of m ρ c main_v8 (by decide)).trans (W5_of m ρ c main_v8 (by decide)))))).trans (at_q m ρ c P hP)
  have e1 : @Eq (FVec Ideal (Mat 256 2048) .bf16) (V9 m ρ c (Pipeline.arrRef spec8 1)) (cm P.kv) := ((W9_of m ρ c main_v9 (by decide)).trans ((W8_of m ρ c main_v9 (by decide)).trans ((W7_of m ρ c main_v9 (by decide)).trans (W6_of m ρ c main_v9 (by decide))))).trans (at_kv m ρ c P hP)
  have e2 : @Eq (FVec Ideal (Mat 8192 1024) .bf16) (V9 m ρ c (Pipeline.arrRef spec8 2)) (cm P.do') := at_do m ρ c P hP
  refine (W10_arr m ρ c 4).trans ((final8_4 (V9 m ρ) c).trans ?_)
  rw [e0, e1, e2]
  exact xattKV_cm _ _ _

theorem at_dwq (hP : Is m c P) : @Eq (FVec Ideal (Mat 1024 1024) .f32) (W11 m ρ c (Proc.devRef .tc main_v15)) (cm P.dwq) := by
  have e0 : @Eq (FVec Ideal (Mat 8192 1024) .bf16) (V10 m ρ c (Pipeline.arrRef spec9 0)) (cm P.h) := ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans (W3_of m ρ c main_v6 (by decide))))))))).trans (at_h m ρ c P hP)
  have e1 : @Eq (FVec Ideal (Mat 8192 1024) .bf16) (V10 m ρ c (Pipeline.arrRef spec9 1)) (cm P.dq) := at_dq m ρ c P hP
  refine (W11_arr m ρ c 2).trans ((final9_2 (V10 m ρ) c).trans ?_)
  rw [e0, e1]
  exact tn_cm _ _

theorem at_dwkvT (hP : Is m c P) : @Eq (FVec Ideal (Mat 2048 1024) .f32) (W12 m ρ c (Proc.devRef .tc main_v16)) (cm P.dwkvT) := by
  have e0 : @Eq (FVec Ideal (Mat 256 2048) .f32) (V11 m ρ c (Pipeline.arrRef spec10 0)) (cm P.dkv) := (W11_of m ρ c main_v14_1 (by decide)).trans (at_dkv m ρ c P hP)
  have e1 : @Eq (FVec Ideal (Mat 256 1024) .bf16) (V11 m ρ c (Pipeline.arrRef spec10 1)) (cm P.memn) := ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans (W4_of m ρ c main_v7 (by decide))))))))).trans (at_memn m ρ c P hP)
  refine (W12_arr m ρ c 2).trans ((final10_2 (V11 m ρ) c).trans ?_)
  rw [e0, e1]
  exact tn_cm _ _

theorem at_dmemn (hP : Is m c P) : @Eq (FVec Ideal (Mat 256 1024) .f32) (W13 m ρ c (Proc.devRef .tc main_v17)) (cm P.dmemn) := by
  have e0 : @Eq (FVec Ideal (Mat 256 2048) .f32) (V12 m ρ c (Pipeline.arrRef spec11 0)) (cm P.dkv) := ((W12_of m ρ c main_v14_1 (by decide)).trans (W11_of m ρ c main_v14_1 (by decide))).trans (at_dkv m ρ c P hP)
  have e1 : @Eq (FVec Ideal (Mat 2048 1024) .bf16) (V12 m ρ c (Pipeline.arrRef spec11 1)) (cm (fun n k => P.wkv k n)) := ((W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (W2_of m ρ c main_v4 (by decide)))))))))))).trans (at_wkv m ρ c P hP)
  refine (W13_arr m ρ c 2).trans ((final11_2 (V12 m ρ) c).trans ?_)
  rw [e0, e1]
  exact nn_cm _ _

theorem at_dgmRow (hP : Is m c P) : @Eq (FVec Ideal (Mat 1 1024) .f32) (W14 m ρ c (Proc.devRef .tc main_v18_1)) (cm (row P.dgm)) := by
  have e0 : @Eq (FVec Ideal (Mat 256 1024) .f32) (V13 m ρ c (Pipeline.arrRef spec12 0)) (cm P.mem) := ((W13_of m ρ c main_arg1 (by decide)).trans ((W12_of m ρ c main_arg1 (by decide)).trans ((W11_of m ρ c main_arg1 (by decide)).trans ((W10_of m ρ c main_arg1 (by decide)).trans ((W9_of m ρ c main_arg1 (by decide)).trans ((W8_of m ρ c main_arg1 (by decide)).trans ((W7_of m ρ c main_arg1 (by decide)).trans ((W6_of m ρ c main_arg1 (by decide)).trans ((W5_of m ρ c main_arg1 (by decide)).trans ((W4_of m ρ c main_arg1 (by decide)).trans ((W3_of m ρ c main_arg1 (by decide)).trans ((W2_of m ρ c main_arg1 (by decide)).trans (W1_of m ρ c main_arg1 (by decide)))))))))))))).trans (hP.mem)
  have e1 : @Eq (FVec Ideal (Mat 256 1024) .f32) (V13 m ρ c (Pipeline.arrRef spec12 2)) (cm P.dmemn) := at_dmemn m ρ c P hP
  refine (W14_arr m ρ c 4).trans ((final12_4 (V13 m ρ) c).trans ?_)
  rw [e0, e1]
  exact rmsGain_cm _ _

theorem at_dx (hP : Is m c P) : @Eq (FVec Ideal (Mat 8192 1024) .f32) (W15 m ρ c (Proc.devRef .tc main_v19_0)) (cm P.dx) := by
  have e0 : @Eq (FVec Ideal (Mat 8192 1024) .f32) (V14 m ρ c (Pipeline.arrRef spec13 2)) (cm P.x) := ((W14_of m ρ c main_arg0 (by decide)).trans ((W13_of m ρ c main_arg0 (by decide)).trans ((W12_of m ρ c main_arg0 (by decide)).trans ((W11_of m ρ c main_arg0 (by decide)).trans ((W10_of m ρ c main_arg0 (by decide)).trans ((W9_of m ρ c main_arg0 (by decide)).trans ((W8_of m ρ c main_arg0 (by decide)).trans ((W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide))))))))))))))).trans (hP.x)
  have e1 : @Eq (FVec Ideal (Mat 1 1024) .f32) (V14 m ρ c (Pipeline.arrRef spec13 3)) (cm (row P.g)) := ((W14_of m ρ c main_v0 (by decide)).trans ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide)))))))))))))).trans (at_g m ρ c P hP)
  have e2 : @Eq (FVec Ideal (Mat 8192 1024) .bf16) (V14 m ρ c (Pipeline.arrRef spec13 0)) (cm P.dq) := ((W14_of m ρ c main_v14_0 (by decide)).trans ((W13_of m ρ c main_v14_0 (by decide)).trans ((W12_of m ρ c main_v14_0 (by decide)).trans (W11_of m ρ c main_v14_0 (by decide))))).trans (at_dq m ρ c P hP)
  have e3 : @Eq (FVec Ideal (Mat 1024 1024) .bf16) (V14 m ρ c (Pipeline.arrRef spec13 1)) (cm P.wq) := ((W14_of m ρ c main_v2 (by decide)).trans ((W13_of m ρ c main_v2 (by decide)).trans ((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide)))))))))))))).trans (at_wq m ρ c P hP)
  have e4 : @Eq (FVec Ideal (Mat 8192 1024) .f32) (V14 m ρ c (Pipeline.arrRef spec13 4)) (cm P.dout) := ((W14_of m ρ c main_arg7 (by decide)).trans ((W13_of m ρ c main_arg7 (by decide)).trans ((W12_of m ρ c main_arg7 (by decide)).trans ((W11_of m ρ c main_arg7 (by decide)).trans ((W10_of m ρ c main_arg7 (by decide)).trans ((W9_of m ρ c main_arg7 (by decide)).trans ((W8_of m ρ c main_arg7 (by decide)).trans ((W7_of m ρ c main_arg7 (by decide)).trans ((W6_of m ρ c main_arg7 (by decide)).trans ((W5_of m ρ c main_arg7 (by decide)).trans ((W4_of m ρ c main_arg7 (by decide)).trans ((W3_of m ρ c main_arg7 (by decide)).trans ((W2_of m ρ c main_arg7 (by decide)).trans (W1_of m ρ c main_arg7 (by decide))))))))))))))).trans (hP.dout)
  refine (W15_arr m ρ c 5).trans ((final13_5 (V14 m ρ) c).trans ?_)
  rw [e0, e1, e2, e3, e4]
  rw [nt_cm]; exact rmsArg_cm _ _ _ _

theorem at_dgRow (hP : Is m c P) : @Eq (FVec Ideal (Mat 1 1024) .f32) (W15 m ρ c (Proc.devRef .tc main_v19_1)) (cm (row P.dg)) := by
  have e0 : @Eq (FVec Ideal (Mat 8192 1024) .f32) (V14 m ρ c (Pipeline.arrRef spec13 2)) (cm P.x) := ((W14_of m ρ c main_arg0 (by decide)).trans ((W13_of m ρ c main_arg0 (by decide)).trans ((W12_of m ρ c main_arg0 (by decide)).trans ((W11_of m ρ c main_arg0 (by decide)).trans ((W10_of m ρ c main_arg0 (by decide)).trans ((W9_of m ρ c main_arg0 (by decide)).trans ((W8_of m ρ c main_arg0 (by decide)).trans ((W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide))))))))))))))).trans (hP.x)
  have e1 : @Eq (FVec Ideal (Mat 8192 1024) .bf16) (V14 m ρ c (Pipeline.arrRef spec13 0)) (cm P.dq) := ((W14_of m ρ c main_v14_0 (by decide)).trans ((W13_of m ρ c main_v14_0 (by decide)).trans ((W12_of m ρ c main_v14_0 (by decide)).trans (W11_of m ρ c main_v14_0 (by decide))))).trans (at_dq m ρ c P hP)
  have e2 : @Eq (FVec Ideal (Mat 1024 1024) .bf16) (V14 m ρ c (Pipeline.arrRef spec13 1)) (cm P.wq) := ((W14_of m ρ c main_v2 (by decide)).trans ((W13_of m ρ c main_v2 (by decide)).trans ((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide)))))))))))))).trans (at_wq m ρ c P hP)
  refine (W15_arr m ρ c 6).trans ((final13_6 (V14 m ρ) c).trans ?_)
  rw [e0, e1, e2]
  rw [nt_cm]; exact rmsGain_cm _ _

theorem at_end_y (hP : Is m c P) : @Eq (FVec Ideal (Mat 8192 1024) .f32) (W16 m ρ c (Proc.devRef .tc main_v11)) (cm P.y) := by
  exact ((W16_of m ρ c main_v11 (by decide)).trans ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans ((W9_of m ρ c main_v11 (by decide)).trans (W8_of m ρ c main_v11 (by decide)))))))))).trans (at_y m ρ c P hP)

theorem at_end_dwo (hP : Is m c P) : @Eq (FVec Ideal (Mat 1024 1024) .f32) (W16 m ρ c (Proc.devRef .tc main_v12)) (cm P.dwo) := by
  exact ((W16_of m ρ c main_v12 (by decide)).trans ((W15_of m ρ c main_v12 (by decide)).trans ((W14_of m ρ c main_v12 (by decide)).trans ((W13_of m ρ c main_v12 (by decide)).trans ((W12_of m ρ c main_v12 (by decide)).trans ((W11_of m ρ c main_v12 (by decide)).trans ((W10_of m ρ c main_v12 (by decide)).trans (W9_of m ρ c main_v12 (by decide))))))))).trans (at_dwo m ρ c P hP)

theorem at_end_dwq (hP : Is m c P) : @Eq (FVec Ideal (Mat 1024 1024) .f32) (W16 m ρ c (Proc.devRef .tc main_v15)) (cm P.dwq) := by
  exact ((W16_of m ρ c main_v15 (by decide)).trans ((W15_of m ρ c main_v15 (by decide)).trans ((W14_of m ρ c main_v15 (by decide)).trans ((W13_of m ρ c main_v15 (by decide)).trans (W12_of m ρ c main_v15 (by decide)))))).trans (at_dwq m ρ c P hP)

theorem at_end_dx (hP : Is m c P) : @Eq (FVec Ideal (Mat 8192 1024) .f32) (W16 m ρ c (Proc.devRef .tc main_v19_0)) (cm P.dx) := by
  exact (W16_of m ρ c main_v19_0 (by decide)).trans (at_dx m ρ c P hP)

theorem at_end_dwkv (hP : Is m c P) : @Eq (FVec Ideal (Mat 1024 2048) .f32) (W16 m ρ c (Proc.devRef .tc main_v22)) (cm P.dwkv) := by
  have e : @Eq (FVec Ideal (Mat 2048 1024) .f32) (W15 m ρ c (Proc.devRef .tc main_v16)) (cm P.dwkvT) := ((W15_of m ρ c main_v16 (by decide)).trans ((W14_of m ρ c main_v16 (by decide)).trans (W13_of m ρ c main_v16 (by decide)))).trans (at_dwkvT m ρ c P hP)
  refine eq_cm fun k n => ?_
  show StableHlo.after hostOps14 _ _ _ = _
  after_results
  pointwise
  exact congrFun e (ix2 n k)

theorem at_end_dg (hP : Is m c P) : @Eq (FVec Ideal ⟨1, ![1024]⟩ .f32) (W16 m ρ c (Proc.devRef .tc main_v20)) (cv P.dg) := by
  have e : @Eq (FVec Ideal (Mat 1 1024) .f32) (W15 m ρ c (Proc.devRef .tc main_v19_1)) (cm (row P.dg)) := (at_dgRow m ρ c P hP)
  refine eq_cv fun k => ?_
  show StableHlo.after hostOps14 _ _ _ = _
  after_results
  pointwise
  exact congrFun e (ix2 0 k)

theorem at_end_dgm (hP : Is m c P) : @Eq (FVec Ideal ⟨1, ![1024]⟩ .f32) (W16 m ρ c (Proc.devRef .tc main_v21)) (cv P.dgm) := by
  have e : @Eq (FVec Ideal (Mat 1 1024) .f32) (W15 m ρ c (Proc.devRef .tc main_v18_1)) (cm (row P.dgm)) := (W15_of m ρ c main_v18_1 (by decide)).trans (at_dgmRow m ρ c P hP)
  refine eq_cv fun k => ?_
  show StableHlo.after hostOps14 _ _ _ = _
  after_results
  pointwise
  exact congrFun e (ix2 0 k)

end Cert.Cross.Hand
end
-- ==== Proof.Cross.Ref.lean ====
/-
  The reference of the cross-attention block, given arrays of reals: every intermediate array is that of the block over the
  reals, up to the last gradients, where the derivative of the normalisation takes another form.
-/
module

public import proofs.«01_k».proof.Proof.Gen.CrossRefIdeal.Read
public import proofs.«01_k».proof.Proof.Cross.Spec
public import Idealize.ShloMosaic.Lib.Pointwise

@[expose] public section

set_option maxRecDepth 16384

noncomputable section

open Idealize.ShloMosaic Idealize.ShloMosaic.TcCoe

namespace Cert.Cross.Hand

open Cert.Hand Cert.CrossRefIdeal Cert.CrossRefIdeal.Read

namespace Args

variable (P : Args)

/-- The scores. -/
def s (p : Fin 4) (i : Fin 8192) (m : Fin 256) : ℝ := rsc (rhq P.q p i) (rhk P.kv p) m
/-- The largest score of a row. -/
def mx (p : Fin 4) (i : Fin 8192) : ℝ := rmax (P.s p i)
/-- The exponentials. -/
def e (p : Fin 4) (i : Fin 8192) (m : Fin 256) : ℝ := Real.exp (P.s p i m - P.mx p i)
/-- Their sum. -/
def z (p : Fin 4) (i : Fin 8192) : ℝ := ∑ m, P.e p i m
/-- The weights. -/
abbrev p : Fin 4 → Fin 8192 → Fin 256 → ℝ := rp P.q P.kv
/-- The gradient of the weights. -/
def dp (p : Fin 4) (i : Fin 8192) (m : Fin 256) : ℝ := ∑ c, rhq P.do' p i c * rhv P.kv p m c

theorem z_pos (p : Fin 4) (i : Fin 8192) : 0 < P.z p i := sum_exp_pos _

theorem p_eq (p : Fin 4) (i : Fin 8192) (m : Fin 256) : P.e p i m / P.z p i = P.p p i m := shift (P.s p i) (P.mx p i) m

end Args

variable (P : Args)

/-- The mean square plus the small number. -/
theorem ref_v6 (i : Fin 8192) (z : Fin 1) : val_main_v6 (F := Ideal) (cm (φ := .f32) P.x) (ix2 i z) = ((msq P.x i : ℝ) : EReal) := by
  pointwise [val_main_v0, val_main_cst, val_main_v1, val_main_v2, val_main_cst_0, val_main_v3, val_main_v4, val_main_cst_1, val_main_v5, val_main_v6]
  simp only [cm_at, ← EReal.coe_mul, sum_coe, w1024_f32, eps_f32]
  rw [div_real _ _ (by norm_num), ← EReal.coe_add]
  rfl

theorem ref_v7 (i : Fin 8192) (z : Fin 1) : val_main_v7 (F := Ideal) (cm (φ := .f32) P.x) (ix2 i z) = ((rinv P.x i : ℝ) : EReal) := by
  pointwise [val_main_v7]
  rw [ref_v6]
  exact rsqrt_real _ (msq_pos P.x i)

/-- The derivative of the reciprocal square root. -/
theorem ref_v10 (i : Fin 8192) (z : Fin 1) : val_main_v10 (F := Ideal) (cm (φ := .f32) P.x) (ix2 i z) = ((-(1 / 2) * (rinv P.x i * rinv P.x i * rinv P.x i) : ℝ) : EReal) := by
  pointwise [val_main_v10, val_main_v9, val_main_cst_2, val_main_v8]
  rw [ref_v6, ref_v7, div_real _ _ (msq_pos P.x i).ne', neghalf_f32, ← EReal.coe_mul, rinv_sq]

theorem ref_v12 : val_main_v12 (F := Ideal) (cm (φ := .f32) P.x) = cm (φ := .f32) fun i k => P.x i k * rinv P.x i := by
  refine eq_cm fun i k => ?_
  pointwise [val_main_v12, val_main_v11]
  rw [ref_v7, cm_at, ← EReal.coe_mul]

theorem ref_v15 : val_main_v15 (F := Ideal) (cm (φ := .f32) P.x) (cv (φ := .f32) P.g) = cm (φ := .f32) P.h := by
  refine eq_cm fun i k => ?_
  pointwise [val_main_v15, val_main_v14, val_main_v13]
  rw [ref_v12, cm_at, cv_at, ← EReal.coe_mul]
  rfl

/-- The same for the memory rows. -/
theorem ref_v22 (i : Fin 256) (z : Fin 1) : val_main_v22 (F := Ideal) (cm (φ := .f32) P.mem) (ix2 i z) = ((msq P.mem i : ℝ) : EReal) := by
  pointwise [val_main_v16, val_main_cst_3, val_main_v17, val_main_v18, val_main_cst_4, val_main_v19, val_main_v20, val_main_cst_5, val_main_v21, val_main_v22]
  simp only [cm_at, ← EReal.coe_mul, sum_coe, w1024_f32, eps_f32]
  rw [div_real _ _ (by norm_num), ← EReal.coe_add]
  rfl

theorem ref_v23 (i : Fin 256) (z : Fin 1) : val_main_v23 (F := Ideal) (cm (φ := .f32) P.mem) (ix2 i z) = ((rinv P.mem i : ℝ) : EReal) := by
  pointwise [val_main_v23]
  rw [ref_v22]
  exact rsqrt_real _ (msq_pos P.mem i)

theorem ref_v25 : val_main_v25 (F := Ideal) (cm (φ := .f32) P.mem) = cm (φ := .f32) fun i k => P.mem i k * rinv P.mem i := by
  refine eq_cm fun i k => ?_
  pointwise [val_main_v25, val_main_v24]
  rw [ref_v23, cm_at, ← EReal.coe_mul]

theorem ref_v28 : val_main_v28 (F := Ideal) (cm (φ := .f32) P.mem) (cv (φ := .f32) P.gm) = cm (φ := .f32) P.memn := by
  refine eq_cm fun i k => ?_
  pointwise [val_main_v28, val_main_v27, val_main_v26]
  rw [ref_v25, cm_at, cv_at, ← EReal.coe_mul]
  rfl

/-- The queries. -/
theorem ref_v29 : val_main_v29 (F := Ideal) (cm (φ := .f32) P.x) (cv (φ := .f32) P.g) (cm (φ := .f32) P.wq) = cm (φ := .f32) P.q := by
  refine eq_cm fun i k => ?_
  pointwise [val_main_v29]
  simp only [ref_v15, cm_at, cv_at, ← EReal.coe_mul, sum_coe]
  rfl

/-- The keys and the values. -/
theorem ref_v31 : val_main_v31 (F := Ideal) (cm (φ := .f32) P.mem) (cv (φ := .f32) P.gm) (cm (φ := .f32) P.wkv) = cm (φ := .f32) P.kv := by
  refine eq_cm fun i k => ?_
  pointwise [val_main_v31]
  simp only [ref_v28, cm_at, cv_at, ← EReal.coe_mul, sum_coe]
  rfl

theorem ref_v30 (i : Fin 8192) (p : Fin 4) (d : Fin 256) : val_main_v30 (F := Ideal) (cm (φ := .f32) P.x) (cv (φ := .f32) P.g) (cm (φ := .f32) P.wq) (ix3 i p d) = ((rhq P.q p i d : ℝ) : EReal) := by
  pointwise [val_main_v30]
  rw [ref_v29, cm_at]
  exact congrArg (fun c => ((P.q i c : ℝ) : EReal)) (Fin.ext (by dsimp only; omega))

theorem ref_v34 (m : Fin 256) (p : Fin 4) (d : Fin 256) : val_main_v34 (F := Ideal) (cm (φ := .f32) P.mem) (cv (φ := .f32) P.gm) (cm (φ := .f32) P.wkv) (ix3 m p d) = ((rhk P.kv p m d : ℝ) : EReal) := by
  pointwise [val_main_v34, val_main_v33, val_main_v32]
  rw [ref_v31, cm_at]
  exact congrArg (fun c => ((P.kv m c : ℝ) : EReal)) (Fin.ext (by dsimp only; omega))

theorem ref_v36 (m : Fin 256) (p : Fin 4) (d : Fin 256) : val_main_v36 (F := Ideal) (cm (φ := .f32) P.mem) (cv (φ := .f32) P.gm) (cm (φ := .f32) P.wkv) (ix3 m p d) = ((rhv P.kv p m d : ℝ) : EReal) := by
  pointwise [val_main_v36, val_main_v35, val_main_v32]
  rw [ref_v31, cm_at]
  exact congrArg (fun c => ((P.kv m c : ℝ) : EReal)) (Fin.ext (by dsimp only; omega))

/-- The scores. -/
theorem ref_v39 (p : Fin 4) (i : Fin 8192) (m : Fin 256) : val_main_v39 (F := Ideal) (cm (φ := .f32) P.x) (cm (φ := .f32) P.mem) (cv (φ := .f32) P.g) (cv (φ := .f32) P.gm) (cm (φ := .f32) P.wq) (cm (φ := .f32) P.wkv) (ix3 p i m) = ((P.s p i m : ℝ) : EReal) := by
  pointwise [val_main_v37, val_main_cst_6, val_main_v38, val_main_v39]
  simp only [ref_v30, ref_v34, sixteenth_f32, cm_at, cv_at, ← EReal.coe_mul, sum_coe]
  rfl

/-- The largest score of a row. -/
theorem ref_v40 (p : Fin 4) (i : Fin 8192) : val_main_v40 (F := Ideal) (cm (φ := .f32) P.x) (cm (φ := .f32) P.mem) (cv (φ := .f32) P.g) (cv (φ := .f32) P.gm) (cm (φ := .f32) P.wq) (cm (φ := .f32) P.wkv) (ix2 p i) = ((P.mx p i : ℝ) : EReal) := by
  pointwise [val_main_cst_7, val_main_v40]
  simp only [ref_v39]
  exact rmax_eq _

theorem max_bot_left (a b : Ideal .f32) (h : a = (⊥ : EReal)) : FloatOps.maximumf a b = b := by
  subst h
  exact max_eq_right bot_le

theorem ref_v47 (p : Fin 4) (i : Fin 8192) : val_main_v47 (F := Ideal) (cm (φ := .f32) P.x) (cm (φ := .f32) P.mem) (cv (φ := .f32) P.g) (cv (φ := .f32) P.gm) (cm (φ := .f32) P.wq) (cm (φ := .f32) P.wkv) (ix2 p i) = ((P.mx p i : ℝ) : EReal) := by
  rw [val_main_v47_apply, ref_v40]
  refine max_bot_left _ _ ?_
  rw [val_main_v46_apply, val_main_cst_9_apply]
  exact bot_f32

theorem ref_v60 (p : Fin 4) (i : Fin 8192) (m : Fin 256) : val_main_v60 (F := Ideal) (cm (φ := .f32) P.x) (cm (φ := .f32) P.mem) (cv (φ := .f32) P.g) (cv (φ := .f32) P.gm) (cm (φ := .f32) P.wq) (cm (φ := .f32) P.wkv) (ix3 p i m) = ((P.e p i m : ℝ) : EReal) := by
  pointwise [val_main_v57, val_main_v58, val_main_v59, val_main_v60]
  rw [ref_v39, ref_v47, ← EReal.coe_sub]
  rfl

theorem ref_v62 (p : Fin 4) (i : Fin 8192) (z : Fin 1) : val_main_v62 (F := Ideal) (cm (φ := .f32) P.x) (cm (φ := .f32) P.mem) (cv (φ := .f32) P.g) (cv (φ := .f32) P.gm) (cm (φ := .f32) P.wq) (cm (φ := .f32) P.wkv) (ix3 p i z) = ((P.z p i : ℝ) : EReal) := by
  pointwise [val_main_cst_15, val_main_v61, val_main_v62]
  simp only [ref_v60, sum_coe]
  rfl

/-- The weights. -/
theorem ref_v64 (p : Fin 4) (i : Fin 8192) (m : Fin 256) : val_main_v64 (F := Ideal) (cm (φ := .f32) P.x) (cm (φ := .f32) P.mem) (cv (φ := .f32) P.g) (cv (φ := .f32) P.gm) (cm (φ := .f32) P.wq) (cm (φ := .f32) P.wkv) (ix3 p i m) = ((P.p p i m : ℝ) : EReal) := by
  pointwise [val_main_v63, val_main_v64]
  rw [ref_v60, ref_v62, div_real _ _ (P.z_pos p i).ne', P.p_eq]

theorem ref_v67 (p : Fin 4) (i : Fin 8192) (z : Fin 1) : val_main_v67 (F := Ideal) (cm (φ := .f32) P.x) (cm (φ := .f32) P.mem) (cv (φ := .f32) P.g) (cv (φ := .f32) P.gm) (cm (φ := .f32) P.wq) (cm (φ := .f32) P.wkv) (ix3 p i z) = ((1 / (P.z p i * P.z p i) : ℝ) : EReal) := by
  pointwise [val_main_v65, val_main_cst_16, val_main_v66, val_main_v67]
  rw [ref_v62, ← EReal.coe_mul, ← EReal.coe_one, div_real _ _ (mul_pos (P.z_pos p i) (P.z_pos p i)).ne']

/-- What the attention leaves. -/
theorem ref_v70 : val_main_v70 (F := Ideal) (cm (φ := .f32) P.x) (cm (φ := .f32) P.mem) (cv (φ := .f32) P.g) (cv (φ := .f32) P.gm) (cm (φ := .f32) P.wq) (cm (φ := .f32) P.wkv) = cm (φ := .f32) P.o := by
  refine eq_cm fun i k => ?_
  pointwise [val_main_v70, val_main_v69, val_main_v68]
  simp only [ref_v36, ref_v64, ← EReal.coe_mul, sum_coe]
  refine congrArg Real.toEReal ?_
  show _ = ∑ m, P.p (hd k) i m * P.kv m (vcol k)
  refine Finset.sum_congr rfl fun m _ => ?_
  rw [mul_comm]
  exact congrArg (fun c => P.p (hd k) i m * P.kv m c) (Fin.ext (by dsimp only [vcol]; omega))

/-- The block's value. -/
theorem ref_y : val_main_v72 (F := Ideal) (cm (φ := .f32) P.x) (cm (φ := .f32) P.mem) (cv (φ := .f32) P.g) (cv (φ := .f32) P.gm) (cm (φ := .f32) P.wq) (cm (φ := .f32) P.wkv) (cm (φ := .f32) P.wo) = cm (φ := .f32) P.y := by
  refine eq_cm fun i k => ?_
  pointwise [val_main_v71, val_main_v72]
  simp only [ref_v70, cm_at, ← EReal.coe_mul, sum_coe, ← EReal.coe_add]
  rfl

/-- The gradient of the projection after the attention. -/
theorem ref_dwo : val_main_v75 (F := Ideal) (cm (φ := .f32) P.x) (cm (φ := .f32) P.mem) (cv (φ := .f32) P.g) (cv (φ := .f32) P.gm) (cm (φ := .f32) P.wq) (cm (φ := .f32) P.wkv) (cm (φ := .f32) P.dout) = cm (φ := .f32) P.dwo := by
  refine eq_cm fun i k => ?_
  pointwise [val_main_v75, val_main_v74, val_main_v73]
  simp only [ref_v70, cm_at, ← EReal.coe_mul, sum_coe]
  refine congrArg Real.toEReal ?_
  show _ = ∑ t, P.o t i * P.dout t k
  exact Finset.sum_congr rfl fun t _ => mul_comm _ _

theorem ref_v76 : val_main_v76 (F := Ideal) (cm (φ := .f32) P.wo) (cm (φ := .f32) P.dout) = cm (φ := .f32) P.do' := by
  refine eq_cm fun i k => ?_
  pointwise [val_main_v76, val_main_v73]
  simp only [cm_at, ← EReal.coe_mul, sum_coe]
  rfl

theorem ref_v78 (p : Fin 4) (d : Fin 256) (i : Fin 8192) : val_main_v78 (F := Ideal) (cm (φ := .f32) P.wo) (cm (φ := .f32) P.dout) (ix3 p d i) = ((rhq P.do' p i d : ℝ) : EReal) := by
  pointwise [val_main_v78, val_main_v77]
  rw [ref_v76, cm_at]
  exact congrArg (fun c => ((P.do' i c : ℝ) : EReal)) (Fin.ext (by dsimp only; omega))

/-- The gradient of the weights. -/
theorem ref_v79 (p : Fin 4) (i : Fin 8192) (m : Fin 256) : val_main_v79 (F := Ideal) (cm (φ := .f32) P.mem) (cv (φ := .f32) P.gm) (cm (φ := .f32) P.wkv) (cm (φ := .f32) P.wo) (cm (φ := .f32) P.dout) (ix3 p i m) = ((P.dp p i m : ℝ) : EReal) := by
  pointwise [val_main_v79]
  simp only [ref_v78, ref_v36, ← EReal.coe_mul, sum_coe]
  rfl

/-- The gradient of the values. -/
theorem ref_v81 (m : Fin 256) (p : Fin 4) (d : Fin 256) : val_main_v81 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) (ix3 m p d) = ((∑ i, rhq P.do' p i d * P.p p i m : ℝ) : EReal) := by
  pointwise [val_main_v81, val_main_v80]
  simp only [ref_v78, ref_v64, ← EReal.coe_mul, sum_coe]

theorem ref_v85 (p : Fin 4) (i : Fin 8192) : val_main_v85 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) (ix2 p i) = ((∑ m, P.dp p i m * (1 / (P.z p i * P.z p i)) * P.e p i m : ℝ) : EReal) := by
  pointwise [val_main_v82, val_main_v83, val_main_v84, val_main_cst_17, val_main_v85]
  simp only [ref_v79, ref_v67, ref_v60, ← EReal.coe_mul, sum_coe]

theorem ref_v92 (p : Fin 4) (i : Fin 8192) (m : Fin 256) : val_main_v92 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) (ix3 p i m) = ((P.dp p i m / P.z p i + -∑ l, P.dp p i l * (1 / (P.z p i * P.z p i)) * P.e p i l : ℝ) : EReal) := by
  pointwise [val_main_v86, val_main_v87, val_main_v88, val_main_v89, val_main_v90, val_main_cst_18, val_main_v91, val_main_v92]
  simp only [ref_v79, ref_v62, ref_v85, Finset.univ_unique, Finset.sum_singleton]
  rw [div_real _ _ (P.z_pos p i).ne', ← EReal.coe_neg, ← EReal.coe_add]

/-- The two forms of the softmax's derivative. -/
theorem ds_form (d e : Fin 256 → ℝ) (z : ℝ) (hz : 0 < z) (m : Fin 256) :
    (d m / z + -∑ l, d l * (1 / (z * z)) * e l) * e m * (1 / 16) = e m / z * (d m - ∑ l, e l / z * d l) * (1 / 16) := by
  have h : ∑ l, d l * (1 / (z * z)) * e l = (∑ l, e l / z * d l) / z := by
    rw [Finset.sum_div]
    refine Finset.sum_congr rfl fun l _ => ?_
    field_simp
  rw [h]
  ring

/-- The gradient of the scores. -/
theorem ref_v95 (p : Fin 4) (i : Fin 8192) (m : Fin 256) : val_main_v95 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) (ix3 p i m) = ((rds P.q P.kv P.do' p i m : ℝ) : EReal) := by
  pointwise [val_main_v93, val_main_cst_19, val_main_v94, val_main_v95]
  simp only [ref_v92, ref_v60, sixteenth_f32, ← EReal.coe_mul]
  refine congrArg Real.toEReal ((ds_form (P.dp p i) (P.e p i) _ (P.z_pos p i) m).trans ?_)
  simp only [P.p_eq]
  rfl

/-- The gradient of the keys. -/
theorem ref_v97 (m : Fin 256) (p : Fin 4) (d : Fin 256) : val_main_v97 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) (ix3 m p d) = ((∑ i, rds P.q P.kv P.do' p i m * rhq P.q p i d : ℝ) : EReal) := by
  pointwise [val_main_v97, val_main_v96]
  simp only [ref_v95, ref_v30, ← EReal.coe_mul, sum_coe]

theorem ref_v99 (i : Fin 8192) (p : Fin 4) (d : Fin 256) : val_main_v99 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) (ix3 i p d) = ((∑ m, rds P.q P.kv P.do' p i m * rhk P.kv p m d : ℝ) : EReal) := by
  pointwise [val_main_v99, val_main_v98]
  simp only [ref_v95, ref_v34, ← EReal.coe_mul, sum_coe]

/-- The gradient of the queries. -/
theorem ref_v109 : val_main_v109 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dq := by
  refine eq_cm fun i k => ?_
  pointwise [val_main_v109]
  rw [ref_v99]
  refine congrArg Real.toEReal ?_
  show _ = ∑ m, rds P.q P.kv P.do' (hd k) i m * P.kv m (kcol k)
  refine Finset.sum_congr rfl fun m _ => ?_
  exact congrArg (fun c => rds P.q P.kv P.do' (hd k) i m * P.kv m c) (Fin.ext (by dsimp only [kcol]; omega))

theorem rxattKV_left {n : ℕ} (q : Fin n → Fin 1024 → ℝ) (kv : Fin 256 → Fin 2048 → ℝ) (d : Fin n → Fin 1024 → ℝ) (m : Fin 256) (c : Fin 2048) (h : c.val < 1024)
    (p : Fin 4) (e : Fin 256) (hp : p.val = c.val / 256 % 4) (he : e.val = c.val % 256) :
    ∑ i, rds q kv d p i m * rhq q p i e = rxattKV q kv d m c := by
  have h1 : p = hd ⟨c.val, h⟩ := Fin.ext (by dsimp only [hd]; omega)
  unfold rxattKV rxattK
  rw [dif_pos h, h1]
  refine Finset.sum_congr rfl fun i _ => ?_
  exact congrArg (fun x => rds q kv d (hd ⟨c.val, h⟩) i m * q i x) (Fin.ext (by dsimp only [hd]; omega))

theorem rxattKV_right {n : ℕ} (q : Fin n → Fin 1024 → ℝ) (kv : Fin 256 → Fin 2048 → ℝ) (d : Fin n → Fin 1024 → ℝ) (m : Fin 256) (c : Fin 2048)
    (h : ¬c.val < 1024) (p : Fin 4) (e : Fin 256) (hp : p.val = c.val / 256 % 4) (he : e.val = c.val % 256) :
    ∑ i, rhq d p i e * rp q kv p i m = rxattKV q kv d m c := by
  have hc : c.val - 1024 < 1024 := by omega
  have h1 : p = hd ⟨c.val - 1024, hc⟩ := Fin.ext (by dsimp only [hd]; omega)
  unfold rxattKV rxattV
  rw [dif_neg h, h1]
  refine Finset.sum_congr rfl fun i _ => ?_
  rw [mul_comm]
  exact congrArg (fun x => rp q kv (hd ⟨c.val - 1024, hc⟩) i m * d i x) (Fin.ext (by dsimp only [hd]; omega))

set_option maxHeartbeats 1600000 in
/-- The gradient of the keys and the values. -/
theorem ref_v105 : val_main_v105 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dkv := by
  refine eq_cm fun i k => ?_
  pointwise [val_main_v100, val_main_cst_20, val_main_v101, val_main_v102, val_main_cst_21, val_main_v103, val_main_v104, val_main_v105]
  simp only [ref_v81, ref_v97]
  have hkv : P.dkv i k = rxattKV P.q P.kv P.do' i k := rfl
  refine Eq.trans ?_ (congrArg Real.toEReal hkv.symm)
  split_ifs with a b b
  · exfalso
    omega
  · exact (add_zero _).trans (congrArg Real.toEReal (rxattKV_right P.q P.kv P.do' i k (by omega) _ _ rfl rfl))
  · exact (zero_add _).trans (congrArg Real.toEReal (rxattKV_left P.q P.kv P.do' i k (by omega) _ _ rfl rfl))
  · exfalso
    omega

theorem ref_v106 : val_main_v106 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dwkvT := by
  refine eq_cm fun i k => ?_
  pointwise [val_main_v106]
  simp only [ref_v105, ref_v28, cm_at, ← EReal.coe_mul, sum_coe]
  rfl

/-- The gradient of the projection to keys and values. -/
theorem ref_dwkv : val_main_v107 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dwkv := by
  refine eq_cm fun i k => ?_
  pointwise [val_main_v107]
  rw [ref_v106, cm_at]
  rfl

theorem ref_v108 : val_main_v108 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dmemn := by
  refine eq_cm fun i k => ?_
  pointwise [val_main_v108]
  simp only [ref_v105, cm_at, ← EReal.coe_mul, sum_coe]
  rfl

/-- The gradient of the projection to queries. -/
theorem ref_dwq : val_main_v111 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dwq := by
  refine eq_cm fun i k => ?_
  pointwise [val_main_v111, val_main_v110]
  simp only [ref_v109, ref_v15, cm_at, ← EReal.coe_mul, sum_coe]
  refine congrArg Real.toEReal ?_
  show _ = ∑ t, P.h t i * P.dq t k
  exact Finset.sum_congr rfl fun t _ => mul_comm _ _

theorem ref_v112 : val_main_v112 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dh := by
  refine eq_cm fun i k => ?_
  pointwise [val_main_v112]
  simp only [ref_v109, cm_at, ← EReal.coe_mul, sum_coe]
  rfl

/-- The gradient of the memory's gain. -/
theorem ref_dgm : val_main_v116 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cv (φ := .f32) P.dgm := by
  refine eq_cv fun k => ?_
  pointwise [val_main_v113, val_main_cst_22, val_main_v114, val_main_v115, val_main_cst_23, val_main_v116]
  simp only [ref_v25, ref_v108, cm_at, ← EReal.coe_mul, sum_coe]
  simp only [Args.dgm, rrmsGain, mul_comm, Finset.univ_unique, Finset.sum_singleton]

/-- The gradient of the gain. -/
theorem ref_dg : val_main_v122 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cv (φ := .f32) P.dg := by
  refine eq_cv fun k => ?_
  pointwise [val_main_v117, val_main_cst_24, val_main_v118, val_main_v119, val_main_cst_25, val_main_v122]
  simp only [ref_v12, ref_v112, cm_at, ← EReal.coe_mul, sum_coe]
  simp only [Args.dg, rrmsGain, mul_comm, Finset.univ_unique, Finset.sum_singleton]

theorem ref_v121 : val_main_v121 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) fun i k => P.dh i k * P.g k := by
  refine eq_cm fun i k => ?_
  pointwise [val_main_v13, val_main_v120, val_main_v121]
  simp only [ref_v112, cm_at, cv_at, ← EReal.coe_mul]

/-- What the mean square's gradient adds, for every element of a row the same. -/
theorem ref_v132 (i : Fin 8192) : val_main_v132 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) (ix1 i) = (((∑ k : Fin 1024, P.x i k * (P.dh i k * P.g k)) * (-(1 / 2) * (rinv P.x i * rinv P.x i * rinv P.x i)) / 1024 : ℝ) : EReal) := by
  pointwise [val_main_v123, val_main_cst_26, val_main_v124, val_main_v125, val_main_v129, val_main_cst_27, val_main_v130, val_main_v131, val_main_cst_28, val_main_v132]
  simp only [ref_v10, ref_v121, cm_at, ← EReal.coe_mul, sum_coe, w1024_f32]
  rw [Finset.univ_unique, Finset.sum_singleton, div_real _ _ (by norm_num)]

/-- The two forms of the normalisation's derivative. -/
theorem rmsArg_form (r d xk gk s u res : ℝ) (h : u = s * r) :
    res + d * gk * r + xk * (s * (-(1 / 2) * (r * r * r)) / 1024) + s * (-(1 / 2) * (r * r * r)) / 1024 * xk
      = r * (d * gk - xk * r * (u / 1024)) + res := by
  rw [h]; ring

/-- The gradient of the input. -/
theorem ref_dx : val_main_v137 (F := Ideal) (cm (φ := .f32) P.x) (cm (φ := .f32) P.mem) (cv (φ := .f32) P.g) (cv (φ := .f32) P.gm) (cm (φ := .f32) P.wq) (cm (φ := .f32) P.wkv) (cm (φ := .f32) P.wo) (cm (φ := .f32) P.dout) = cm (φ := .f32) P.dx := by
  refine eq_cm fun i k => ?_
  pointwise [val_main_v126, val_main_v127, val_main_v128, val_main_v133, val_main_v134, val_main_v135, val_main_v136, val_main_v137]
  simp only [ref_v7, ref_v121, ref_v132, cm_at, ← EReal.coe_mul, ← EReal.coe_add]
  refine congrArg Real.toEReal (rmsArg_form _ _ _ _ _ _ _ ?_)
  rw [Finset.sum_mul]
  exact Finset.sum_congr rfl fun l _ => by ring

end Cert.Cross.Hand
end
-- ==== Proof.Cross.Value.lean ====
/-
  The cross-attention block: for finite arguments the kernel's results are the reference's.
-/
module

public import proofs.«01_k».proof.Defs
public import proofs.«01_k».proof.Proof.Cross.Run
public import proofs.«01_k».proof.Proof.Cross.Fold
public import proofs.«01_k».proof.Proof.Cross.Ref
public import proofs.«01_k».proof.Proof.Gen.CrossRefIdeal.Run
public import Idealize.ShloMosaic.Lib.Claim

@[expose] public section

set_option maxRecDepth 16384

noncomputable section

open Idealize.ShloMosaic Idealize.ShloMosaic.TcCoe Idealize.SL.Sem

namespace Cert.Cross.Hand

open Cert.Hand

/-- The shape facts of the printed precondition. -/
instance preFacts : Cert.Pre_cross_finite.Facts where
  bcast_S_S8192x1024 := by decide
  reducesTo_S8192x1024_S_d0_1 := by decide
  h_S_ := by decide
  bcast_S_S256x1024 := by decide
  reducesTo_S256x1024_S_d0_1 := by decide
  bcast_S_S1024 := by decide
  reducesTo_S1024_S_d0 := by decide
  bcast_S_S1024x1024 := by decide
  reducesTo_S1024x1024_S_d0_1 := by decide
  bcast_S_S1024x2048 := by decide
  reducesTo_S1024x2048_S_d0_1 := by decide

/-- The precondition read back: every argument is an array of reals. -/
theorem reals (x : FVec Ideal (Mat 8192 1024) .f32) (mem : FVec Ideal (Mat 256 1024) .f32) (g : FVec Ideal ⟨1, ![1024]⟩ .f32) (gm : FVec Ideal ⟨1, ![1024]⟩ .f32) (wq : FVec Ideal (Mat 1024 1024) .f32) (wkv : FVec Ideal (Mat 1024 2048) .f32) (wo : FVec Ideal (Mat 1024 1024) .f32) (dout : FVec Ideal (Mat 8192 1024) .f32)
    (h : Cert.Pre_cross_finite.fn (F := Ideal) x mem g gm wq wkv wo dout = fun _ => 1#1) :
    ∃ P : Args, x = cm P.x ∧ mem = cm P.mem ∧ g = cv P.g ∧ gm = cv P.gm ∧ wq = cm P.wq ∧ wkv = cm P.wkv ∧ wo = cm P.wo ∧ dout = cm P.dout := by
  have h0 := congrFun h ix0
  obtain ⟨h1, h8⟩ := IntOp.andi_eq_one.1 h0
  obtain ⟨h1, h7⟩ := IntOp.andi_eq_one.1 h1
  obtain ⟨h1, h6⟩ := IntOp.andi_eq_one.1 h1
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  obtain ⟨f1, e1⟩ := exists_cm _ (reals_of_all _ top_f32 _ _ _ _ _ _ _ h1)
  obtain ⟨f2, e2⟩ := exists_cm _ (reals_of_all _ top_f32 _ _ _ _ _ _ _ h2)
  obtain ⟨f3, e3⟩ := exists_cv _ (reals_of_all _ top_f32 _ _ _ _ _ _ _ h3)
  obtain ⟨f4, e4⟩ := exists_cv _ (reals_of_all _ top_f32 _ _ _ _ _ _ _ h4)
  obtain ⟨f5, e5⟩ := exists_cm _ (reals_of_all _ top_f32 _ _ _ _ _ _ _ h5)
  obtain ⟨f6, e6⟩ := exists_cm _ (reals_of_all _ top_f32 _ _ _ _ _ _ _ h6)
  obtain ⟨f7, e7⟩ := exists_cm _ (reals_of_all _ top_f32 _ _ _ _ _ _ _ h7)
  obtain ⟨f8, e8⟩ := exists_cm _ (reals_of_all _ top_f32 _ _ _ _ _ _ _ h8)
  exact ⟨⟨f1, f2, f3, f4, f5, f6, f7, f8⟩, e1, e2, e3, e4, e5, e6, e7, e8⟩

end Cert.Cross.Hand

namespace Cert.CrossIdeal.Hand

open Cert.Hand Cert.Cross.Hand Cert.CrossIdeal Cert.CrossIdeal.Gen

/-- The kernel's run: given arrays of reals, its seven results are the block's value and gradients over the reals,
    and its arguments are unchanged. -/
theorem kernel_run (m : (ℓ : Loc nD τ sig) → Buf (Elt Ideal) ℓ) (ρ : Dev nD → PrngReg) (P : Dev nD → Args) (hP : ∀ c, Is m c (P c)) :
    θ_run defs (onTc (τ := τ) (main (F := Ideal))) ⟨m, fun _ => 0, ρ⟩ (fun r => ∀ c : Dev nD,
      @Eq (FVec Ideal (Mat 8192 1024) .f32) (r.2.mem ((c.tc : Thread nD τ).loc main_v11)) (cm (P c).y)
      ∧ @Eq (FVec Ideal (Mat 8192 1024) .f32) (r.2.mem ((c.tc : Thread nD τ).loc main_v19_0)) (cm (P c).dx)
      ∧ @Eq (FVec Ideal ⟨1, ![1024]⟩ .f32) (r.2.mem ((c.tc : Thread nD τ).loc main_v20)) (cv (P c).dg)
      ∧ @Eq (FVec Ideal ⟨1, ![1024]⟩ .f32) (r.2.mem ((c.tc : Thread nD τ).loc main_v21)) (cv (P c).dgm)
      ∧ @Eq (FVec Ideal (Mat 1024 1024) .f32) (r.2.mem ((c.tc : Thread nD τ).loc main_v15)) (cm (P c).dwq)
      ∧ @Eq (FVec Ideal (Mat 1024 2048) .f32) (r.2.mem ((c.tc : Thread nD τ).loc main_v22)) (cm (P c).dwkv)
      ∧ @Eq (FVec Ideal (Mat 1024 1024) .f32) (r.2.mem ((c.tc : Thread nD τ).loc main_v12)) (cm (P c).dwo)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v11 (by decide))).trans (at_end_y m ρ c (P c) (hP c)),
     (h c _ (mem_uc main_v19_0 (by decide))).trans (at_end_dx m ρ c (P c) (hP c)),
     (h c _ (mem_uc main_v20 (by decide))).trans (at_end_dg m ρ c (P c) (hP c)),
     (h c _ (mem_uc main_v21 (by decide))).trans (at_end_dgm m ρ c (P c) (hP c)),
     (h c _ (mem_uc main_v15 (by decide))).trans (at_end_dwq m ρ c (P c) (hP c)),
     (h c _ (mem_uc main_v22 (by decide))).trans (at_end_dwkv m ρ c (P c) (hP c)),
     (h c _ (mem_uc main_v12 (by decide))).trans (at_end_dwo m ρ c (P c) (hP c)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c)⟩) (run m ρ)

end Cert.CrossIdeal.Hand

namespace Cert.CrossRefIdeal.Hand

open Cert.Hand Cert.Cross.Hand Cert.CrossRefIdeal Cert.CrossRefIdeal.Gen

/-- The reference's run: given the same arrays of reals, its seven results are those values too. -/
theorem reference_run (m : (ℓ : Loc nD τ sig) → Buf (Elt Ideal) ℓ) (ρ : Dev nD → PrngReg) (P : Dev nD → Args)
    (hx : ∀ c : Dev nD, @Eq (FVec Ideal (Mat 8192 1024) .f32) (m ((c.tc : Thread nD τ).loc main_arg0)) (cm (P c).x))
    (hmem : ∀ c : Dev nD, @Eq (FVec Ideal (Mat 256 1024) .f32) (m ((c.tc : Thread nD τ).loc main_arg1)) (cm (P c).mem))
    (hg : ∀ c : Dev nD, @Eq (FVec Ideal ⟨1, ![1024]⟩ .f32) (m ((c.tc : Thread nD τ).loc main_arg2)) (cv (P c).g))
    (hgm : ∀ c : Dev nD, @Eq (FVec Ideal ⟨1, ![1024]⟩ .f32) (m ((c.tc : Thread nD τ).loc main_arg3)) (cv (P c).gm))
    (hwq : ∀ c : Dev nD, @Eq (FVec Ideal (Mat 1024 1024) .f32) (m ((c.tc : Thread nD τ).loc main_arg4)) (cm (P c).wq))
    (hwkv : ∀ c : Dev nD, @Eq (FVec Ideal (Mat 1024 2048) .f32) (m ((c.tc : Thread nD τ).loc main_arg5)) (cm (P c).wkv))
    (hwo : ∀ c : Dev nD, @Eq (FVec Ideal (Mat 1024 1024) .f32) (m ((c.tc : Thread nD τ).loc main_arg6)) (cm (P c).wo))
    (hdout : ∀ c : Dev nD, @Eq (FVec Ideal (Mat 8192 1024) .f32) (m ((c.tc : Thread nD τ).loc main_arg7)) (cm (P c).dout)) :
    θ_run defs (onTc (τ := τ) (main (F := Ideal))) ⟨m, fun _ => 0, ρ⟩ (fun r => ∀ c : Dev nD,
      @Eq (FVec Ideal (Mat 8192 1024) .f32) (r.2.mem ((c.tc : Thread nD τ).loc main_v72)) (cm (P c).y)
      ∧ @Eq (FVec Ideal (Mat 8192 1024) .f32) (r.2.mem ((c.tc : Thread nD τ).loc main_v137)) (cm (P c).dx)
      ∧ @Eq (FVec Ideal ⟨1, ![1024]⟩ .f32) (r.2.mem ((c.tc : Thread nD τ).loc main_v122)) (cv (P c).dg)
      ∧ @Eq (FVec Ideal ⟨1, ![1024]⟩ .f32) (r.2.mem ((c.tc : Thread nD τ).loc main_v116)) (cv (P c).dgm)
      ∧ @Eq (FVec Ideal (Mat 1024 1024) .f32) (r.2.mem ((c.tc : Thread nD τ).loc main_v111)) (cm (P c).dwq)
      ∧ @Eq (FVec Ideal (Mat 1024 2048) .f32) (r.2.mem ((c.tc : Thread nD τ).loc main_v107)) (cm (P c).dwkv)
      ∧ @Eq (FVec Ideal (Mat 1024 1024) .f32) (r.2.mem ((c.tc : Thread nD τ).loc main_v75)) (cm (P c).dwo)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.CrossRefIdeal.Value.run (F := Ideal) m ρ)
  obtain ⟨h1, h2, h3, h4, h5, h6, h7, ha⟩ := h c
  refine ⟨h1.trans ((Read.val_main_v72_eq ..).trans ?_),
    h2.trans ((Read.val_main_v137_eq ..).trans ?_),
    h3.trans ((Read.val_main_v122_eq ..).trans ?_),
    h4.trans ((Read.val_main_v116_eq ..).trans ?_),
    h5.trans ((Read.val_main_v111_eq ..).trans ?_),
    h6.trans ((Read.val_main_v107_eq ..).trans ?_),
    h7.trans ((Read.val_main_v75_eq ..).trans ?_), ha⟩
  · rw [hx c, hmem c, hg c, hgm c, hwq c, hwkv c, hwo c]; exact ref_y (P c)
  · rw [hx c, hmem c, hg c, hgm c, hwq c, hwkv c, hwo c, hdout c]; exact ref_dx (P c)
  · rw [hx c, hmem c, hg c, hgm c, hwq c, hwkv c, hwo c, hdout c]; exact ref_dg (P c)
  · rw [hx c, hmem c, hg c, hgm c, hwq c, hwkv c, hwo c, hdout c]; exact ref_dgm (P c)
  · rw [hx c, hmem c, hg c, hgm c, hwq c, hwkv c, hwo c, hdout c]; exact ref_dwq (P c)
  · rw [hx c, hmem c, hg c, hgm c, hwq c, hwkv c, hwo c, hdout c]; exact ref_dwkv (P c)
  · rw [hx c, hmem c, hg c, hgm c, hwq c, hwkv c, hdout c]; exact ref_dwo (P c)

end Cert.CrossRefIdeal.Hand

namespace Cert.Cross.Hand

open Cert.Hand

set_option maxHeartbeats 1600000 in
/-- The claim about the block's seven results. -/
theorem algebraic : Cert.algebraic_CrossIdeal_CrossRefIdeal_pre_cross_finite (hPre_cross_finite := preFacts) := by
  intro m g m' g' hpre hagree
  have hP := fun c => reals _ _ _ _ _ _ _ _ (hpre c)
  choose P h0 h1 h2 h3 h4 h5 h6 h7 using hP
  exact ⟨fun c => cm (P c).y, fun c => cm (P c).dx, fun c => cv (P c).dg, fun c => cv (P c).dgm, fun c => cm (P c).dwq, fun c => cm (P c).dwkv, fun c => cm (P c).dwo,
    Cert.CrossIdeal.Hand.kernel_run m g P (fun c => ⟨h0 c, h1 c, h2 c, h3 c, h4 c, h5 c, h6 c, h7 c⟩),
    Cert.CrossRefIdeal.Hand.reference_run m' g' P (fun c => ((hagree c).1).trans (h0 c))
      (fun c => ((hagree c).2.1).trans (h1 c))
      (fun c => ((hagree c).2.2.1).trans (h2 c))
      (fun c => ((hagree c).2.2.2.1).trans (h3 c))
      (fun c => ((hagree c).2.2.2.2.1).trans (h4 c))
      (fun c => ((hagree c).2.2.2.2.2.1).trans (h5 c))
      (fun c => ((hagree c).2.2.2.2.2.2.1).trans (h6 c))
      (fun c => ((hagree c).2.2.2.2.2.2.2).trans (h7 c))⟩

end Cert.Cross.Hand
end
-- ==== Proof.AdamW.lean ====
/-
  AdamW at one entry of a weight: the new moments and the step, over the extended reals, and the arrays of them.
-/
module

public import Idealize.ShloMosaic.Lib.Pointwise
public import Idealize.ShloMosaic.PureOps.IdealRules

@[expose] public section

noncomputable section

open Idealize.ShloMosaic

namespace Cert.Hand

/-- The new first moment, of the gradient and the old one. -/
def adamM (g m : EReal) : EReal := Ideal.ofBits FTy.f32 0x3F666666#32 * m + Ideal.ofBits FTy.f32 0x3DCCCCCD#32 * g

/-- The new second moment, of the gradient and the old one. -/
def adamV (g v : EReal) : EReal := Ideal.ofBits FTy.f32 0x3F7FBE77#32 * v + Ideal.ofBits FTy.f32 0x3A83126F#32 * (g * g)

/-- The reciprocal of the first moment's bias correction. -/
abbrev inv1 : EReal := ((8388608 / 5463681 : ℝ) : EReal)

/-- The reciprocal of the second moment's bias correction. -/
abbrev inv2 : EReal := ((268435456 / 2672307 : ℝ) : EReal)

/-- The step, of the weight, the gradient and the old moments. -/
def adamD (w g m v : EReal) : EReal :=
  Ideal.ofBits FTy.f32 0xBA83126F#32
    * (Ideal.div (adamM g m * inv1) (Ideal.sqrt (adamV g v * inv2) + Ideal.ofBits FTy.f32 0x322BCC77#32) + Ideal.ofBits FTy.f32 0x3C23D70A#32 * w)

/-- The first bias correction is the real that its word is. -/
theorem bias1_f32 : Ideal.ofBits FTy.f32 0x3F26BD02#32 = ((5463681 / 8388608 : ℝ) : EReal) := by
  simp [Ideal.ofBits, Ideal.ieee]
  rw [← EReal.coe_mul]
  norm_num

/-- The second bias correction is the real that its word is. -/
theorem bias2_f32 : Ideal.ofBits FTy.f32 0x3C231ACC#32 = ((2672307 / 268435456 : ℝ) : EReal) := by
  simp [Ideal.ofBits, Ideal.ieee]
  rw [← EReal.coe_mul]
  norm_num

/-- The quotient by the first bias correction is the product with its reciprocal. -/
theorem div_bias1 (x : EReal) : Ideal.div x (Ideal.ofBits FTy.f32 0x3F26BD02#32) = x * inv1 := by
  rw [bias1_f32, Ideal.div_coe (by norm_num)]
  norm_num

/-- The quotient by the second bias correction is the product with its reciprocal. -/
theorem div_bias2 (x : EReal) : Ideal.div x (Ideal.ofBits FTy.f32 0x3C231ACC#32) = x * inv2 := by
  rw [bias2_f32, Ideal.div_coe (by norm_num)]
  norm_num

/-- The weight of two layers: an array of two `K × n` matrices. -/
abbrev Two (K n : ℕ) : Shape := ⟨3, ![2, K, n]⟩

/-- The two matrices transposed. -/
def sw {K n : ℕ} (x : FVec Ideal (Two K n) .f32) : FVec Ideal (Two n K) .f32 := fun i => x (ix3 (i 0) (i 2) (i 1))

/-- The new first moments of a weight. -/
def newM {K n : ℕ} (g m : FVec Ideal (Two K n) .f32) : FVec Ideal (Two K n) .f32 := fun i => adamM (g i) (m i)

/-- The new second moments of a weight. -/
def newV {K n : ℕ} (g v : FVec Ideal (Two K n) .f32) : FVec Ideal (Two K n) .f32 := fun i => adamV (g i) (v i)

/-- The steps of a weight. -/
def step {K n : ℕ} (w g m v : FVec Ideal (Two K n) .f32) : FVec Ideal (Two K n) .f32 := fun i => adamD (w i) (g i) (m i) (v i)

end Cert.Hand
end
-- ==== Proof.AdamSquare.Tiled.lean ====
/-
  AdamW on a device's rows of the square weights (`w_out`, `xattn_wq`, `xattn_wo`): what each of the two calls leaves in its three results, as functions of the arrays that it finds.
-/
module

public import proofs.«01_k».proof.Proof.Gen.AdamSquareIdeal.Frame
public import proofs.«01_k».proof.Proof.AdamW
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamSquare.Hand

open Cert.AdamSquareIdeal Cert.AdamSquareIdeal.Gen Cert.Hand

variable (V : (c : Dev nD) → (b : Ref sig .tc) → Buf (Elt Ideal) ((c : Thread nD τ).loc b))

/-- The first named reciprocal. -/
theorem named1 : Named.named (F := Ideal) Cert.AdamSquareIdeal.κ "inv_bias1" (φ := .f32) 0x3FC48605#32 = inv1 :=
  IdealRules.named_const.ideal_named_scalar _ _ _ _ rfl

/-- The second named reciprocal. -/
theorem named2 : Named.named (F := Ideal) Cert.AdamSquareIdeal.κ "inv_bias2" (φ := .f32) 0x42C8E6D3#32 = inv2 :=
  IdealRules.named_const.ideal_named_scalar _ _ _ _ rfl

theorem idx0 : ∀ t : Fin cfg0.N, win0_0.index t = ![1, t.val, 0] ∧ win0_1.index t = ![t.val, 0] ∧ win0_2.index t = ![1, t.val, 0] ∧ win0_3.index t = ![1, t.val, 0]
    ∧ win0_5.index t = ![1, t.val, 0] ∧ win0_6.index t = ![1, t.val, 0] ∧ win0_7.index t = ![1, t.val, 0] :=
  (by decide +kernel : ∀ t : Fin grid0.N, _)

set_option maxHeartbeats 1600000 in
/-- The first call's steps: layer 1's, the other layer's as the call finds them. -/
theorem final0_5 (c : Dev nD) : (dat0 (F := Ideal) V c).arrAt 5 cfg0.N = fun (i : (Two 256 1024).Idx) => if (i 0).val = 1 then
      adamD (V c (Pipeline.arrRef spec0 0) i) (V c (Pipeline.arrRef spec0 1) (ix2 (i 1) (i 2))) (V c (Pipeline.arrRef spec0 2) i) (V c (Pipeline.arrRef spec0 3) i)
      else V c (Pipeline.arrRef spec0 5) i := by
  refine (dat0 V c).arrAt_eq_of_coversWhere 5 _ (fun β => β (0 : Fin 3) = 1) (by decide +kernel) (fun t hf y => ?_)
    (fun j => by blk_simp [Pipeline.Window.cell_apply, Nat.div_one])
  blk_simp
  rw [after0_5]; frame_out
  pointwise [k0_pay1, k0_pay2, k0_pay3, k0_pay4, k0_pay5, k0_pay6, k0_pay7, k0_pay8, named1, named2, adamM, adamV, adamD]
  blk_point [iblk0, idx0 t]

set_option maxHeartbeats 1600000 in
/-- The first call's new first moments: layer 1's, the other layer's as the call finds them. -/
theorem final0_6 (c : Dev nD) : (dat0 (F := Ideal) V c).arrAt 6 cfg0.N = fun (i : (Two 256 1024).Idx) => if (i 0).val = 1 then
      adamM (V c (Pipeline.arrRef spec0 1) (ix2 (i 1) (i 2))) (V c (Pipeline.arrRef spec0 2) i)
      else V c (Pipeline.arrRef spec0 6) i := by
  refine (dat0 V c).arrAt_eq_of_coversWhere 6 _ (fun β => β (0 : Fin 3) = 1) (by decide +kernel) (fun t hf y => ?_)
    (fun j => by blk_simp [Pipeline.Window.cell_apply, Nat.div_one])
  blk_simp
  rw [after0_6]; frame_out
  pointwise [k0_pay1, k0_pay2, k0_pay3, k0_pay4, k0_pay5, k0_pay6, k0_pay7, k0_pay8, adamM, adamV, adamD]
  blk_point [iblk0, idx0 t]

set_option maxHeartbeats 1600000 in
/-- The first call's new second moments: layer 1's, the other layer's as the call finds them. -/
theorem final0_7 (c : Dev nD) : (dat0 (F := Ideal) V c).arrAt 7 cfg0.N = fun (i : (Two 256 1024).Idx) => if (i 0).val = 1 then
      adamV (V c (Pipeline.arrRef spec0 1) (ix2 (i 1) (i 2))) (V c (Pipeline.arrRef spec0 3) i)
      else V c (Pipeline.arrRef spec0 7) i := by
  refine (dat0 V c).arrAt_eq_of_coversWhere 7 _ (fun β => β (0 : Fin 3) = 1) (by decide +kernel) (fun t hf y => ?_)
    (fun j => by blk_simp [Pipeline.Window.cell_apply, Nat.div_one])
  blk_simp
  rw [after0_7]; frame_out
  pointwise [k0_pay1, k0_pay2, k0_pay3, k0_pay4, k0_pay5, k0_pay6, k0_pay7, k0_pay8, adamM, adamV, adamD]
  blk_point [iblk0, idx0 t]

theorem idx1 : ∀ t : Fin cfg1.N, win1_0.index t = ![0, t.val, 0] ∧ win1_1.index t = ![t.val, 0] ∧ win1_2.index t = ![0, t.val, 0] ∧ win1_3.index t = ![0, t.val, 0]
    ∧ win1_5.index t = ![0, t.val, 0] ∧ win1_6.index t = ![0, t.val, 0] ∧ win1_7.index t = ![0, t.val, 0] :=
  (by decide +kernel : ∀ t : Fin grid1.N, _)

set_option maxHeartbeats 1600000 in
/-- The second call's steps: layer 0's, the other layer's as the call finds them. -/
theorem final1_5 (c : Dev nD) : (dat1 (F := Ideal) V c).arrAt 5 cfg1.N = fun (i : (Two 256 1024).Idx) => if (i 0).val = 0 then
      adamD (V c (Pipeline.arrRef spec1 0) i) (V c (Pipeline.arrRef spec1 1) (ix2 (i 1) (i 2))) (V c (Pipeline.arrRef spec1 2) i) (V c (Pipeline.arrRef spec1 3) i)
      else V c (Pipeline.arrRef spec1 5) i := by
  refine (dat1 V c).arrAt_eq_of_coversWhere 5 _ (fun β => β (0 : Fin 3) = 0) (by decide +kernel) (fun t hf y => ?_)
    (fun j => by blk_simp [Pipeline.Window.cell_apply, Nat.div_one])
  blk_simp
  rw [after1_5]; unfold Gen.outsAt1; frame_out
  pointwise [k1_pay1, k1_pay2, k1_pay3, k1_pay4, k1_pay5, k1_pay6, k1_pay7, k1_pay8, named1, named2, adamM, adamV, adamD]
  blk_point [iblk1, idx1 t]

set_option maxHeartbeats 1600000 in
/-- The second call's new first moments: layer 0's, the other layer's as the call finds them. -/
theorem final1_6 (c : Dev nD) : (dat1 (F := Ideal) V c).arrAt 6 cfg1.N = fun (i : (Two 256 1024).Idx) => if (i 0).val = 0 then
      adamM (V c (Pipeline.arrRef spec1 1) (ix2 (i 1) (i 2))) (V c (Pipeline.arrRef spec1 2) i)
      else V c (Pipeline.arrRef spec1 6) i := by
  refine (dat1 V c).arrAt_eq_of_coversWhere 6 _ (fun β => β (0 : Fin 3) = 0) (by decide +kernel) (fun t hf y => ?_)
    (fun j => by blk_simp [Pipeline.Window.cell_apply, Nat.div_one])
  blk_simp
  rw [after1_6]; unfold Gen.outsAt1; frame_out
  pointwise [k1_pay1, k1_pay2, k1_pay3, k1_pay4, k1_pay5, k1_pay6, k1_pay7, k1_pay8, adamM, adamV, adamD]
  blk_point [iblk1, idx1 t]

set_option maxHeartbeats 1600000 in
/-- The second call's new second moments: layer 0's, the other layer's as the call finds them. -/
theorem final1_7 (c : Dev nD) : (dat1 (F := Ideal) V c).arrAt 7 cfg1.N = fun (i : (Two 256 1024).Idx) => if (i 0).val = 0 then
      adamV (V c (Pipeline.arrRef spec1 1) (ix2 (i 1) (i 2))) (V c (Pipeline.arrRef spec1 3) i)
      else V c (Pipeline.arrRef spec1 7) i := by
  refine (dat1 V c).arrAt_eq_of_coversWhere 7 _ (fun β => β (0 : Fin 3) = 0) (by decide +kernel) (fun t hf y => ?_)
    (fun j => by blk_simp [Pipeline.Window.cell_apply, Nat.div_one])
  blk_simp
  rw [after1_7]; unfold Gen.outsAt1; frame_out
  pointwise [k1_pay1, k1_pay2, k1_pay3, k1_pay4, k1_pay5, k1_pay6, k1_pay7, k1_pay8, adamM, adamV, adamD]
  blk_point [iblk1, idx1 t]

end Cert.AdamSquare.Hand
end
-- ==== Proof.AdamSquare.Run.lean ====
/-
  The run of the two calls of AdamW on a device's rows of the square weights (`w_out`, `xattn_wq`, `xattn_wo`): every array that the program holds ends as the fold over its calls says.
-/
module

public import proofs.«01_k».proof.Proof.Gen.AdamSquareIdeal.Frame

@[expose] public section

set_option maxRecDepth 16384

noncomputable section

namespace Cert.AdamSquare.Hand

open Cert.AdamSquareIdeal Cert.AdamSquareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option backward.isDefEq.respectTransparency.types false in
/-- Every weakly fair execution ends, and every array that outlives the calls then holds what the fold says. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.AdamSquare.Hand
end
-- ==== Proof.AdamSquare.Value.lean ====
/-
  AdamW on a device's rows of the square weights (`w_out`, `xattn_wq`, `xattn_wo`): the two calls together, the reference, and the claim that they agree.
-/
module

public import proofs.«01_k».proof.Defs
public import proofs.«01_k».proof.Proof.Gen.AdamSquareRefIdeal.Read
public import proofs.«01_k».proof.Proof.AdamSquare.Tiled
public import proofs.«01_k».proof.Proof.AdamSquare.Run
public import Idealize.ShloMosaic.Lib.StableHlo.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamSquareIdeal.Hand

open Cert.AdamSquareIdeal Cert.AdamSquareIdeal.Gen Cert.Hand Cert.AdamSquare.Hand

variable (m : (ℓ : Loc nD τ sig) → Buf (Elt Ideal) ℓ) (ρ : Dev nD → PrngReg) (c : Dev nD)

/-- The first call's gradient: the second layer of the argument. -/
theorem grad1 (i : (Two 256 1024).Idx) (h : (i 0).val = 1) : W1 m ρ c (Proc.devRef .tc main_v1) (ix2 (i 1) (i 2)) = m ((c : Thread nD τ).loc main_arg1) i := by
  show StableHlo.after hostOps0 _ _ _ = _
  after_results
  pointwise [W0]
  refine congrArg (m ((c : Thread nD τ).loc main_arg1)) (funext fun a => ?_)
  fin_cases a
  · exact Fin.ext h.symm
  · rfl
  · rfl

/-- The second call's gradient: the first layer of the argument. -/
theorem grad0 (i : (Two 256 1024).Idx) (h : (i 0).val = 0) : W3 m ρ c (Proc.devRef .tc main_v4) (ix2 (i 1) (i 2)) = m ((c : Thread nD τ).loc main_arg1) i := by
  show StableHlo.after hostOps1 _ _ _ = _
  after_results
  pointwise [W2_args m ρ c main_arg1 (by decide)]
  refine congrArg (m ((c : Thread nD τ).loc main_arg1)) (funext fun a => ?_)
  fin_cases a
  · exact Fin.ext h.symm
  · rfl
  · rfl

/-- What the second call finds in its steps: what the first one left. -/
theorem entry_5 : W3 m ρ c (Proc.devRef .tc main_v5_1) = W2 m ρ c (Proc.devRef .tc main_v2_1) := by
  dsimp only [W3]
  after_results
  try rfl

/-- The steps. -/
theorem out_5 : @Eq (FVec Ideal (Two 256 1024) .f32) (W4 m ρ c (Proc.devRef .tc main_v5_1)) (step (m ((c : Thread nD τ).loc main_arg0)) (m ((c : Thread nD τ).loc main_arg1)) (m ((c : Thread nD τ).loc main_arg2)) (m ((c : Thread nD τ).loc main_arg3))) := by
  refine (W4_arr m ρ c 5).trans ((final1_5 (V3 m ρ) c).trans (funext fun i => ?_))
  by_cases h : (i 0).val = 0
  · rw [if_pos h]
    show adamD (W3 m ρ c (Proc.devRef .tc main_arg0) i) (W3 m ρ c (Proc.devRef .tc main_v4) (ix2 (i 1) (i 2))) (W3 m ρ c (Proc.devRef .tc main_arg2) i) (W3 m ρ c (Proc.devRef .tc main_arg3) i) = _
    rw [W3_args m ρ c main_arg0 (by decide), W3_args m ρ c main_arg2 (by decide), W3_args m ρ c main_arg3 (by decide), grad0 m ρ c i h]
    rfl
  · have h1 : (i 0).val = 1 := by
      have := (i 0).isLt
      change (i 0).val < 2 at this
      omega
    rw [if_neg h]
    refine (congrFun (entry_5 m ρ c) i).trans ((congrFun ((W2_arr m ρ c 5).trans (final0_5 (V1 m ρ) c)) i).trans ?_)
    show (if (i 0).val = 1 then _ else _) = _
    rw [if_pos h1]
    show adamD (W1 m ρ c (Proc.devRef .tc main_arg0) i) (W1 m ρ c (Proc.devRef .tc main_v1) (ix2 (i 1) (i 2))) (W1 m ρ c (Proc.devRef .tc main_arg2) i) (W1 m ρ c (Proc.devRef .tc main_arg3) i) = _
    rw [W1_args m ρ c main_arg0 (by decide), W1_args m ρ c main_arg2 (by decide), W1_args m ρ c main_arg3 (by decide), grad1 m ρ c i h1]
    rfl

/-- What the second call finds in its new first moments: what the first one left. -/
theorem entry_6 : W3 m ρ c (Proc.devRef .tc main_v5_2) = W2 m ρ c (Proc.devRef .tc main_v2_2) := by
  dsimp only [W3]
  after_results
  try rfl

/-- The new first moments. -/
theorem out_6 : @Eq (FVec Ideal (Two 256 1024) .f32) (W4 m ρ c (Proc.devRef .tc main_v5_2)) (newM (m ((c : Thread nD τ).loc main_arg1)) (m ((c : Thread nD τ).loc main_arg2))) := by
  refine (W4_arr m ρ c 6).trans ((final1_6 (V3 m ρ) c).trans (funext fun i => ?_))
  by_cases h : (i 0).val = 0
  · rw [if_pos h]
    show adamM (W3 m ρ c (Proc.devRef .tc main_v4) (ix2 (i 1) (i 2))) (W3 m ρ c (Proc.devRef .tc main_arg2) i) = _
    rw [W3_args m ρ c main_arg2 (by decide), grad0 m ρ c i h]
    rfl
  · have h1 : (i 0).val = 1 := by
      have := (i 0).isLt
      change (i 0).val < 2 at this
      omega
    rw [if_neg h]
    refine (congrFun (entry_6 m ρ c) i).trans ((congrFun ((W2_arr m ρ c 6).trans (final0_6 (V1 m ρ) c)) i).trans ?_)
    show (if (i 0).val = 1 then _ else _) = _
    rw [if_pos h1]
    show adamM (W1 m ρ c (Proc.devRef .tc main_v1) (ix2 (i 1) (i 2))) (W1 m ρ c (Proc.devRef .tc main_arg2) i) = _
    rw [W1_args m ρ c main_arg2 (by decide), grad1 m ρ c i h1]
    rfl

/-- What the second call finds in its new second moments: what the first one left. -/
theorem entry_7 : W3 m ρ c (Proc.devRef .tc main_v5_3) = W2 m ρ c (Proc.devRef .tc main_v2_3) := by
  dsimp only [W3]
  after_results
  try rfl

/-- The new second moments. -/
theorem out_7 : @Eq (FVec Ideal (Two 256 1024) .f32) (W4 m ρ c (Proc.devRef .tc main_v5_3)) (newV (m ((c : Thread nD τ).loc main_arg1)) (m ((c : Thread nD τ).loc main_arg3))) := by
  refine (W4_arr m ρ c 7).trans ((final1_7 (V3 m ρ) c).trans (funext fun i => ?_))
  by_cases h : (i 0).val = 0
  · rw [if_pos h]
    show adamV (W3 m ρ c (Proc.devRef .tc main_v4) (ix2 (i 1) (i 2))) (W3 m ρ c (Proc.devRef .tc main_arg3) i) = _
    rw [W3_args m ρ c main_arg3 (by decide), grad0 m ρ c i h]
    rfl
  · have h1 : (i 0).val = 1 := by
      have := (i 0).isLt
      change (i 0).val < 2 at this
      omega
    rw [if_neg h]
    refine (congrFun (entry_7 m ρ c) i).trans ((congrFun ((W2_arr m ρ c 7).trans (final0_7 (V1 m ρ) c)) i).trans ?_)
    show (if (i 0).val = 1 then _ else _) = _
    rw [if_pos h1]
    show adamV (W1 m ρ c (Proc.devRef .tc main_v1) (ix2 (i 1) (i 2))) (W1 m ρ c (Proc.devRef .tc main_arg3) i) = _
    rw [W1_args m ρ c main_arg3 (by decide), grad1 m ρ c i h1]
    rfl

/-- The run of the two calls. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 256 1024) .f32) (r.2.mem ((c.tc : Thread nD τ).loc main_v5_1)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 256 1024) .f32) (r.2.mem ((c.tc : Thread nD τ).loc main_v5_2)) (newM (m ((c.tc : Thread nD τ).loc main_arg1)) (m ((c.tc : Thread nD τ).loc main_arg2)))
      ∧ @Eq (FVec Ideal (Two 256 1024) .f32) (r.2.mem ((c.tc : Thread nD τ).loc main_v5_3)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run (F := Ideal) m ρ)
  refine ⟨(h c _ (mem_uc _ (by decide))).trans (out_5 m ρ c), (h c _ (mem_uc _ (by decide))).trans (out_6 m ρ c), (h c _ (mem_uc _ (by decide))).trans (out_7 m ρ c),
    (h c _ (mem_uc _ (by decide))).trans (W4_main_arg0 m ρ c), (h c _ (mem_uc _ (by decide))).trans (W4_main_arg1 m ρ c),
    (h c _ (mem_uc _ (by decide))).trans (W4_main_arg2 m ρ c), (h c _ (mem_uc _ (by decide))).trans (W4_main_arg3 m ρ c)⟩

end Cert.AdamSquareIdeal.Hand

namespace Cert.AdamSquareRefIdeal.Hand

open Cert.AdamSquareRefIdeal Cert.AdamSquareRefIdeal.Gen Cert.Hand

/-- The reference's new first moments. -/
theorem ref_m (g a : FVec Ideal (Two 256 1024) .f32) : @Eq (FVec Ideal (Two 256 1024) .f32) (Read.val_main_v4 (F := Ideal) g a) (newM g a) := by
  funext i
  pointwise [Read.val_main_v4, Read.val_main_v3, Read.val_main_v2, Read.val_main_cst_0, Read.val_main_v1, Read.val_main_v0, Read.val_main_cst, newM, adamM]

/-- The reference's new second moments. -/
theorem ref_v (g a : FVec Ideal (Two 256 1024) .f32) : @Eq (FVec Ideal (Two 256 1024) .f32) (Read.val_main_v10 (F := Ideal) g a) (newV g a) := by
  funext i
  pointwise [Read.val_main_v10, Read.val_main_v9, Read.val_main_v8, Read.val_main_cst_2, Read.val_main_v7, Read.val_main_v6, Read.val_main_v5, Read.val_main_cst_1, newV, adamV]

/-- The reference's steps. -/
theorem ref_d (w g a b : FVec Ideal (Two 256 1024) .f32) : @Eq (FVec Ideal (Two 256 1024) .f32) (Read.val_main_v23 (F := Ideal) w g a b) (step w g a b) := by
  funext i
  have hm := congrFun (ref_m g a) i
  have hv := congrFun (ref_v g b) i
  pointwise [Read.val_main_v23, Read.val_main_v22, Read.val_main_cst_7, Read.val_main_v21, Read.val_main_v20, Read.val_main_v19, Read.val_main_cst_6, Read.val_main_v18,
    Read.val_main_v17, Read.val_main_v16, Read.val_main_cst_5, Read.val_main_v15, Read.val_main_v14, Read.val_main_v13, Read.val_main_cst_4, Read.val_main_v12,
    Read.val_main_v11, Read.val_main_cst_3, step, adamD, div_bias1, div_bias2]
  rw [hm, hv]
  rfl

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 256 1024) .f32) (r.2.mem ((c.tc : Thread nD τ).loc main_v23)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 256 1024) .f32) (r.2.mem ((c.tc : Thread nD τ).loc main_v4)) (newM (m ((c.tc : Thread nD τ).loc main_arg1)) (m ((c.tc : Thread nD τ).loc main_arg2)))
      ∧ @Eq (FVec Ideal (Two 256 1024) .f32) (r.2.mem ((c.tc : Thread nD τ).loc main_v10)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamSquareRefIdeal.Value.run (F := Ideal) m ρ)
  obtain ⟨h1, h2, h3, ha⟩ := h c
  exact ⟨h1.trans ((Read.val_main_v23_eq ..).trans (ref_d _ _ _ _)), h2.trans ((Read.val_main_v4_eq ..).trans (ref_m _ _)),
    h3.trans ((Read.val_main_v10_eq ..).trans (ref_v _ _)), ha⟩

end Cert.AdamSquareRefIdeal.Hand

namespace Cert.AdamSquare.Hand

open Cert.Hand

/-- The two named reciprocals are the reals that the table gives them. -/
theorem preserves : Cert.preserves_AdamSquare_AdamSquareIdeal :=
  ⟨IdealRules.named_const.statement Cert.AdamSquareIdeal.κ "inv_bias1" .f32 0x3FC48605#32 ((8388608 / 5463681 : ℝ) : EReal) rfl,
    IdealRules.named_const.statement Cert.AdamSquareIdeal.κ "inv_bias2" .f32 0x42C8E6D3#32 ((268435456 / 2672307 : ℝ) : EReal) rfl⟩

/-- The claim about the steps and the new moments. -/
theorem algebraic : Cert.algebraic_AdamSquareIdeal_AdamSquareRefIdeal := by
  intro m g m' g' _ hagree
  refine ⟨_, _, _, Cert.AdamSquareIdeal.Hand.kernel_run m g, ?_⟩
  refine (θ_run Cert.AdamSquareRefIdeal.defs _ _).mono (fun r h c => ?_) (Cert.AdamSquareRefIdeal.Hand.reference_run m' g')
  obtain ⟨h0, h1, h2, h3⟩ := hagree c
  obtain ⟨e1, e2, e3, ha⟩ := h c
  rw [h0, h1, h2, h3] at e1
  rw [h1, h2] at e2
  rw [h1, h3] at e3
  exact ⟨e1, e2, e3, ha⟩

end Cert.AdamSquare.Hand
end
-- ==== Proof.AdamUp.Tiled.lean ====
/-
  AdamW on a device's columns of the feed-forward blocks' gate and up weights: what each of the two calls leaves in its three results, as functions of the arrays that it finds.
-/
module

public import proofs.«01_k».proof.Proof.Gen.AdamUpIdeal.Frame
public import proofs.«01_k».proof.Proof.AdamW
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamUp.Hand

open Cert.AdamUpIdeal Cert.AdamUpIdeal.Gen Cert.Hand

variable (V : (c : Dev nD) → (b : Ref sig .tc) → Buf (Elt Ideal) ((c : Thread nD τ).loc b))

/-- The first named reciprocal. -/
theorem named1 : Named.named (F := Ideal) Cert.AdamUpIdeal.κ "inv_bias1" (φ := .f32) 0x3FC48605#32 = inv1 :=
  IdealRules.named_const.ideal_named_scalar _ _ _ _ rfl

/-- The second named reciprocal. -/
theorem named2 : Named.named (F := Ideal) Cert.AdamUpIdeal.κ "inv_bias2" (φ := .f32) 0x42C8E6D3#32 = inv2 :=
  IdealRules.named_const.ideal_named_scalar _ _ _ _ rfl

theorem idx0 : ∀ t : Fin cfg0.N, win0_0.index t = ![1, t.val, 0] ∧ win0_1.index t = ![t.val, 0] ∧ win0_2.index t = ![1, t.val, 0] ∧ win0_3.index t = ![1, t.val, 0]
    ∧ win0_5.index t = ![1, t.val, 0] ∧ win0_6.index t = ![1, t.val, 0] ∧ win0_7.index t = ![1, t.val, 0] :=
  (by decide +kernel : ∀ t : Fin grid0.N, _)

set_option maxHeartbeats 1600000 in
/-- The first call's steps: layer 1's, the other layer's as the call finds them. -/
theorem final0_5 (c : Dev nD) : (dat0 (F := Ideal) V c).arrAt 5 cfg0.N = fun (i : (Two 704 1024).Idx) => if (i 0).val = 1 then
      adamD (V c (Pipeline.arrRef spec0 0) i) (V c (Pipeline.arrRef spec0 1) (ix2 (i 1) (i 2))) (V c (Pipeline.arrRef spec0 2) i) (V c (Pipeline.arrRef spec0 3) i)
      else V c (Pipeline.arrRef spec0 5) i := by
  refine (dat0 V c).arrAt_eq_of_coversWhere 5 _ (fun β => β (0 : Fin 3) = 1) (by decide +kernel) (fun t hf y => ?_)
    (fun j => by blk_simp [Pipeline.Window.cell_apply, Nat.div_one])
  blk_simp
  rw [after0_5]; frame_out
  pointwise [k0_pay1, k0_pay2, k0_pay3, k0_pay4, k0_pay5, k0_pay6, k0_pay7, k0_pay8, named1, named2, adamM, adamV, adamD]
  blk_point [iblk0, idx0 t]

set_option maxHeartbeats 1600000 in
/-- The first call's new first moments: layer 1's, the other layer's as the call finds them. -/
theorem final0_6 (c : Dev nD) : (dat0 (F := Ideal) V c).arrAt 6 cfg0.N = fun (i : (Two 704 1024).Idx) => if (i 0).val = 1 then
      adamM (V c (Pipeline.arrRef spec0 1) (ix2 (i 1) (i 2))) (V c (Pipeline.arrRef spec0 2) i)
      else V c (Pipeline.arrRef spec0 6) i := by
  refine (dat0 V c).arrAt_eq_of_coversWhere 6 _ (fun β => β (0 : Fin 3) = 1) (by decide +kernel) (fun t hf y => ?_)
    (fun j => by blk_simp [Pipeline.Window.cell_apply, Nat.div_one])
  blk_simp
  rw [after0_6]; frame_out
  pointwise [k0_pay1, k0_pay2, k0_pay3, k0_pay4, k0_pay5, k0_pay6, k0_pay7, k0_pay8, adamM, adamV, adamD]
  blk_point [iblk0, idx0 t]

set_option maxHeartbeats 1600000 in
/-- The first call's new second moments: layer 1's, the other layer's as the call finds them. -/
theorem final0_7 (c : Dev nD) : (dat0 (F := Ideal) V c).arrAt 7 cfg0.N = fun (i : (Two 704 1024).Idx) => if (i 0).val = 1 then
      adamV (V c (Pipeline.arrRef spec0 1) (ix2 (i 1) (i 2))) (V c (Pipeline.arrRef spec0 3) i)
      else V c (Pipeline.arrRef spec0 7) i := by
  refine (dat0 V c).arrAt_eq_of_coversWhere 7 _ (fun β => β (0 : Fin 3) = 1) (by decide +kernel) (fun t hf y => ?_)
    (fun j => by blk_simp [Pipeline.Window.cell_apply, Nat.div_one])
  blk_simp
  rw [after0_7]; frame_out
  pointwise [k0_pay1, k0_pay2, k0_pay3, k0_pay4, k0_pay5, k0_pay6, k0_pay7, k0_pay8, adamM, adamV, adamD]
  blk_point [iblk0, idx0 t]

theorem idx1 : ∀ t : Fin cfg1.N, win1_0.index t = ![0, t.val, 0] ∧ win1_1.index t = ![t.val, 0] ∧ win1_2.index t = ![0, t.val, 0] ∧ win1_3.index t = ![0, t.val, 0]
    ∧ win1_5.index t = ![0, t.val, 0] ∧ win1_6.index t = ![0, t.val, 0] ∧ win1_7.index t = ![0, t.val, 0] :=
  (by decide +kernel : ∀ t : Fin grid1.N, _)

set_option maxHeartbeats 1600000 in
/-- The second call's steps: layer 0's, the other layer's as the call finds them. -/
theorem final1_5 (c : Dev nD) : (dat1 (F := Ideal) V c).arrAt 5 cfg1.N = fun (i : (Two 704 1024).Idx) => if (i 0).val = 0 then
      adamD (V c (Pipeline.arrRef spec1 0) i) (V c (Pipeline.arrRef spec1 1) (ix2 (i 1) (i 2))) (V c (Pipeline.arrRef spec1 2) i) (V c (Pipeline.arrRef spec1 3) i)
      else V c (Pipeline.arrRef spec1 5) i := by
  refine (dat1 V c).arrAt_eq_of_coversWhere 5 _ (fun β => β (0 : Fin 3) = 0) (by decide +kernel) (fun t hf y => ?_)
    (fun j => by blk_simp [Pipeline.Window.cell_apply, Nat.div_one])
  blk_simp
  rw [after1_5]; unfold Gen.outsAt1; frame_out
  pointwise [k1_pay1, k1_pay2, k1_pay3, k1_pay4, k1_pay5, k1_pay6, k1_pay7, k1_pay8, named1, named2, adamM, adamV, adamD]
  blk_point [iblk1, idx1 t]

set_option maxHeartbeats 1600000 in
/-- The second call's new first moments: layer 0's, the other layer's as the call finds them. -/
theorem final1_6 (c : Dev nD) : (dat1 (F := Ideal) V c).arrAt 6 cfg1.N = fun (i : (Two 704 1024).Idx) => if (i 0).val = 0 then
      adamM (V c (Pipeline.arrRef spec1 1) (ix2 (i 1) (i 2))) (V c (Pipeline.arrRef spec1 2) i)
      else V c (Pipeline.arrRef spec1 6) i := by
  refine (dat1 V c).arrAt_eq_of_coversWhere 6 _ (fun β => β (0 : Fin 3) = 0) (by decide +kernel) (fun t hf y => ?_)
    (fun j => by blk_simp [Pipeline.Window.cell_apply, Nat.div_one])
  blk_simp
  rw [after1_6]; unfold Gen.outsAt1; frame_out
  pointwise [k1_pay1, k1_pay2, k1_pay3, k1_pay4, k1_pay5, k1_pay6, k1_pay7, k1_pay8, adamM, adamV, adamD]
  blk_point [iblk1, idx1 t]

set_option maxHeartbeats 1600000 in
/-- The second call's new second moments: layer 0's, the other layer's as the call finds them. -/
theorem final1_7 (c : Dev nD) : (dat1 (F := Ideal) V c).arrAt 7 cfg1.N = fun (i : (Two 704 1024).Idx) => if (i 0).val = 0 then
      adamV (V c (Pipeline.arrRef spec1 1) (ix2 (i 1) (i 2))) (V c (Pipeline.arrRef spec1 3) i)
      else V c (Pipeline.arrRef spec1 7) i := by
  refine (dat1 V c).arrAt_eq_of_coversWhere 7 _ (fun β => β (0 : Fin 3) = 0) (by decide +kernel) (fun t hf y => ?_)
    (fun j => by blk_simp [Pipeline.Window.cell_apply, Nat.div_one])
  blk_simp
  rw [after1_7]; unfold Gen.outsAt1; frame_out
  pointwise [k1_pay1, k1_pay2, k1_pay3, k1_pay4, k1_pay5, k1_pay6, k1_pay7, k1_pay8, adamM, adamV, adamD]
  blk_point [iblk1, idx1 t]

end Cert.AdamUp.Hand
end
-- ==== Proof.AdamUp.Run.lean ====
/-
  The run of the two calls of AdamW on a device's columns of the feed-forward blocks' gate and up weights: every array that the program holds ends as the fold over its calls says.
-/
module

public import proofs.«01_k».proof.Proof.Gen.AdamUpIdeal.Frame

@[expose] public section

set_option maxRecDepth 16384

noncomputable section

namespace Cert.AdamUp.Hand

open Cert.AdamUpIdeal Cert.AdamUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option backward.isDefEq.respectTransparency.types false in
/-- Every weakly fair execution ends, and every array that outlives the calls then holds what the fold says. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.AdamUp.Hand
end
-- ==== Proof.AdamUp.Value.lean ====
/-
  AdamW on a device's columns of the feed-forward blocks' gate and up weights: the two calls together, the reference, and the claim that they agree.
-/
module

public import proofs.«01_k».proof.Defs
public import proofs.«01_k».proof.Proof.Gen.AdamUpRefIdeal.Read
public import proofs.«01_k».proof.Proof.AdamUp.Tiled
public import proofs.«01_k».proof.Proof.AdamUp.Run
public import Idealize.ShloMosaic.Lib.StableHlo.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamUpIdeal.Hand

open Cert.AdamUpIdeal Cert.AdamUpIdeal.Gen Cert.Hand Cert.AdamUp.Hand

variable (m : (ℓ : Loc nD τ sig) → Buf (Elt Ideal) ℓ) (ρ : Dev nD → PrngReg) (c : Dev nD)

/-- The first call's gradient: the second layer of the argument. -/
theorem grad1 (i : (Two 704 1024).Idx) (h : (i 0).val = 1) : W1 m ρ c (Proc.devRef .tc main_v5) (ix2 (i 1) (i 2)) = (sw (m ((c : Thread nD τ).loc main_arg1))) i := by
  show StableHlo.after hostOps0 _ _ _ = _
  after_results
  pointwise [W0, sw]
  refine congrArg (m ((c : Thread nD τ).loc main_arg1)) (funext fun a => ?_)
  fin_cases a
  · exact Fin.ext h.symm
  · rfl
  · rfl

/-- The second call's gradient: the first layer of the argument. -/
theorem grad0 (i : (Two 704 1024).Idx) (h : (i 0).val = 0) : W3 m ρ c (Proc.devRef .tc main_v9) (ix2 (i 1) (i 2)) = (sw (m ((c : Thread nD τ).loc main_arg1))) i := by
  show StableHlo.after hostOps1 _ _ _ = _
  after_results
  pointwise [W2_args m ρ c main_arg1 (by decide), sw]
  refine congrArg (m ((c : Thread nD τ).loc main_arg1)) (funext fun a => ?_)
  fin_cases a
  · exact Fin.ext h.symm
  · rfl
  · rfl

/-- The weight with swapped axes, as the first call finds them. -/
theorem W1_in0 : @Eq (FVec Ideal (Two 704 1024) .f32) (W1 m ρ c (Proc.devRef .tc main_v0)) (sw (m ((c : Thread nD τ).loc main_arg0))) := by
  funext i
  show StableHlo.after hostOps0 _ _ _ = _
  after_results
  pointwise [W0, sw]

/-- The same, as the second call finds them. -/
theorem W3_in0 : @Eq (FVec Ideal (Two 704 1024) .f32) (W3 m ρ c (Proc.devRef .tc main_v0)) (sw (m ((c : Thread nD τ).loc main_arg0))) :=
  (W3_of m ρ c main_v0 (by decide)).trans ((W2_of m ρ c main_v0 (by decide)).trans (W1_in0 m ρ c))

/-- The first moments with swapped axes, as the first call finds them. -/
theorem W1_in2 : @Eq (FVec Ideal (Two 704 1024) .f32) (W1 m ρ c (Proc.devRef .tc main_v1)) (sw (m ((c : Thread nD τ).loc main_arg2))) := by
  funext i
  show StableHlo.after hostOps0 _ _ _ = _
  after_results
  pointwise [W0, sw]

/-- The same, as the second call finds them. -/
theorem W3_in2 : @Eq (FVec Ideal (Two 704 1024) .f32) (W3 m ρ c (Proc.devRef .tc main_v1)) (sw (m ((c : Thread nD τ).loc main_arg2))) :=
  (W3_of m ρ c main_v1 (by decide)).trans ((W2_of m ρ c main_v1 (by decide)).trans (W1_in2 m ρ c))

/-- The second moments with swapped axes, as the first call finds them. -/
theorem W1_in3 : @Eq (FVec Ideal (Two 704 1024) .f32) (W1 m ρ c (Proc.devRef .tc main_v2)) (sw (m ((c : Thread nD τ).loc main_arg3))) := by
  funext i
  show StableHlo.after hostOps0 _ _ _ = _
  after_results
  pointwise [W0, sw]

/-- The same, as the second call finds them. -/
theorem W3_in3 : @Eq (FVec Ideal (Two 704 1024) .f32) (W3 m ρ c (Proc.devRef .tc main_v2)) (sw (m ((c : Thread nD τ).loc main_arg3))) :=
  (W3_of m ρ c main_v2 (by decide)).trans ((W2_of m ρ c main_v2 (by decide)).trans (W1_in3 m ρ c))

/-- What the second call finds in its steps: what the first one left. -/
theorem entry_5 : W3 m ρ c (Proc.devRef .tc main_v10_1) = W2 m ρ c (Proc.devRef .tc main_v6_1) := by
  dsimp only [W3]
  after_results
  try rfl

/-- The steps. -/
theorem out_5 : @Eq (FVec Ideal (Two 704 1024) .f32) (W4 m ρ c (Proc.devRef .tc main_v10_1)) (step (sw (m ((c : Thread nD τ).loc main_arg0))) (sw (m ((c : Thread nD τ).loc main_arg1))) (sw (m ((c : Thread nD τ).loc main_arg2))) (sw (m ((c : Thread nD τ).loc main_arg3)))) := by
  refine (W4_arr m ρ c 5).trans ((final1_5 (V3 m ρ) c).trans (funext fun i => ?_))
  by_cases h : (i 0).val = 0
  · rw [if_pos h]
    show adamD (W3 m ρ c (Proc.devRef .tc main_v0) i) (W3 m ρ c (Proc.devRef .tc main_v9) (ix2 (i 1) (i 2))) (W3 m ρ c (Proc.devRef .tc main_v1) i) (W3 m ρ c (Proc.devRef .tc main_v2) i) = _
    rw [W3_in0 m ρ c, W3_in2 m ρ c, W3_in3 m ρ c, grad0 m ρ c i h]
    rfl
  · have h1 : (i 0).val = 1 := by
      have := (i 0).isLt
      change (i 0).val < 2 at this
      omega
    rw [if_neg h]
    refine (congrFun (entry_5 m ρ c) i).trans ((congrFun ((W2_arr m ρ c 5).trans (final0_5 (V1 m ρ) c)) i).trans ?_)
    show (if (i 0).val = 1 then _ else _) = _
    rw [if_pos h1]
    show adamD (W1 m ρ c (Proc.devRef .tc main_v0) i) (W1 m ρ c (Proc.devRef .tc main_v5) (ix2 (i 1) (i 2))) (W1 m ρ c (Proc.devRef .tc main_v1) i) (W1 m ρ c (Proc.devRef .tc main_v2) i) = _
    rw [W1_in0 m ρ c, W1_in2 m ρ c, W1_in3 m ρ c, grad1 m ρ c i h1]
    rfl

/-- What the second call finds in its new first moments: what the first one left. -/
theorem entry_6 : W3 m ρ c (Proc.devRef .tc main_v10_2) = W2 m ρ c (Proc.devRef .tc main_v6_2) := by
  dsimp only [W3]
  after_results
  try rfl

/-- The new first moments. -/
theorem out_6 : @Eq (FVec Ideal (Two 704 1024) .f32) (W4 m ρ c (Proc.devRef .tc main_v10_2)) (newM (sw (m ((c : Thread nD τ).loc main_arg1))) (sw (m ((c : Thread nD τ).loc main_arg2)))) := by
  refine (W4_arr m ρ c 6).trans ((final1_6 (V3 m ρ) c).trans (funext fun i => ?_))
  by_cases h : (i 0).val = 0
  · rw [if_pos h]
    show adamM (W3 m ρ c (Proc.devRef .tc main_v9) (ix2 (i 1) (i 2))) (W3 m ρ c (Proc.devRef .tc main_v1) i) = _
    rw [W3_in2 m ρ c, grad0 m ρ c i h]
    rfl
  · have h1 : (i 0).val = 1 := by
      have := (i 0).isLt
      change (i 0).val < 2 at this
      omega
    rw [if_neg h]
    refine (congrFun (entry_6 m ρ c) i).trans ((congrFun ((W2_arr m ρ c 6).trans (final0_6 (V1 m ρ) c)) i).trans ?_)
    show (if (i 0).val = 1 then _ else _) = _
    rw [if_pos h1]
    show adamM (W1 m ρ c (Proc.devRef .tc main_v5) (ix2 (i 1) (i 2))) (W1 m ρ c (Proc.devRef .tc main_v1) i) = _
    rw [W1_in2 m ρ c, grad1 m ρ c i h1]
    rfl

/-- What the second call finds in its new second moments: what the first one left. -/
theorem entry_7 : W3 m ρ c (Proc.devRef .tc main_v10_3) = W2 m ρ c (Proc.devRef .tc main_v6_3) := by
  dsimp only [W3]
  after_results
  try rfl

/-- The new second moments. -/
theorem out_7 : @Eq (FVec Ideal (Two 704 1024) .f32) (W4 m ρ c (Proc.devRef .tc main_v10_3)) (newV (sw (m ((c : Thread nD τ).loc main_arg1))) (sw (m ((c : Thread nD τ).loc main_arg3)))) := by
  refine (W4_arr m ρ c 7).trans ((final1_7 (V3 m ρ) c).trans (funext fun i => ?_))
  by_cases h : (i 0).val = 0
  · rw [if_pos h]
    show adamV (W3 m ρ c (Proc.devRef .tc main_v9) (ix2 (i 1) (i 2))) (W3 m ρ c (Proc.devRef .tc main_v2) i) = _
    rw [W3_in3 m ρ c, grad0 m ρ c i h]
    rfl
  · have h1 : (i 0).val = 1 := by
      have := (i 0).isLt
      change (i 0).val < 2 at this
      omega
    rw [if_neg h]
    refine (congrFun (entry_7 m ρ c) i).trans ((congrFun ((W2_arr m ρ c 7).trans (final0_7 (V1 m ρ) c)) i).trans ?_)
    show (if (i 0).val = 1 then _ else _) = _
    rw [if_pos h1]
    show adamV (W1 m ρ c (Proc.devRef .tc main_v5) (ix2 (i 1) (i 2))) (W1 m ρ c (Proc.devRef .tc main_v2) i) = _
    rw [W1_in3 m ρ c, grad1 m ρ c i h1]
    rfl

/-- The steps, swapped back. -/
theorem back_5 : @Eq (FVec Ideal (Two 1024 704) .f32) (W5 m ρ c (Proc.devRef .tc main_v11)) (step (m ((c : Thread nD τ).loc main_arg0)) (m ((c : Thread nD τ).loc main_arg1)) (m ((c : Thread nD τ).loc main_arg2)) (m ((c : Thread nD τ).loc main_arg3))) := by
  funext i
  have e := congrFun (out_5 m ρ c) (ix3 (i 0) (i 2) (i 1))
  show StableHlo.after hostOps2 _ _ _ = _
  after_results
  pointwise
  refine e.trans ?_
  pointwise [step, newM, newV, sw]

/-- The new first moments, swapped back. -/
theorem back_6 : @Eq (FVec Ideal (Two 1024 704) .f32) (W5 m ρ c (Proc.devRef .tc main_v12)) (newM (m ((c : Thread nD τ).loc main_arg1)) (m ((c : Thread nD τ).loc main_arg2))) := by
  funext i
  have e := congrFun (out_6 m ρ c) (ix3 (i 0) (i 2) (i 1))
  show StableHlo.after hostOps2 _ _ _ = _
  after_results
  pointwise
  refine e.trans ?_
  pointwise [step, newM, newV, sw]

/-- The new second moments, swapped back. -/
theorem back_7 : @Eq (FVec Ideal (Two 1024 704) .f32) (W5 m ρ c (Proc.devRef .tc main_v13)) (newV (m ((c : Thread nD τ).loc main_arg1)) (m ((c : Thread nD τ).loc main_arg3))) := by
  funext i
  have e := congrFun (out_7 m ρ c) (ix3 (i 0) (i 2) (i 1))
  show StableHlo.after hostOps2 _ _ _ = _
  after_results
  pointwise
  refine e.trans ?_
  pointwise [step, newM, newV, sw]

/-- The run of the two calls. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 1024 704) .f32) (r.2.mem ((c.tc : Thread nD τ).loc main_v11)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 1024 704) .f32) (r.2.mem ((c.tc : Thread nD τ).loc main_v12)) (newM (m ((c.tc : Thread nD τ).loc main_arg1)) (m ((c.tc : Thread nD τ).loc main_arg2)))
      ∧ @Eq (FVec Ideal (Two 1024 704) .f32) (r.2.mem ((c.tc : Thread nD τ).loc main_v13)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run (F := Ideal) m ρ)
  refine ⟨(h c _ (mem_uc _ (by decide))).trans (back_5 m ρ c), (h c _ (mem_uc _ (by decide))).trans (back_6 m ρ c), (h c _ (mem_uc _ (by decide))).trans (back_7 m ρ c),
    (h c _ (mem_uc _ (by decide))).trans (W5_main_arg0 m ρ c), (h c _ (mem_uc _ (by decide))).trans (W5_main_arg1 m ρ c),
    (h c _ (mem_uc _ (by decide))).trans (W5_main_arg2 m ρ c), (h c _ (mem_uc _ (by decide))).trans (W5_main_arg3 m ρ c)⟩

end Cert.AdamUpIdeal.Hand

namespace Cert.AdamUpRefIdeal.Hand

open Cert.AdamUpRefIdeal Cert.AdamUpRefIdeal.Gen Cert.Hand

/-- The reference's new first moments. -/
theorem ref_m (g a : FVec Ideal (Two 1024 704) .f32) : @Eq (FVec Ideal (Two 1024 704) .f32) (Read.val_main_v4 (F := Ideal) g a) (newM g a) := by
  funext i
  pointwise [Read.val_main_v4, Read.val_main_v3, Read.val_main_v2, Read.val_main_cst_0, Read.val_main_v1, Read.val_main_v0, Read.val_main_cst, newM, adamM]

/-- The reference's new second moments. -/
theorem ref_v (g a : FVec Ideal (Two 1024 704) .f32) : @Eq (FVec Ideal (Two 1024 704) .f32) (Read.val_main_v10 (F := Ideal) g a) (newV g a) := by
  funext i
  pointwise [Read.val_main_v10, Read.val_main_v9, Read.val_main_v8, Read.val_main_cst_2, Read.val_main_v7, Read.val_main_v6, Read.val_main_v5, Read.val_main_cst_1, newV, adamV]

/-- The reference's steps. -/
theorem ref_d (w g a b : FVec Ideal (Two 1024 704) .f32) : @Eq (FVec Ideal (Two 1024 704) .f32) (Read.val_main_v23 (F := Ideal) w g a b) (step w g a b) := by
  funext i
  have hm := congrFun (ref_m g a) i
  have hv := congrFun (ref_v g b) i
  pointwise [Read.val_main_v23, Read.val_main_v22, Read.val_main_cst_7, Read.val_main_v21, Read.val_main_v20, Read.val_main_v19, Read.val_main_cst_6, Read.val_main_v18,
    Read.val_main_v17, Read.val_main_v16, Read.val_main_cst_5, Read.val_main_v15, Read.val_main_v14, Read.val_main_v13, Read.val_main_cst_4, Read.val_main_v12,
    Read.val_main_v11, Read.val_main_cst_3, step, adamD, div_bias1, div_bias2]
  rw [hm, hv]
  rfl

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 1024 704) .f32) (r.2.mem ((c.tc : Thread nD τ).loc main_v23)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 1024 704) .f32) (r.2.mem ((c.tc : Thread nD τ).loc main_v4)) (newM (m ((c.tc : Thread nD τ).loc main_arg1)) (m ((c.tc : Thread nD τ).loc main_arg2)))
      ∧ @Eq (FVec Ideal (Two 1024 704) .f32) (r.2.mem ((c.tc : Thread nD τ).loc main_v10)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamUpRefIdeal.Value.run (F := Ideal) m ρ)
  obtain ⟨h1, h2, h3, ha⟩ := h c
  exact ⟨h1.trans ((Read.val_main_v23_eq ..).trans (ref_d _ _ _ _)), h2.trans ((Read.val_main_v4_eq ..).trans (ref_m _ _)),
    h3.trans ((Read.val_main_v10_eq ..).trans (ref_v _ _)), ha⟩

end Cert.AdamUpRefIdeal.Hand

namespace Cert.AdamUp.Hand

open Cert.Hand

/-- The two named reciprocals are the reals that the table gives them. -/
theorem preserves : Cert.preserves_AdamUp_AdamUpIdeal :=
  ⟨IdealRules.named_const.statement Cert.AdamUpIdeal.κ "inv_bias1" .f32 0x3FC48605#32 ((8388608 / 5463681 : ℝ) : EReal) rfl,
    IdealRules.named_const.statement Cert.AdamUpIdeal.κ "inv_bias2" .f32 0x42C8E6D3#32 ((268435456 / 2672307 : ℝ) : EReal) rfl⟩

/-- The claim about the steps and the new moments. -/
theorem algebraic : Cert.algebraic_AdamUpIdeal_AdamUpRefIdeal := by
  intro m g m' g' _ hagree
  refine ⟨_, _, _, Cert.AdamUpIdeal.Hand.kernel_run m g, ?_⟩
  refine (θ_run Cert.AdamUpRefIdeal.defs _ _).mono (fun r h c => ?_) (Cert.AdamUpRefIdeal.Hand.reference_run m' g')
  obtain ⟨h0, h1, h2, h3⟩ := hagree c
  obtain ⟨e1, e2, e3, ha⟩ := h c
  rw [h0, h1, h2, h3] at e1
  rw [h1, h2] at e2
  rw [h1, h3] at e3
  exact ⟨e1, e2, e3, ha⟩

end Cert.AdamUp.Hand
end
-- ==== Proof.AdamDown.Tiled.lean ====
/-
  AdamW on a device's rows of the feed-forward blocks' down weights: what each of the two calls leaves in its three results, as functions of the arrays that it finds.
-/
module

public import proofs.«01_k».proof.Proof.Gen.AdamDownIdeal.Frame
public import proofs.«01_k».proof.Proof.AdamW
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamDown.Hand

open Cert.AdamDownIdeal Cert.AdamDownIdeal.Gen Cert.Hand

variable (V : (c : Dev nD) → (b : Ref sig .tc) → Buf (Elt Ideal) ((c : Thread nD τ).loc b))

/-- The first named reciprocal. -/
theorem named1 : Named.named (F := Ideal) Cert.AdamDownIdeal.κ "inv_bias1" (φ := .f32) 0x3FC48605#32 = inv1 :=
  IdealRules.named_const.ideal_named_scalar _ _ _ _ rfl

/-- The second named reciprocal. -/
theorem named2 : Named.named (F := Ideal) Cert.AdamDownIdeal.κ "inv_bias2" (φ := .f32) 0x42C8E6D3#32 = inv2 :=
  IdealRules.named_const.ideal_named_scalar _ _ _ _ rfl

theorem idx0 : ∀ t : Fin cfg0.N, win0_0.index t = ![1, t.val, 0] ∧ win0_1.index t = ![t.val, 0] ∧ win0_2.index t = ![1, t.val, 0] ∧ win0_3.index t = ![1, t.val, 0]
    ∧ win0_5.index t = ![1, t.val, 0] ∧ win0_6.index t = ![1, t.val, 0] ∧ win0_7.index t = ![1, t.val, 0] :=
  (by decide +kernel : ∀ t : Fin grid0.N, _)

set_option maxHeartbeats 1600000 in
/-- The first call's steps: layer 1's, the other layer's as the call finds them. -/
theorem final0_5 (c : Dev nD) : (dat0 (F := Ideal) V c).arrAt 5 cfg0.N = fun (i : (Two 704 1024).Idx) => if (i 0).val = 1 then
      adamD (V c (Pipeline.arrRef spec0 0) i) (V c (Pipeline.arrRef spec0 1) (ix2 (i 1) (i 2))) (V c (Pipeline.arrRef spec0 2) i) (V c (Pipeline.arrRef spec0 3) i)
      else V c (Pipeline.arrRef spec0 5) i := by
  refine (dat0 V c).arrAt_eq_of_coversWhere 5 _ (fun β => β (0 : Fin 3) = 1) (by decide +kernel) (fun t hf y => ?_)
    (fun j => by blk_simp [Pipeline.Window.cell_apply, Nat.div_one])
  blk_simp
  rw [after0_5]; frame_out
  pointwise [k0_pay1, k0_pay2, k0_pay3, k0_pay4, k0_pay5, k0_pay6, k0_pay7, k0_pay8, named1, named2, adamM, adamV, adamD]
  blk_point [iblk0, idx0 t]

set_option maxHeartbeats 1600000 in
/-- The first call's new first moments: layer 1's, the other layer's as the call finds them. -/
theorem final0_6 (c : Dev nD) : (dat0 (F := Ideal) V c).arrAt 6 cfg0.N = fun (i : (Two 704 1024).Idx) => if (i 0).val = 1 then
      adamM (V c (Pipeline.arrRef spec0 1) (ix2 (i 1) (i 2))) (V c (Pipeline.arrRef spec0 2) i)
      else V c (Pipeline.arrRef spec0 6) i := by
  refine (dat0 V c).arrAt_eq_of_coversWhere 6 _ (fun β => β (0 : Fin 3) = 1) (by decide +kernel) (fun t hf y => ?_)
    (fun j => by blk_simp [Pipeline.Window.cell_apply, Nat.div_one])
  blk_simp
  rw [after0_6]; frame_out
  pointwise [k0_pay1, k0_pay2, k0_pay3, k0_pay4, k0_pay5, k0_pay6, k0_pay7, k0_pay8, adamM, adamV, adamD]
  blk_point [iblk0, idx0 t]

set_option maxHeartbeats 1600000 in
/-- The first call's new second moments: layer 1's, the other layer's as the call finds them. -/
theorem final0_7 (c : Dev nD) : (dat0 (F := Ideal) V c).arrAt 7 cfg0.N = fun (i : (Two 704 1024).Idx) => if (i 0).val = 1 then
      adamV (V c (Pipeline.arrRef spec0 1) (ix2 (i 1) (i 2))) (V c (Pipeline.arrRef spec0 3) i)
      else V c (Pipeline.arrRef spec0 7) i := by
  refine (dat0 V c).arrAt_eq_of_coversWhere 7 _ (fun β => β (0 : Fin 3) = 1) (by decide +kernel) (fun t hf y => ?_)
    (fun j => by blk_simp [Pipeline.Window.cell_apply, Nat.div_one])
  blk_simp
  rw [after0_7]; frame_out
  pointwise [k0_pay1, k0_pay2, k0_pay3, k0_pay4, k0_pay5, k0_pay6, k0_pay7, k0_pay8, adamM, adamV, adamD]
  blk_point [iblk0, idx0 t]

theorem idx1 : ∀ t : Fin cfg1.N, win1_0.index t = ![0, t.val, 0] ∧ win1_1.index t = ![t.val, 0] ∧ win1_2.index t = ![0, t.val, 0] ∧ win1_3.index t = ![0, t.val, 0]
    ∧ win1_5.index t = ![0, t.val, 0] ∧ win1_6.index t = ![0, t.val, 0] ∧ win1_7.index t = ![0, t.val, 0] :=
  (by decide +kernel : ∀ t : Fin grid1.N, _)

set_option maxHeartbeats 1600000 in
/-- The second call's steps: layer 0's, the other layer's as the call finds them. -/
theorem final1_5 (c : Dev nD) : (dat1 (F := Ideal) V c).arrAt 5 cfg1.N = fun (i : (Two 704 1024).Idx) => if (i 0).val = 0 then
      adamD (V c (Pipeline.arrRef spec1 0) i) (V c (Pipeline.arrRef spec1 1) (ix2 (i 1) (i 2))) (V c (Pipeline.arrRef spec1 2) i) (V c (Pipeline.arrRef spec1 3) i)
      else V c (Pipeline.arrRef spec1 5) i := by
  refine (dat1 V c).arrAt_eq_of_coversWhere 5 _ (fun β => β (0 : Fin 3) = 0) (by decide +kernel) (fun t hf y => ?_)
    (fun j => by blk_simp [Pipeline.Window.cell_apply, Nat.div_one])
  blk_simp
  rw [after1_5]; unfold Gen.outsAt1; frame_out
  pointwise [k1_pay1, k1_pay2, k1_pay3, k1_pay4, k1_pay5, k1_pay6, k1_pay7, k1_pay8, named1, named2, adamM, adamV, adamD]
  blk_point [iblk1, idx1 t]

set_option maxHeartbeats 1600000 in
/-- The second call's new first moments: layer 0's, the other layer's as the call finds them. -/
theorem final1_6 (c : Dev nD) : (dat1 (F := Ideal) V c).arrAt 6 cfg1.N = fun (i : (Two 704 1024).Idx) => if (i 0).val = 0 then
      adamM (V c (Pipeline.arrRef spec1 1) (ix2 (i 1) (i 2))) (V c (Pipeline.arrRef spec1 2) i)
      else V c (Pipeline.arrRef spec1 6) i := by
  refine (dat1 V c).arrAt_eq_of_coversWhere 6 _ (fun β => β (0 : Fin 3) = 0) (by decide +kernel) (fun t hf y => ?_)
    (fun j => by blk_simp [Pipeline.Window.cell_apply, Nat.div_one])
  blk_simp
  rw [after1_6]; unfold Gen.outsAt1; frame_out
  pointwise [k1_pay1, k1_pay2, k1_pay3, k1_pay4, k1_pay5, k1_pay6, k1_pay7, k1_pay8, adamM, adamV, adamD]
  blk_point [iblk1, idx1 t]

set_option maxHeartbeats 1600000 in
/-- The second call's new second moments: layer 0's, the other layer's as the call finds them. -/
theorem final1_7 (c : Dev nD) : (dat1 (F := Ideal) V c).arrAt 7 cfg1.N = fun (i : (Two 704 1024).Idx) => if (i 0).val = 0 then
      adamV (V c (Pipeline.arrRef spec1 1) (ix2 (i 1) (i 2))) (V c (Pipeline.arrRef spec1 3) i)
      else V c (Pipeline.arrRef spec1 7) i := by
  refine (dat1 V c).arrAt_eq_of_coversWhere 7 _ (fun β => β (0 : Fin 3) = 0) (by decide +kernel) (fun t hf y => ?_)
    (fun j => by blk_simp [Pipeline.Window.cell_apply, Nat.div_one])
  blk_simp
  rw [after1_7]; unfold Gen.outsAt1; frame_out
  pointwise [k1_pay1, k1_pay2, k1_pay3, k1_pay4, k1_pay5, k1_pay6, k1_pay7, k1_pay8, adamM, adamV, adamD]
  blk_point [iblk1, idx1 t]

end Cert.AdamDown.Hand
end
-- ==== Proof.AdamDown.Run.lean ====
/-
  The run of the two calls of AdamW on a device's rows of the feed-forward blocks' down weights: every array that the program holds ends as the fold over its calls says.
-/
module

public import proofs.«01_k».proof.Proof.Gen.AdamDownIdeal.Frame

@[expose] public section

set_option maxRecDepth 16384

noncomputable section

namespace Cert.AdamDown.Hand

open Cert.AdamDownIdeal Cert.AdamDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option backward.isDefEq.respectTransparency.types false in
/-- Every weakly fair execution ends, and every array that outlives the calls then holds what the fold says. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.AdamDown.Hand
end
-- ==== Proof.AdamDown.Value.lean ====
/-
  AdamW on a device's rows of the feed-forward blocks' down weights: the two calls together, the reference, and the claim that they agree.
-/
module

public import proofs.«01_k».proof.Defs
public import proofs.«01_k».proof.Proof.Gen.AdamDownRefIdeal.Read
public import proofs.«01_k».proof.Proof.AdamDown.Tiled
public import proofs.«01_k».proof.Proof.AdamDown.Run
public import Idealize.ShloMosaic.Lib.StableHlo.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDownIdeal.Hand

open Cert.AdamDownIdeal Cert.AdamDownIdeal.Gen Cert.Hand Cert.AdamDown.Hand

variable (m : (ℓ : Loc nD τ sig) → Buf (Elt Ideal) ℓ) (ρ : Dev nD → PrngReg) (c : Dev nD)

/-- The first call's gradient: the second layer of the argument. -/
theorem grad1 (i : (Two 704 1024).Idx) (h : (i 0).val = 1) : W1 m ρ c (Proc.devRef .tc main_v1) (ix2 (i 1) (i 2)) = m ((c : Thread nD τ).loc main_arg1) i := by
  show StableHlo.after hostOps0 _ _ _ = _
  after_results
  pointwise [W0]
  refine congrArg (m ((c : Thread nD τ).loc main_arg1)) (funext fun a => ?_)
  fin_cases a
  · exact Fin.ext h.symm
  · rfl
  · rfl

/-- The second call's gradient: the first layer of the argument. -/
theorem grad0 (i : (Two 704 1024).Idx) (h : (i 0).val = 0) : W3 m ρ c (Proc.devRef .tc main_v4) (ix2 (i 1) (i 2)) = m ((c : Thread nD τ).loc main_arg1) i := by
  show StableHlo.after hostOps1 _ _ _ = _
  after_results
  pointwise [W2_args m ρ c main_arg1 (by decide)]
  refine congrArg (m ((c : Thread nD τ).loc main_arg1)) (funext fun a => ?_)
  fin_cases a
  · exact Fin.ext h.symm
  · rfl
  · rfl

/-- What the second call finds in its steps: what the first one left. -/
theorem entry_5 : W3 m ρ c (Proc.devRef .tc main_v5_1) = W2 m ρ c (Proc.devRef .tc main_v2_1) := by
  dsimp only [W3]
  after_results
  try rfl

/-- The steps. -/
theorem out_5 : @Eq (FVec Ideal (Two 704 1024) .f32) (W4 m ρ c (Proc.devRef .tc main_v5_1)) (step (m ((c : Thread nD τ).loc main_arg0)) (m ((c : Thread nD τ).loc main_arg1)) (m ((c : Thread nD τ).loc main_arg2)) (m ((c : Thread nD τ).loc main_arg3))) := by
  refine (W4_arr m ρ c 5).trans ((final1_5 (V3 m ρ) c).trans (funext fun i => ?_))
  by_cases h : (i 0).val = 0
  · rw [if_pos h]
    show adamD (W3 m ρ c (Proc.devRef .tc main_arg0) i) (W3 m ρ c (Proc.devRef .tc main_v4) (ix2 (i 1) (i 2))) (W3 m ρ c (Proc.devRef .tc main_arg2) i) (W3 m ρ c (Proc.devRef .tc main_arg3) i) = _
    rw [W3_args m ρ c main_arg0 (by decide), W3_args m ρ c main_arg2 (by decide), W3_args m ρ c main_arg3 (by decide), grad0 m ρ c i h]
    rfl
  · have h1 : (i 0).val = 1 := by
      have := (i 0).isLt
      change (i 0).val < 2 at this
      omega
    rw [if_neg h]
    refine (congrFun (entry_5 m ρ c) i).trans ((congrFun ((W2_arr m ρ c 5).trans (final0_5 (V1 m ρ) c)) i).trans ?_)
    show (if (i 0).val = 1 then _ else _) = _
    rw [if_pos h1]
    show adamD (W1 m ρ c (Proc.devRef .tc main_arg0) i) (W1 m ρ c (Proc.devRef .tc main_v1) (ix2 (i 1) (i 2))) (W1 m ρ c (Proc.devRef .tc main_arg2) i) (W1 m ρ c (Proc.devRef .tc main_arg3) i) = _
    rw [W1_args m ρ c main_arg0 (by decide), W1_args m ρ c main_arg2 (by decide), W1_args m ρ c main_arg3 (by decide), grad1 m ρ c i h1]
    rfl

/-- What the second call finds in its new first moments: what the first one left. -/
theorem entry_6 : W3 m ρ c (Proc.devRef .tc main_v5_2) = W2 m ρ c (Proc.devRef .tc main_v2_2) := by
  dsimp only [W3]
  after_results
  try rfl

/-- The new first moments. -/
theorem out_6 : @Eq (FVec Ideal (Two 704 1024) .f32) (W4 m ρ c (Proc.devRef .tc main_v5_2)) (newM (m ((c : Thread nD τ).loc main_arg1)) (m ((c : Thread nD τ).loc main_arg2))) := by
  refine (W4_arr m ρ c 6).trans ((final1_6 (V3 m ρ) c).trans (funext fun i => ?_))
  by_cases h : (i 0).val = 0
  · rw [if_pos h]
    show adamM (W3 m ρ c (Proc.devRef .tc main_v4) (ix2 (i 1) (i 2))) (W3 m ρ c (Proc.devRef .tc main_arg2) i) = _
    rw [W3_args m ρ c main_arg2 (by decide), grad0 m ρ c i h]
    rfl
  · have h1 : (i 0).val = 1 := by
      have := (i 0).isLt
      change (i 0).val < 2 at this
      omega
    rw [if_neg h]
    refine (congrFun (entry_6 m ρ c) i).trans ((congrFun ((W2_arr m ρ c 6).trans (final0_6 (V1 m ρ) c)) i).trans ?_)
    show (if (i 0).val = 1 then _ else _) = _
    rw [if_pos h1]
    show adamM (W1 m ρ c (Proc.devRef .tc main_v1) (ix2 (i 1) (i 2))) (W1 m ρ c (Proc.devRef .tc main_arg2) i) = _
    rw [W1_args m ρ c main_arg2 (by decide), grad1 m ρ c i h1]
    rfl

/-- What the second call finds in its new second moments: what the first one left. -/
theorem entry_7 : W3 m ρ c (Proc.devRef .tc main_v5_3) = W2 m ρ c (Proc.devRef .tc main_v2_3) := by
  dsimp only [W3]
  after_results
  try rfl

/-- The new second moments. -/
theorem out_7 : @Eq (FVec Ideal (Two 704 1024) .f32) (W4 m ρ c (Proc.devRef .tc main_v5_3)) (newV (m ((c : Thread nD τ).loc main_arg1)) (m ((c : Thread nD τ).loc main_arg3))) := by
  refine (W4_arr m ρ c 7).trans ((final1_7 (V3 m ρ) c).trans (funext fun i => ?_))
  by_cases h : (i 0).val = 0
  · rw [if_pos h]
    show adamV (W3 m ρ c (Proc.devRef .tc main_v4) (ix2 (i 1) (i 2))) (W3 m ρ c (Proc.devRef .tc main_arg3) i) = _
    rw [W3_args m ρ c main_arg3 (by decide), grad0 m ρ c i h]
    rfl
  · have h1 : (i 0).val = 1 := by
      have := (i 0).isLt
      change (i 0).val < 2 at this
      omega
    rw [if_neg h]
    refine (congrFun (entry_7 m ρ c) i).trans ((congrFun ((W2_arr m ρ c 7).trans (final0_7 (V1 m ρ) c)) i).trans ?_)
    show (if (i 0).val = 1 then _ else _) = _
    rw [if_pos h1]
    show adamV (W1 m ρ c (Proc.devRef .tc main_v1) (ix2 (i 1) (i 2))) (W1 m ρ c (Proc.devRef .tc main_arg3) i) = _
    rw [W1_args m ρ c main_arg3 (by decide), grad1 m ρ c i h1]
    rfl

/-- The run of the two calls. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 704 1024) .f32) (r.2.mem ((c.tc : Thread nD τ).loc main_v5_1)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 704 1024) .f32) (r.2.mem ((c.tc : Thread nD τ).loc main_v5_2)) (newM (m ((c.tc : Thread nD τ).loc main_arg1)) (m ((c.tc : Thread nD τ).loc main_arg2)))
      ∧ @Eq (FVec Ideal (Two 704 1024) .f32) (r.2.mem ((c.tc : Thread nD τ).loc main_v5_3)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run (F := Ideal) m ρ)
  refine ⟨(h c _ (mem_uc _ (by decide))).trans (out_5 m ρ c), (h c _ (mem_uc _ (by decide))).trans (out_6 m ρ c), (h c _ (mem_uc _ (by decide))).trans (out_7 m ρ c),
    (h c _ (mem_uc _ (by decide))).trans (W4_main_arg0 m ρ c), (h c _ (mem_uc _ (by decide))).trans (W4_main_arg1 m ρ c),
    (h c _ (mem_uc _ (by decide))).trans (W4_main_arg2 m ρ c), (h c _ (mem_uc _ (by decide))).trans (W4_main_arg3 m ρ c)⟩

end Cert.AdamDownIdeal.Hand

namespace Cert.AdamDownRefIdeal.Hand

open Cert.AdamDownRefIdeal Cert.AdamDownRefIdeal.Gen Cert.Hand

/-- The reference's new first moments. -/
theorem ref_m (g a : FVec Ideal (Two 704 1024) .f32) : @Eq (FVec Ideal (Two 704 1024) .f32) (Read.val_main_v4 (F := Ideal) g a) (newM g a) := by
  funext i
  pointwise [Read.val_main_v4, Read.val_main_v3, Read.val_main_v2, Read.val_main_cst_0, Read.val_main_v1, Read.val_main_v0, Read.val_main_cst, newM, adamM]

/-- The reference's new second moments. -/
theorem ref_v (g a : FVec Ideal (Two 704 1024) .f32) : @Eq (FVec Ideal (Two 704 1024) .f32) (Read.val_main_v10 (F := Ideal) g a) (newV g a) := by
  funext i
  pointwise [Read.val_main_v10, Read.val_main_v9, Read.val_main_v8, Read.val_main_cst_2, Read.val_main_v7, Read.val_main_v6, Read.val_main_v5, Read.val_main_cst_1, newV, adamV]

/-- The reference's steps. -/
theorem ref_d (w g a b : FVec Ideal (Two 704 1024) .f32) : @Eq (FVec Ideal (Two 704 1024) .f32) (Read.val_main_v23 (F := Ideal) w g a b) (step w g a b) := by
  funext i
  have hm := congrFun (ref_m g a) i
  have hv := congrFun (ref_v g b) i
  pointwise [Read.val_main_v23, Read.val_main_v22, Read.val_main_cst_7, Read.val_main_v21, Read.val_main_v20, Read.val_main_v19, Read.val_main_cst_6, Read.val_main_v18,
    Read.val_main_v17, Read.val_main_v16, Read.val_main_cst_5, Read.val_main_v15, Read.val_main_v14, Read.val_main_v13, Read.val_main_cst_4, Read.val_main_v12,
    Read.val_main_v11, Read.val_main_cst_3, step, adamD, div_bias1, div_bias2]
  rw [hm, hv]
  rfl

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 704 1024) .f32) (r.2.mem ((c.tc : Thread nD τ).loc main_v23)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 704 1024) .f32) (r.2.mem ((c.tc : Thread nD τ).loc main_v4)) (newM (m ((c.tc : Thread nD τ).loc main_arg1)) (m ((c.tc : Thread nD τ).loc main_arg2)))
      ∧ @Eq (FVec Ideal (Two 704 1024) .f32) (r.2.mem ((c.tc : Thread nD τ).loc main_v10)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamDownRefIdeal.Value.run (F := Ideal) m ρ)
  obtain ⟨h1, h2, h3, ha⟩ := h c
  exact ⟨h1.trans ((Read.val_main_v23_eq ..).trans (ref_d _ _ _ _)), h2.trans ((Read.val_main_v4_eq ..).trans (ref_m _ _)),
    h3.trans ((Read.val_main_v10_eq ..).trans (ref_v _ _)), ha⟩

end Cert.AdamDownRefIdeal.Hand

namespace Cert.AdamDown.Hand

open Cert.Hand

/-- The two named reciprocals are the reals that the table gives them. -/
theorem preserves : Cert.preserves_AdamDown_AdamDownIdeal :=
  ⟨IdealRules.named_const.statement Cert.AdamDownIdeal.κ "inv_bias1" .f32 0x3FC48605#32 ((8388608 / 5463681 : ℝ) : EReal) rfl,
    IdealRules.named_const.statement Cert.AdamDownIdeal.κ "inv_bias2" .f32 0x42C8E6D3#32 ((268435456 / 2672307 : ℝ) : EReal) rfl⟩

/-- The claim about the steps and the new moments. -/
theorem algebraic : Cert.algebraic_AdamDownIdeal_AdamDownRefIdeal := by
  intro m g m' g' _ hagree
  refine ⟨_, _, _, Cert.AdamDownIdeal.Hand.kernel_run m g, ?_⟩
  refine (θ_run Cert.AdamDownRefIdeal.defs _ _).mono (fun r h c => ?_) (Cert.AdamDownRefIdeal.Hand.reference_run m' g')
  obtain ⟨h0, h1, h2, h3⟩ := hagree c
  obtain ⟨e1, e2, e3, ha⟩ := h c
  rw [h0, h1, h2, h3] at e1
  rw [h1, h2] at e2
  rw [h1, h3] at e3
  exact ⟨e1, e2, e3, ha⟩

end Cert.AdamDown.Hand
end
-- ==== Proof.AdamIn.Tiled.lean ====
/-
  AdamW on a device's columns of the mixing block's input weight (`w_in`): what each of the two calls leaves in its three results, as functions of the arrays that it finds.
-/
module

public import proofs.«01_k».proof.Proof.Gen.AdamInIdeal.Frame
public import proofs.«01_k».proof.Proof.AdamW
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamIn.Hand

open Cert.AdamInIdeal Cert.AdamInIdeal.Gen Cert.Hand

variable (V : (c : Dev nD) → (b : Ref sig .tc) → Buf (Elt Ideal) ((c : Thread nD τ).loc b))

/-- The first named reciprocal. -/
theorem named1 : Named.named (F := Ideal) Cert.AdamInIdeal.κ "inv_bias1" (φ := .f32) 0x3FC48605#32 = inv1 :=
  IdealRules.named_const.ideal_named_scalar _ _ _ _ rfl

/-- The second named reciprocal. -/
theorem named2 : Named.named (F := Ideal) Cert.AdamInIdeal.κ "inv_bias2" (φ := .f32) 0x42C8E6D3#32 = inv2 :=
  IdealRules.named_const.ideal_named_scalar _ _ _ _ rfl

theorem idx0 : ∀ t : Fin cfg0.N, win0_0.index t = ![1, t.val, 0] ∧ win0_1.index t = ![t.val, 0] ∧ win0_2.index t = ![1, t.val, 0] ∧ win0_3.index t = ![1, t.val, 0]
    ∧ win0_5.index t = ![1, t.val, 0] ∧ win0_6.index t = ![1, t.val, 0] ∧ win0_7.index t = ![1, t.val, 0] :=
  (by decide +kernel : ∀ t : Fin grid0.N, _)

set_option maxHeartbeats 1600000 in
/-- The first call's steps: layer 1's, the other layer's as the call finds them. -/
theorem final0_5 (c : Dev nD) : (dat0 (F := Ideal) V c).arrAt 5 cfg0.N = fun (i : (Two 320 1024).Idx) => if (i 0).val = 1 then
      adamD (V c (Pipeline.arrRef spec0 0) i) (V c (Pipeline.arrRef spec0 1) (ix2 (i 1) (i 2))) (V c (Pipeline.arrRef spec0 2) i) (V c (Pipeline.arrRef spec0 3) i)
      else V c (Pipeline.arrRef spec0 5) i := by
  refine (dat0 V c).arrAt_eq_of_coversWhere 5 _ (fun β => β (0 : Fin 3) = 1) (by decide +kernel) (fun t hf y => ?_)
    (fun j => by blk_simp [Pipeline.Window.cell_apply, Nat.div_one])
  blk_simp
  rw [after0_5]; frame_out
  pointwise [k0_pay1, k0_pay2, k0_pay3, k0_pay4, k0_pay5, k0_pay6, k0_pay7, k0_pay8, named1, named2, adamM, adamV, adamD]
  blk_point [iblk0, idx0 t]

set_option maxHeartbeats 1600000 in
/-- The first call's new first moments: layer 1's, the other layer's as the call finds them. -/
theorem final0_6 (c : Dev nD) : (dat0 (F := Ideal) V c).arrAt 6 cfg0.N = fun (i : (Two 320 1024).Idx) => if (i 0).val = 1 then
      adamM (V c (Pipeline.arrRef spec0 1) (ix2 (i 1) (i 2))) (V c (Pipeline.arrRef spec0 2) i)
      else V c (Pipeline.arrRef spec0 6) i := by
  refine (dat0 V c).arrAt_eq_of_coversWhere 6 _ (fun β => β (0 : Fin 3) = 1) (by decide +kernel) (fun t hf y => ?_)
    (fun j => by blk_simp [Pipeline.Window.cell_apply, Nat.div_one])
  blk_simp
  rw [after0_6]; frame_out
  pointwise [k0_pay1, k0_pay2, k0_pay3, k0_pay4, k0_pay5, k0_pay6, k0_pay7, k0_pay8, adamM, adamV, adamD]
  blk_point [iblk0, idx0 t]

set_option maxHeartbeats 1600000 in
/-- The first call's new second moments: layer 1's, the other layer's as the call finds them. -/
theorem final0_7 (c : Dev nD) : (dat0 (F := Ideal) V c).arrAt 7 cfg0.N = fun (i : (Two 320 1024).Idx) => if (i 0).val = 1 then
      adamV (V c (Pipeline.arrRef spec0 1) (ix2 (i 1) (i 2))) (V c (Pipeline.arrRef spec0 3) i)
      else V c (Pipeline.arrRef spec0 7) i := by
  refine (dat0 V c).arrAt_eq_of_coversWhere 7 _ (fun β => β (0 : Fin 3) = 1) (by decide +kernel) (fun t hf y => ?_)
    (fun j => by blk_simp [Pipeline.Window.cell_apply, Nat.div_one])
  blk_simp
  rw [after0_7]; frame_out
  pointwise [k0_pay1, k0_pay2, k0_pay3, k0_pay4, k0_pay5, k0_pay6, k0_pay7, k0_pay8, adamM, adamV, adamD]
  blk_point [iblk0, idx0 t]

theorem idx1 : ∀ t : Fin cfg1.N, win1_0.index t = ![0, t.val, 0] ∧ win1_1.index t = ![t.val, 0] ∧ win1_2.index t = ![0, t.val, 0] ∧ win1_3.index t = ![0, t.val, 0]
    ∧ win1_5.index t = ![0, t.val, 0] ∧ win1_6.index t = ![0, t.val, 0] ∧ win1_7.index t = ![0, t.val, 0] :=
  (by decide +kernel : ∀ t : Fin grid1.N, _)

set_option maxHeartbeats 1600000 in
/-- The second call's steps: layer 0's, the other layer's as the call finds them. -/
theorem final1_5 (c : Dev nD) : (dat1 (F := Ideal) V c).arrAt 5 cfg1.N = fun (i : (Two 320 1024).Idx) => if (i 0).val = 0 then
      adamD (V c (Pipeline.arrRef spec1 0) i) (V c (Pipeline.arrRef spec1 1) (ix2 (i 1) (i 2))) (V c (Pipeline.arrRef spec1 2) i) (V c (Pipeline.arrRef spec1 3) i)
      else V c (Pipeline.arrRef spec1 5) i := by
  refine (dat1 V c).arrAt_eq_of_coversWhere 5 _ (fun β => β (0 : Fin 3) = 0) (by decide +kernel) (fun t hf y => ?_)
    (fun j => by blk_simp [Pipeline.Window.cell_apply, Nat.div_one])
  blk_simp
  rw [after1_5]; unfold Gen.outsAt1; frame_out
  pointwise [k1_pay1, k1_pay2, k1_pay3, k1_pay4, k1_pay5, k1_pay6, k1_pay7, k1_pay8, named1, named2, adamM, adamV, adamD]
  blk_point [iblk1, idx1 t]

set_option maxHeartbeats 1600000 in
/-- The second call's new first moments: layer 0's, the other layer's as the call finds them. -/
theorem final1_6 (c : Dev nD) : (dat1 (F := Ideal) V c).arrAt 6 cfg1.N = fun (i : (Two 320 1024).Idx) => if (i 0).val = 0 then
      adamM (V c (Pipeline.arrRef spec1 1) (ix2 (i 1) (i 2))) (V c (Pipeline.arrRef spec1 2) i)
      else V c (Pipeline.arrRef spec1 6) i := by
  refine (dat1 V c).arrAt_eq_of_coversWhere 6 _ (fun β => β (0 : Fin 3) = 0) (by decide +kernel) (fun t hf y => ?_)
    (fun j => by blk_simp [Pipeline.Window.cell_apply, Nat.div_one])
  blk_simp
  rw [after1_6]; unfold Gen.outsAt1; frame_out
  pointwise [k1_pay1, k1_pay2, k1_pay3, k1_pay4, k1_pay5, k1_pay6, k1_pay7, k1_pay8, adamM, adamV, adamD]
  blk_point [iblk1, idx1 t]

set_option maxHeartbeats 1600000 in
/-- The second call's new second moments: layer 0's, the other layer's as the call finds them. -/
theorem final1_7 (c : Dev nD) : (dat1 (F := Ideal) V c).arrAt 7 cfg1.N = fun (i : (Two 320 1024).Idx) => if (i 0).val = 0 then
      adamV (V c (Pipeline.arrRef spec1 1) (ix2 (i 1) (i 2))) (V c (Pipeline.arrRef spec1 3) i)
      else V c (Pipeline.arrRef spec1 7) i := by
  refine (dat1 V c).arrAt_eq_of_coversWhere 7 _ (fun β => β (0 : Fin 3) = 0) (by decide +kernel) (fun t hf y => ?_)
    (fun j => by blk_simp [Pipeline.Window.cell_apply, Nat.div_one])
  blk_simp
  rw [after1_7]; unfold Gen.outsAt1; frame_out
  pointwise [k1_pay1, k1_pay2, k1_pay3, k1_pay4, k1_pay5, k1_pay6, k1_pay7, k1_pay8, adamM, adamV, adamD]
  blk_point [iblk1, idx1 t]

end Cert.AdamIn.Hand
end
-- ==== Proof.AdamIn.Run.lean ====
/-
  The run of the two calls of AdamW on a device's columns of the mixing block's input weight (`w_in`): every array that the program holds ends as the fold over its calls says.
-/
module

public import proofs.«01_k».proof.Proof.Gen.AdamInIdeal.Frame

@[expose] public section

set_option maxRecDepth 16384

noncomputable section

namespace Cert.AdamIn.Hand

open Cert.AdamInIdeal Cert.AdamInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option backward.isDefEq.respectTransparency.types false in
/-- Every weakly fair execution ends, and every array that outlives the calls then holds what the fold says. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.AdamIn.Hand
end
-- ==== Proof.AdamIn.Value.lean ====
/-
  AdamW on a device's columns of the mixing block's input weight (`w_in`): the two calls together, the reference, and the claim that they agree.
-/
module

public import proofs.«01_k».proof.Defs
public import proofs.«01_k».proof.Proof.Gen.AdamInRefIdeal.Read
public import proofs.«01_k».proof.Proof.AdamIn.Tiled
public import proofs.«01_k».proof.Proof.AdamIn.Run
public import Idealize.ShloMosaic.Lib.StableHlo.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamInIdeal.Hand

open Cert.AdamInIdeal Cert.AdamInIdeal.Gen Cert.Hand Cert.AdamIn.Hand

variable (m : (ℓ : Loc nD τ sig) → Buf (Elt Ideal) ℓ) (ρ : Dev nD → PrngReg) (c : Dev nD)

/-- The first call's gradient: the second layer of the argument. -/
theorem grad1 (i : (Two 320 1024).Idx) (h : (i 0).val = 1) : W1 m ρ c (Proc.devRef .tc main_v5) (ix2 (i 1) (i 2)) = (sw (m ((c : Thread nD τ).loc main_arg1))) i := by
  show StableHlo.after hostOps0 _ _ _ = _
  after_results
  pointwise [W0, sw]
  refine congrArg (m ((c : Thread nD τ).loc main_arg1)) (funext fun a => ?_)
  fin_cases a
  · exact Fin.ext h.symm
  · rfl
  · rfl

/-- The second call's gradient: the first layer of the argument. -/
theorem grad0 (i : (Two 320 1024).Idx) (h : (i 0).val = 0) : W3 m ρ c (Proc.devRef .tc main_v9) (ix2 (i 1) (i 2)) = (sw (m ((c : Thread nD τ).loc main_arg1))) i := by
  show StableHlo.after hostOps1 _ _ _ = _
  after_results
  pointwise [W2_args m ρ c main_arg1 (by decide), sw]
  refine congrArg (m ((c : Thread nD τ).loc main_arg1)) (funext fun a => ?_)
  fin_cases a
  · exact Fin.ext h.symm
  · rfl
  · rfl

/-- The weight with swapped axes, as the first call finds them. -/
theorem W1_in0 : @Eq (FVec Ideal (Two 320 1024) .f32) (W1 m ρ c (Proc.devRef .tc main_v0)) (sw (m ((c : Thread nD τ).loc main_arg0))) := by
  funext i
  show StableHlo.after hostOps0 _ _ _ = _
  after_results
  pointwise [W0, sw]

/-- The same, as the second call finds them. -/
theorem W3_in0 : @Eq (FVec Ideal (Two 320 1024) .f32) (W3 m ρ c (Proc.devRef .tc main_v0)) (sw (m ((c : Thread nD τ).loc main_arg0))) :=
  (W3_of m ρ c main_v0 (by decide)).trans ((W2_of m ρ c main_v0 (by decide)).trans (W1_in0 m ρ c))

/-- The first moments with swapped axes, as the first call finds them. -/
theorem W1_in2 : @Eq (FVec Ideal (Two 320 1024) .f32) (W1 m ρ c (Proc.devRef .tc main_v1)) (sw (m ((c : Thread nD τ).loc main_arg2))) := by
  funext i
  show StableHlo.after hostOps0 _ _ _ = _
  after_results
  pointwise [W0, sw]

/-- The same, as the second call finds them. -/
theorem W3_in2 : @Eq (FVec Ideal (Two 320 1024) .f32) (W3 m ρ c (Proc.devRef .tc main_v1)) (sw (m ((c : Thread nD τ).loc main_arg2))) :=
  (W3_of m ρ c main_v1 (by decide)).trans ((W2_of m ρ c main_v1 (by decide)).trans (W1_in2 m ρ c))

/-- The second moments with swapped axes, as the first call finds them. -/
theorem W1_in3 : @Eq (FVec Ideal (Two 320 1024) .f32) (W1 m ρ c (Proc.devRef .tc main_v2)) (sw (m ((c : Thread nD τ).loc main_arg3))) := by
  funext i
  show StableHlo.after hostOps0 _ _ _ = _
  after_results
  pointwise [W0, sw]

/-- The same, as the second call finds them. -/
theorem W3_in3 : @Eq (FVec Ideal (Two 320 1024) .f32) (W3 m ρ c (Proc.devRef .tc main_v2)) (sw (m ((c : Thread nD τ).loc main_arg3))) :=
  (W3_of m ρ c main_v2 (by decide)).trans ((W2_of m ρ c main_v2 (by decide)).trans (W1_in3 m ρ c))

/-- What the second call finds in its steps: what the first one left. -/
theorem entry_5 : W3 m ρ c (Proc.devRef .tc main_v10_1) = W2 m ρ c (Proc.devRef .tc main_v6_1) := by
  dsimp only [W3]
  after_results
  try rfl

/-- The steps. -/
theorem out_5 : @Eq (FVec Ideal (Two 320 1024) .f32) (W4 m ρ c (Proc.devRef .tc main_v10_1)) (step (sw (m ((c : Thread nD τ).loc main_arg0))) (sw (m ((c : Thread nD τ).loc main_arg1))) (sw (m ((c : Thread nD τ).loc main_arg2))) (sw (m ((c : Thread nD τ).loc main_arg3)))) := by
  refine (W4_arr m ρ c 5).trans ((final1_5 (V3 m ρ) c).trans (funext fun i => ?_))
  by_cases h : (i 0).val = 0
  · rw [if_pos h]
    show adamD (W3 m ρ c (Proc.devRef .tc main_v0) i) (W3 m ρ c (Proc.devRef .tc main_v9) (ix2 (i 1) (i 2))) (W3 m ρ c (Proc.devRef .tc main_v1) i) (W3 m ρ c (Proc.devRef .tc main_v2) i) = _
    rw [W3_in0 m ρ c, W3_in2 m ρ c, W3_in3 m ρ c, grad0 m ρ c i h]
    rfl
  · have h1 : (i 0).val = 1 := by
      have := (i 0).isLt
      change (i 0).val < 2 at this
      omega
    rw [if_neg h]
    refine (congrFun (entry_5 m ρ c) i).trans ((congrFun ((W2_arr m ρ c 5).trans (final0_5 (V1 m ρ) c)) i).trans ?_)
    show (if (i 0).val = 1 then _ else _) = _
    rw [if_pos h1]
    show adamD (W1 m ρ c (Proc.devRef .tc main_v0) i) (W1 m ρ c (Proc.devRef .tc main_v5) (ix2 (i 1) (i 2))) (W1 m ρ c (Proc.devRef .tc main_v1) i) (W1 m ρ c (Proc.devRef .tc main_v2) i) = _
    rw [W1_in0 m ρ c, W1_in2 m ρ c, W1_in3 m ρ c, grad1 m ρ c i h1]
    rfl

/-- What the second call finds in its new first moments: what the first one left. -/
theorem entry_6 : W3 m ρ c (Proc.devRef .tc main_v10_2) = W2 m ρ c (Proc.devRef .tc main_v6_2) := by
  dsimp only [W3]
  after_results
  try rfl

/-- The new first moments. -/
theorem out_6 : @Eq (FVec Ideal (Two 320 1024) .f32) (W4 m ρ c (Proc.devRef .tc main_v10_2)) (newM (sw (m ((c : Thread nD τ).loc main_arg1))) (sw (m ((c : Thread nD τ).loc main_arg2)))) := by
  refine (W4_arr m ρ c 6).trans ((final1_6 (V3 m ρ) c).trans (funext fun i => ?_))
  by_cases h : (i 0).val = 0
  · rw [if_pos h]
    show adamM (W3 m ρ c (Proc.devRef .tc main_v9) (ix2 (i 1) (i 2))) (W3 m ρ c (Proc.devRef .tc main_v1) i) = _
    rw [W3_in2 m ρ c, grad0 m ρ c i h]
    rfl
  · have h1 : (i 0).val = 1 := by
      have := (i 0).isLt
      change (i 0).val < 2 at this
      omega
    rw [if_neg h]
    refine (congrFun (entry_6 m ρ c) i).trans ((congrFun ((W2_arr m ρ c 6).trans (final0_6 (V1 m ρ) c)) i).trans ?_)
    show (if (i 0).val = 1 then _ else _) = _
    rw [if_pos h1]
    show adamM (W1 m ρ c (Proc.devRef .tc main_v5) (ix2 (i 1) (i 2))) (W1 m ρ c (Proc.devRef .tc main_v1) i) = _
    rw [W1_in2 m ρ c, grad1 m ρ c i h1]
    rfl

/-- What the second call finds in its new second moments: what the first one left. -/
theorem entry_7 : W3 m ρ c (Proc.devRef .tc main_v10_3) = W2 m ρ c (Proc.devRef .tc main_v6_3) := by
  dsimp only [W3]
  after_results
  try rfl

/-- The new second moments. -/
theorem out_7 : @Eq (FVec Ideal (Two 320 1024) .f32) (W4 m ρ c (Proc.devRef .tc main_v10_3)) (newV (sw (m ((c : Thread nD τ).loc main_arg1))) (sw (m ((c : Thread nD τ).loc main_arg3)))) := by
  refine (W4_arr m ρ c 7).trans ((final1_7 (V3 m ρ) c).trans (funext fun i => ?_))
  by_cases h : (i 0).val = 0
  · rw [if_pos h]
    show adamV (W3 m ρ c (Proc.devRef .tc main_v9) (ix2 (i 1) (i 2))) (W3 m ρ c (Proc.devRef .tc main_v2) i) = _
    rw [W3_in3 m ρ c, grad0 m ρ c i h]
    rfl
  · have h1 : (i 0).val = 1 := by
      have := (i 0).isLt
      change (i 0).val < 2 at this
      omega
    rw [if_neg h]
    refine (congrFun (entry_7 m ρ c) i).trans ((congrFun ((W2_arr m ρ c 7).trans (final0_7 (V1 m ρ) c)) i).trans ?_)
    show (if (i 0).val = 1 then _ else _) = _
    rw [if_pos h1]
    show adamV (W1 m ρ c (Proc.devRef .tc main_v5) (ix2 (i 1) (i 2))) (W1 m ρ c (Proc.devRef .tc main_v2) i) = _
    rw [W1_in3 m ρ c, grad1 m ρ c i h1]
    rfl

/-- The steps, swapped back. -/
theorem back_5 : @Eq (FVec Ideal (Two 1024 320) .f32) (W5 m ρ c (Proc.devRef .tc main_v11)) (step (m ((c : Thread nD τ).loc main_arg0)) (m ((c : Thread nD τ).loc main_arg1)) (m ((c : Thread nD τ).loc main_arg2)) (m ((c : Thread nD τ).loc main_arg3))) := by
  funext i
  have e := congrFun (out_5 m ρ c) (ix3 (i 0) (i 2) (i 1))
  show StableHlo.after hostOps2 _ _ _ = _
  after_results
  pointwise
  refine e.trans ?_
  pointwise [step, newM, newV, sw]

/-- The new first moments, swapped back. -/
theorem back_6 : @Eq (FVec Ideal (Two 1024 320) .f32) (W5 m ρ c (Proc.devRef .tc main_v12)) (newM (m ((c : Thread nD τ).loc main_arg1)) (m ((c : Thread nD τ).loc main_arg2))) := by
  funext i
  have e := congrFun (out_6 m ρ c) (ix3 (i 0) (i 2) (i 1))
  show StableHlo.after hostOps2 _ _ _ = _
  after_results
  pointwise
  refine e.trans ?_
  pointwise [step, newM, newV, sw]

/-- The new second moments, swapped back. -/
theorem back_7 : @Eq (FVec Ideal (Two 1024 320) .f32) (W5 m ρ c (Proc.devRef .tc main_v13)) (newV (m ((c : Thread nD τ).loc main_arg1)) (m ((c : Thread nD τ).loc main_arg3))) := by
  funext i
  have e := congrFun (out_7 m ρ c) (ix3 (i 0) (i 2) (i 1))
  show StableHlo.after hostOps2 _ _ _ = _
  after_results
  pointwise
  refine e.trans ?_
  pointwise [step, newM, newV, sw]

/-- The run of the two calls. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 1024 320) .f32) (r.2.mem ((c.tc : Thread nD τ).loc main_v11)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 1024 320) .f32) (r.2.mem ((c.tc : Thread nD τ).loc main_v12)) (newM (m ((c.tc : Thread nD τ).loc main_arg1)) (m ((c.tc : Thread nD τ).loc main_arg2)))
      ∧ @Eq (FVec Ideal (Two 1024 320) .f32) (r.2.mem ((c.tc : Thread nD τ).loc main_v13)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run (F := Ideal) m ρ)
  refine ⟨(h c _ (mem_uc _ (by decide))).trans (back_5 m ρ c), (h c _ (mem_uc _ (by decide))).trans (back_6 m ρ c), (h c _ (mem_uc _ (by decide))).trans (back_7 m ρ c),
    (h c _ (mem_uc _ (by decide))).trans (W5_main_arg0 m ρ c), (h c _ (mem_uc _ (by decide))).trans (W5_main_arg1 m ρ c),
    (h c _ (mem_uc _ (by decide))).trans (W5_main_arg2 m ρ c), (h c _ (mem_uc _ (by decide))).trans (W5_main_arg3 m ρ c)⟩

end Cert.AdamInIdeal.Hand

namespace Cert.AdamInRefIdeal.Hand

open Cert.AdamInRefIdeal Cert.AdamInRefIdeal.Gen Cert.Hand

/-- The reference's new first moments. -/
theorem ref_m (g a : FVec Ideal (Two 1024 320) .f32) : @Eq (FVec Ideal (Two 1024 320) .f32) (Read.val_main_v4 (F := Ideal) g a) (newM g a) := by
  funext i
  pointwise [Read.val_main_v4, Read.val_main_v3, Read.val_main_v2, Read.val_main_cst_0, Read.val_main_v1, Read.val_main_v0, Read.val_main_cst, newM, adamM]

/-- The reference's new second moments. -/
theorem ref_v (g a : FVec Ideal (Two 1024 320) .f32) : @Eq (FVec Ideal (Two 1024 320) .f32) (Read.val_main_v10 (F := Ideal) g a) (newV g a) := by
  funext i
  pointwise [Read.val_main_v10, Read.val_main_v9, Read.val_main_v8, Read.val_main_cst_2, Read.val_main_v7, Read.val_main_v6, Read.val_main_v5, Read.val_main_cst_1, newV, adamV]

/-- The reference's steps. -/
theorem ref_d (w g a b : FVec Ideal (Two 1024 320) .f32) : @Eq (FVec Ideal (Two 1024 320) .f32) (Read.val_main_v23 (F := Ideal) w g a b) (step w g a b) := by
  funext i
  have hm := congrFun (ref_m g a) i
  have hv := congrFun (ref_v g b) i
  pointwise [Read.val_main_v23, Read.val_main_v22, Read.val_main_cst_7, Read.val_main_v21, Read.val_main_v20, Read.val_main_v19, Read.val_main_cst_6, Read.val_main_v18,
    Read.val_main_v17, Read.val_main_v16, Read.val_main_cst_5, Read.val_main_v15, Read.val_main_v14, Read.val_main_v13, Read.val_main_cst_4, Read.val_main_v12,
    Read.val_main_v11, Read.val_main_cst_3, step, adamD, div_bias1, div_bias2]
  rw [hm, hv]
  rfl

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 1024 320) .f32) (r.2.mem ((c.tc : Thread nD τ).loc main_v23)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 1024 320) .f32) (r.2.mem ((c.tc : Thread nD τ).loc main_v4)) (newM (m ((c.tc : Thread nD τ).loc main_arg1)) (m ((c.tc : Thread nD τ).loc main_arg2)))
      ∧ @Eq (FVec Ideal (Two 1024 320) .f32) (r.2.mem ((c.tc : Thread nD τ).loc main_v10)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamInRefIdeal.Value.run (F := Ideal) m ρ)
  obtain ⟨h1, h2, h3, ha⟩ := h c
  exact ⟨h1.trans ((Read.val_main_v23_eq ..).trans (ref_d _ _ _ _)), h2.trans ((Read.val_main_v4_eq ..).trans (ref_m _ _)),
    h3.trans ((Read.val_main_v10_eq ..).trans (ref_v _ _)), ha⟩

end Cert.AdamInRefIdeal.Hand

namespace Cert.AdamIn.Hand

open Cert.Hand

/-- The two named reciprocals are the reals that the table gives them. -/
theorem preserves : Cert.preserves_AdamIn_AdamInIdeal :=
  ⟨IdealRules.named_const.statement Cert.AdamInIdeal.κ "inv_bias1" .f32 0x3FC48605#32 ((8388608 / 5463681 : ℝ) : EReal) rfl,
    IdealRules.named_const.statement Cert.AdamInIdeal.κ "inv_bias2" .f32 0x42C8E6D3#32 ((268435456 / 2672307 : ℝ) : EReal) rfl⟩

/-- The claim about the steps and the new moments. -/
theorem algebraic : Cert.algebraic_AdamInIdeal_AdamInRefIdeal := by
  intro m g m' g' _ hagree
  refine ⟨_, _, _, Cert.AdamInIdeal.Hand.kernel_run m g, ?_⟩
  refine (θ_run Cert.AdamInRefIdeal.defs _ _).mono (fun r h c => ?_) (Cert.AdamInRefIdeal.Hand.reference_run m' g')
  obtain ⟨h0, h1, h2, h3⟩ := hagree c
  obtain ⟨e1, e2, e3, ha⟩ := h c
  rw [h0, h1, h2, h3] at e1
  rw [h1, h2] at e2
  rw [h1, h3] at e3
  exact ⟨e1, e2, e3, ha⟩

end Cert.AdamIn.Hand
end
-- ==== Proof.AdamMemory.Tiled.lean ====
/-
  AdamW on a device's columns of the cross-attention's key and value weight (`xattn_wkv`): what each of the two calls leaves in its three results, as functions of the arrays that it finds.
-/
module

public import proofs.«01_k».proof.Proof.Gen.AdamMemoryIdeal.Frame
public import proofs.«01_k».proof.Proof.AdamW
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamMemory.Hand

open Cert.AdamMemoryIdeal Cert.AdamMemoryIdeal.Gen Cert.Hand

variable (V : (c : Dev nD) → (b : Ref sig .tc) → Buf (Elt Ideal) ((c : Thread nD τ).loc b))

/-- The first named reciprocal. -/
theorem named1 : Named.named (F := Ideal) Cert.AdamMemoryIdeal.κ "inv_bias1" (φ := .f32) 0x3FC48605#32 = inv1 :=
  IdealRules.named_const.ideal_named_scalar _ _ _ _ rfl

/-- The second named reciprocal. -/
theorem named2 : Named.named (F := Ideal) Cert.AdamMemoryIdeal.κ "inv_bias2" (φ := .f32) 0x42C8E6D3#32 = inv2 :=
  IdealRules.named_const.ideal_named_scalar _ _ _ _ rfl

theorem idx0 : ∀ t : Fin cfg0.N, win0_0.index t = ![1, t.val, 0] ∧ win0_1.index t = ![0, t.val] ∧ win0_2.index t = ![1, t.val, 0] ∧ win0_3.index t = ![1, t.val, 0]
    ∧ win0_5.index t = ![1, t.val, 0] ∧ win0_6.index t = ![1, t.val, 0] ∧ win0_7.index t = ![1, t.val, 0] :=
  (by decide +kernel : ∀ t : Fin grid0.N, _)

set_option maxHeartbeats 1600000 in
/-- The first call's steps: layer 1's, the other layer's as the call finds them. -/
theorem final0_5 (c : Dev nD) : (dat0 (F := Ideal) V c).arrAt 5 cfg0.N = fun (i : (Two 1024 512).Idx) => if (i 0).val = 1 then
      adamD (V c (Pipeline.arrRef spec0 0) i) (V c (Pipeline.arrRef spec0 1) (ix2 (i 2) (i 1))) (V c (Pipeline.arrRef spec0 2) i) (V c (Pipeline.arrRef spec0 3) i)
      else V c (Pipeline.arrRef spec0 5) i := by
  refine (dat0 V c).arrAt_eq_of_coversWhere 5 _ (fun β => β (0 : Fin 3) = 1) (by decide +kernel) (fun t hf y => ?_)
    (fun j => by blk_simp [Pipeline.Window.cell_apply, Nat.div_one])
  blk_simp
  rw [after0_5]; frame_out
  pointwise [k0_pay1, k0_pay2, k0_pay3, k0_pay4, k0_pay5, k0_pay6, k0_pay7, k0_pay8, k0_pay9, named1, named2, adamM, adamV, adamD]
  blk_point [iblk0, idx0 t]

set_option maxHeartbeats 1600000 in
/-- The first call's new first moments: layer 1's, the other layer's as the call finds them. -/
theorem final0_6 (c : Dev nD) : (dat0 (F := Ideal) V c).arrAt 6 cfg0.N = fun (i : (Two 1024 512).Idx) => if (i 0).val = 1 then
      adamM (V c (Pipeline.arrRef spec0 1) (ix2 (i 2) (i 1))) (V c (Pipeline.arrRef spec0 2) i)
      else V c (Pipeline.arrRef spec0 6) i := by
  refine (dat0 V c).arrAt_eq_of_coversWhere 6 _ (fun β => β (0 : Fin 3) = 1) (by decide +kernel) (fun t hf y => ?_)
    (fun j => by blk_simp [Pipeline.Window.cell_apply, Nat.div_one])
  blk_simp
  rw [after0_6]; frame_out
  pointwise [k0_pay1, k0_pay2, k0_pay3, k0_pay4, k0_pay5, k0_pay6, k0_pay7, k0_pay8, k0_pay9, adamM, adamV, adamD]
  blk_point [iblk0, idx0 t]

set_option maxHeartbeats 1600000 in
/-- The first call's new second moments: layer 1's, the other layer's as the call finds them. -/
theorem final0_7 (c : Dev nD) : (dat0 (F := Ideal) V c).arrAt 7 cfg0.N = fun (i : (Two 1024 512).Idx) => if (i 0).val = 1 then
      adamV (V c (Pipeline.arrRef spec0 1) (ix2 (i 2) (i 1))) (V c (Pipeline.arrRef spec0 3) i)
      else V c (Pipeline.arrRef spec0 7) i := by
  refine (dat0 V c).arrAt_eq_of_coversWhere 7 _ (fun β => β (0 : Fin 3) = 1) (by decide +kernel) (fun t hf y => ?_)
    (fun j => by blk_simp [Pipeline.Window.cell_apply, Nat.div_one])
  blk_simp
  rw [after0_7]; frame_out
  pointwise [k0_pay1, k0_pay2, k0_pay3, k0_pay4, k0_pay5, k0_pay6, k0_pay7, k0_pay8, k0_pay9, adamM, adamV, adamD]
  blk_point [iblk0, idx0 t]

theorem idx1 : ∀ t : Fin cfg1.N, win1_0.index t = ![0, t.val, 0] ∧ win1_1.index t = ![0, t.val] ∧ win1_2.index t = ![0, t.val, 0] ∧ win1_3.index t = ![0, t.val, 0]
    ∧ win1_5.index t = ![0, t.val, 0] ∧ win1_6.index t = ![0, t.val, 0] ∧ win1_7.index t = ![0, t.val, 0] :=
  (by decide +kernel : ∀ t : Fin grid1.N, _)

set_option maxHeartbeats 1600000 in
/-- The second call's steps: layer 0's, the other layer's as the call finds them. -/
theorem final1_5 (c : Dev nD) : (dat1 (F := Ideal) V c).arrAt 5 cfg1.N = fun (i : (Two 1024 512).Idx) => if (i 0).val = 0 then
      adamD (V c (Pipeline.arrRef spec1 0) i) (V c (Pipeline.arrRef spec1 1) (ix2 (i 2) (i 1))) (V c (Pipeline.arrRef spec1 2) i) (V c (Pipeline.arrRef spec1 3) i)
      else V c (Pipeline.arrRef spec1 5) i := by
  refine (dat1 V c).arrAt_eq_of_coversWhere 5 _ (fun β => β (0 : Fin 3) = 0) (by decide +kernel) (fun t hf y => ?_)
    (fun j => by blk_simp [Pipeline.Window.cell_apply, Nat.div_one])
  blk_simp
  rw [after1_5]; unfold Gen.outsAt1; frame_out
  pointwise [k1_pay1, k1_pay2, k1_pay3, k1_pay4, k1_pay5, k1_pay6, k1_pay7, k1_pay8, k1_pay9, named1, named2, adamM, adamV, adamD]
  blk_point [iblk1, idx1 t]

set_option maxHeartbeats 1600000 in
/-- The second call's new first moments: layer 0's, the other layer's as the call finds them. -/
theorem final1_6 (c : Dev nD) : (dat1 (F := Ideal) V c).arrAt 6 cfg1.N = fun (i : (Two 1024 512).Idx) => if (i 0).val = 0 then
      adamM (V c (Pipeline.arrRef spec1 1) (ix2 (i 2) (i 1))) (V c (Pipeline.arrRef spec1 2) i)
      else V c (Pipeline.arrRef spec1 6) i := by
  refine (dat1 V c).arrAt_eq_of_coversWhere 6 _ (fun β => β (0 : Fin 3) = 0) (by decide +kernel) (fun t hf y => ?_)
    (fun j => by blk_simp [Pipeline.Window.cell_apply, Nat.div_one])
  blk_simp
  rw [after1_6]; unfold Gen.outsAt1; frame_out
  pointwise [k1_pay1, k1_pay2, k1_pay3, k1_pay4, k1_pay5, k1_pay6, k1_pay7, k1_pay8, k1_pay9, adamM, adamV, adamD]
  blk_point [iblk1, idx1 t]

set_option maxHeartbeats 1600000 in
/-- The second call's new second moments: layer 0's, the other layer's as the call finds them. -/
theorem final1_7 (c : Dev nD) : (dat1 (F := Ideal) V c).arrAt 7 cfg1.N = fun (i : (Two 1024 512).Idx) => if (i 0).val = 0 then
      adamV (V c (Pipeline.arrRef spec1 1) (ix2 (i 2) (i 1))) (V c (Pipeline.arrRef spec1 3) i)
      else V c (Pipeline.arrRef spec1 7) i := by
  refine (dat1 V c).arrAt_eq_of_coversWhere 7 _ (fun β => β (0 : Fin 3) = 0) (by decide +kernel) (fun t hf y => ?_)
    (fun j => by blk_simp [Pipeline.Window.cell_apply, Nat.div_one])
  blk_simp
  rw [after1_7]; unfold Gen.outsAt1; frame_out
  pointwise [k1_pay1, k1_pay2, k1_pay3, k1_pay4, k1_pay5, k1_pay6, k1_pay7, k1_pay8, k1_pay9, adamM, adamV, adamD]
  blk_point [iblk1, idx1 t]

end Cert.AdamMemory.Hand
end
-- ==== Proof.AdamMemory.Run.lean ====
/-
  The run of the two calls of AdamW on a device's columns of the cross-attention's key and value weight (`xattn_wkv`): every array that the program holds ends as the fold over its calls says.
-/
module

public import proofs.«01_k».proof.Proof.Gen.AdamMemoryIdeal.Frame

@[expose] public section

set_option maxRecDepth 16384

noncomputable section

namespace Cert.AdamMemory.Hand

open Cert.AdamMemoryIdeal Cert.AdamMemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option backward.isDefEq.respectTransparency.types false in
/-- Every weakly fair execution ends, and every array that outlives the calls then holds what the fold says. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.AdamMemory.Hand
end
-- ==== Proof.AdamMemory.Value.lean ====
/-
  AdamW on a device's columns of the cross-attention's key and value weight (`xattn_wkv`): the two calls together, the reference, and the claim that they agree.
-/
module

public import proofs.«01_k».proof.Defs
public import proofs.«01_k».proof.Proof.Gen.AdamMemoryRefIdeal.Read
public import proofs.«01_k».proof.Proof.AdamMemory.Tiled
public import proofs.«01_k».proof.Proof.AdamMemory.Run
public import Idealize.ShloMosaic.Lib.StableHlo.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamMemoryIdeal.Hand

open Cert.AdamMemoryIdeal Cert.AdamMemoryIdeal.Gen Cert.Hand Cert.AdamMemory.Hand

variable (m : (ℓ : Loc nD τ sig) → Buf (Elt Ideal) ℓ) (ρ : Dev nD → PrngReg) (c : Dev nD)

/-- The first call's gradient: the second layer of the argument. -/
theorem grad1 (i : (Two 1024 512).Idx) (h : (i 0).val = 1) : W1 m ρ c (Proc.devRef .tc main_v2) (ix2 (i 2) (i 1)) = m ((c : Thread nD τ).loc main_arg1) i := by
  show StableHlo.after hostOps0 _ _ _ = _
  after_results
  pointwise [W0]
  refine congrArg (m ((c : Thread nD τ).loc main_arg1)) (funext fun a => ?_)
  fin_cases a
  · exact Fin.ext h.symm
  · rfl
  · rfl

/-- The second call's gradient: the first layer of the argument. -/
theorem grad0 (i : (Two 1024 512).Idx) (h : (i 0).val = 0) : W3 m ρ c (Proc.devRef .tc main_v6) (ix2 (i 2) (i 1)) = m ((c : Thread nD τ).loc main_arg1) i := by
  show StableHlo.after hostOps1 _ _ _ = _
  after_results
  pointwise [W2_args m ρ c main_arg1 (by decide)]
  refine congrArg (m ((c : Thread nD τ).loc main_arg1)) (funext fun a => ?_)
  fin_cases a
  · exact Fin.ext h.symm
  · rfl
  · rfl

/-- What the second call finds in its steps: what the first one left. -/
theorem entry_5 : W3 m ρ c (Proc.devRef .tc main_v7_1) = W2 m ρ c (Proc.devRef .tc main_v3_1) := by
  dsimp only [W3]
  after_results
  try rfl

/-- The steps. -/
theorem out_5 : @Eq (FVec Ideal (Two 1024 512) .f32) (W4 m ρ c (Proc.devRef .tc main_v7_1)) (step (m ((c : Thread nD τ).loc main_arg0)) (m ((c : Thread nD τ).loc main_arg1)) (m ((c : Thread nD τ).loc main_arg2)) (m ((c : Thread nD τ).loc main_arg3))) := by
  refine (W4_arr m ρ c 5).trans ((final1_5 (V3 m ρ) c).trans (funext fun i => ?_))
  by_cases h : (i 0).val = 0
  · rw [if_pos h]
    show adamD (W3 m ρ c (Proc.devRef .tc main_arg0) i) (W3 m ρ c (Proc.devRef .tc main_v6) (ix2 (i 2) (i 1))) (W3 m ρ c (Proc.devRef .tc main_arg2) i) (W3 m ρ c (Proc.devRef .tc main_arg3) i) = _
    rw [W3_args m ρ c main_arg0 (by decide), W3_args m ρ c main_arg2 (by decide), W3_args m ρ c main_arg3 (by decide), grad0 m ρ c i h]
    rfl
  · have h1 : (i 0).val = 1 := by
      have := (i 0).isLt
      change (i 0).val < 2 at this
      omega
    rw [if_neg h]
    refine (congrFun (entry_5 m ρ c) i).trans ((congrFun ((W2_arr m ρ c 5).trans (final0_5 (V1 m ρ) c)) i).trans ?_)
    show (if (i 0).val = 1 then _ else _) = _
    rw [if_pos h1]
    show adamD (W1 m ρ c (Proc.devRef .tc main_arg0) i) (W1 m ρ c (Proc.devRef .tc main_v2) (ix2 (i 2) (i 1))) (W1 m ρ c (Proc.devRef .tc main_arg2) i) (W1 m ρ c (Proc.devRef .tc main_arg3) i) = _
    rw [W1_args m ρ c main_arg0 (by decide), W1_args m ρ c main_arg2 (by decide), W1_args m ρ c main_arg3 (by decide), grad1 m ρ c i h1]
    rfl

/-- What the second call finds in its new first moments: what the first one left. -/
theorem entry_6 : W3 m ρ c (Proc.devRef .tc main_v7_2) = W2 m ρ c (Proc.devRef .tc main_v3_2) := by
  dsimp only [W3]
  after_results
  try rfl

/-- The new first moments. -/
theorem out_6 : @Eq (FVec Ideal (Two 1024 512) .f32) (W4 m ρ c (Proc.devRef .tc main_v7_2)) (newM (m ((c : Thread nD τ).loc main_arg1)) (m ((c : Thread nD τ).loc main_arg2))) := by
  refine (W4_arr m ρ c 6).trans ((final1_6 (V3 m ρ) c).trans (funext fun i => ?_))
  by_cases h : (i 0).val = 0
  · rw [if_pos h]
    show adamM (W3 m ρ c (Proc.devRef .tc main_v6) (ix2 (i 2) (i 1))) (W3 m ρ c (Proc.devRef .tc main_arg2) i) = _
    rw [W3_args m ρ c main_arg2 (by decide), grad0 m ρ c i h]
    rfl
  · have h1 : (i 0).val = 1 := by
      have := (i 0).isLt
      change (i 0).val < 2 at this
      omega
    rw [if_neg h]
    refine (congrFun (entry_6 m ρ c) i).trans ((congrFun ((W2_arr m ρ c 6).trans (final0_6 (V1 m ρ) c)) i).trans ?_)
    show (if (i 0).val = 1 then _ else _) = _
    rw [if_pos h1]
    show adamM (W1 m ρ c (Proc.devRef .tc main_v2) (ix2 (i 2) (i 1))) (W1 m ρ c (Proc.devRef .tc main_arg2) i) = _
    rw [W1_args m ρ c main_arg2 (by decide), grad1 m ρ c i h1]
    rfl

/-- What the second call finds in its new second moments: what the first one left. -/
theorem entry_7 : W3 m ρ c (Proc.devRef .tc main_v7_3) = W2 m ρ c (Proc.devRef .tc main_v3_3) := by
  dsimp only [W3]
  after_results
  try rfl

/-- The new second moments. -/
theorem out_7 : @Eq (FVec Ideal (Two 1024 512) .f32) (W4 m ρ c (Proc.devRef .tc main_v7_3)) (newV (m ((c : Thread nD τ).loc main_arg1)) (m ((c : Thread nD τ).loc main_arg3))) := by
  refine (W4_arr m ρ c 7).trans ((final1_7 (V3 m ρ) c).trans (funext fun i => ?_))
  by_cases h : (i 0).val = 0
  · rw [if_pos h]
    show adamV (W3 m ρ c (Proc.devRef .tc main_v6) (ix2 (i 2) (i 1))) (W3 m ρ c (Proc.devRef .tc main_arg3) i) = _
    rw [W3_args m ρ c main_arg3 (by decide), grad0 m ρ c i h]
    rfl
  · have h1 : (i 0).val = 1 := by
      have := (i 0).isLt
      change (i 0).val < 2 at this
      omega
    rw [if_neg h]
    refine (congrFun (entry_7 m ρ c) i).trans ((congrFun ((W2_arr m ρ c 7).trans (final0_7 (V1 m ρ) c)) i).trans ?_)
    show (if (i 0).val = 1 then _ else _) = _
    rw [if_pos h1]
    show adamV (W1 m ρ c (Proc.devRef .tc main_v2) (ix2 (i 2) (i 1))) (W1 m ρ c (Proc.devRef .tc main_arg3) i) = _
    rw [W1_args m ρ c main_arg3 (by decide), grad1 m ρ c i h1]
    rfl

/-- The run of the two calls. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 1024 512) .f32) (r.2.mem ((c.tc : Thread nD τ).loc main_v7_1)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 1024 512) .f32) (r.2.mem ((c.tc : Thread nD τ).loc main_v7_2)) (newM (m ((c.tc : Thread nD τ).loc main_arg1)) (m ((c.tc : Thread nD τ).loc main_arg2)))
      ∧ @Eq (FVec Ideal (Two 1024 512) .f32) (r.2.mem ((c.tc : Thread nD τ).loc main_v7_3)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run (F := Ideal) m ρ)
  refine ⟨(h c _ (mem_uc _ (by decide))).trans (out_5 m ρ c), (h c _ (mem_uc _ (by decide))).trans (out_6 m ρ c), (h c _ (mem_uc _ (by decide))).trans (out_7 m ρ c),
    (h c _ (mem_uc _ (by decide))).trans (W4_main_arg0 m ρ c), (h c _ (mem_uc _ (by decide))).trans (W4_main_arg1 m ρ c),
    (h c _ (mem_uc _ (by decide))).trans (W4_main_arg2 m ρ c), (h c _ (mem_uc _ (by decide))).trans (W4_main_arg3 m ρ c)⟩

end Cert.AdamMemoryIdeal.Hand

namespace Cert.AdamMemoryRefIdeal.Hand

open Cert.AdamMemoryRefIdeal Cert.AdamMemoryRefIdeal.Gen Cert.Hand

/-- The reference's new first moments. -/
theorem ref_m (g a : FVec Ideal (Two 1024 512) .f32) : @Eq (FVec Ideal (Two 1024 512) .f32) (Read.val_main_v4 (F := Ideal) g a) (newM g a) := by
  funext i
  pointwise [Read.val_main_v4, Read.val_main_v3, Read.val_main_v2, Read.val_main_cst_0, Read.val_main_v1, Read.val_main_v0, Read.val_main_cst, newM, adamM]

/-- The reference's new second moments. -/
theorem ref_v (g a : FVec Ideal (Two 1024 512) .f32) : @Eq (FVec Ideal (Two 1024 512) .f32) (Read.val_main_v10 (F := Ideal) g a) (newV g a) := by
  funext i
  pointwise [Read.val_main_v10, Read.val_main_v9, Read.val_main_v8, Read.val_main_cst_2, Read.val_main_v7, Read.val_main_v6, Read.val_main_v5, Read.val_main_cst_1, newV, adamV]

/-- The reference's steps. -/
theorem ref_d (w g a b : FVec Ideal (Two 1024 512) .f32) : @Eq (FVec Ideal (Two 1024 512) .f32) (Read.val_main_v23 (F := Ideal) w g a b) (step w g a b) := by
  funext i
  have hm := congrFun (ref_m g a) i
  have hv := congrFun (ref_v g b) i
  pointwise [Read.val_main_v23, Read.val_main_v22, Read.val_main_cst_7, Read.val_main_v21, Read.val_main_v20, Read.val_main_v19, Read.val_main_cst_6, Read.val_main_v18,
    Read.val_main_v17, Read.val_main_v16, Read.val_main_cst_5, Read.val_main_v15, Read.val_main_v14, Read.val_main_v13, Read.val_main_cst_4, Read.val_main_v12,
    Read.val_main_v11, Read.val_main_cst_3, step, adamD, div_bias1, div_bias2]
  rw [hm, hv]
  rfl

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      @Eq (FVec Ideal (Two 1024 512) .f32) (r.2.mem ((c.tc : Thread nD τ).loc main_v23)) (step (m ((c.tc : Thread nD τ).loc main_arg0)) (m ((c.tc : Thread nD τ).loc main_arg1)) (m ((c.tc : Thread nD τ).loc main_arg2)) (m ((c.tc : Thread nD τ).loc main_arg3)))
      ∧ @Eq (FVec Ideal (Two 1024 512) .f32) (r.2.mem ((c.tc : Thread nD τ).loc main_v4)) (newM (m ((c.tc : Thread nD τ).loc main_arg1)) (m ((c.tc : Thread nD τ).loc main_arg2)))
      ∧ @Eq (FVec Ideal (Two 1024 512) .f32) (r.2.mem ((c.tc : Thread nD τ).loc main_v10)) (newV (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.AdamMemoryRefIdeal.Value.run (F := Ideal) m ρ)
  obtain ⟨h1, h2, h3, ha⟩ := h c
  exact ⟨h1.trans ((Read.val_main_v23_eq ..).trans (ref_d _ _ _ _)), h2.trans ((Read.val_main_v4_eq ..).trans (ref_m _ _)),
    h3.trans ((Read.val_main_v10_eq ..).trans (ref_v _ _)), ha⟩

end Cert.AdamMemoryRefIdeal.Hand

namespace Cert.AdamMemory.Hand

open Cert.Hand

/-- The two named reciprocals are the reals that the table gives them. -/
theorem preserves : Cert.preserves_AdamMemory_AdamMemoryIdeal :=
  ⟨IdealRules.named_const.statement Cert.AdamMemoryIdeal.κ "inv_bias1" .f32 0x3FC48605#32 ((8388608 / 5463681 : ℝ) : EReal) rfl,
    IdealRules.named_const.statement Cert.AdamMemoryIdeal.κ "inv_bias2" .f32 0x42C8E6D3#32 ((268435456 / 2672307 : ℝ) : EReal) rfl⟩

/-- The claim about the steps and the new moments. -/
theorem algebraic : Cert.algebraic_AdamMemoryIdeal_AdamMemoryRefIdeal := by
  intro m g m' g' _ hagree
  refine ⟨_, _, _, Cert.AdamMemoryIdeal.Hand.kernel_run m g, ?_⟩
  refine (θ_run Cert.AdamMemoryRefIdeal.defs _ _).mono (fun r h c => ?_) (Cert.AdamMemoryRefIdeal.Hand.reference_run m' g')
  obtain ⟨h0, h1, h2, h3⟩ := hagree c
  obtain ⟨e1, e2, e3, ha⟩ := h c
  rw [h0, h1, h2, h3] at e1
  rw [h1, h2] at e2
  rw [h1, h3] at e3
  exact ⟨e1, e2, e3, ha⟩

end Cert.AdamMemory.Hand
end
-- ==== Proof.lean ====
/-
  The certificate: each conjunct of the claim from the run of its program.
-/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.CrossRefIdeal.Run
public import proofs.«01_k».proof.Proof.Gen.CrossRefIdeal.Read
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareRefIdeal
public import proofs.«01_k».proof.Proof.Gen.AdamSquareRefIdeal.Run
public import proofs.«01_k».proof.Proof.Gen.AdamSquareRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamMemory
public import proofs.«01_k».proof.Proof.Gen.AdamMemory.Skeleton
public import proofs.«01_k».proof.Proof.Gen.AdamMemory.Launch
public import proofs.«01_k».proof.Proof.Gen.AdamMemory.Points
public import proofs.«01_k».proof.Proof.Gen.AdamMemory.Frame
public import proofs.«01_k».proof.Proof.Gen.AdamMemoryIdeal
public import proofs.«01_k».proof.Proof.Gen.AdamMemoryIdeal.Skeleton
public import proofs.«01_k».proof.Proof.Gen.AdamMemoryIdeal.Launch
public import proofs.«01_k».proof.Proof.Gen.AdamMemoryIdeal.Points
public import proofs.«01_k».proof.Proof.Gen.AdamMemoryIdeal.Frame
public import proofs.«01_k».proof.Proof.Gen.AdamMemoryRefIdeal
public import proofs.«01_k».proof.Proof.Gen.AdamMemoryRefIdeal.Run
public import proofs.«01_k».proof.Proof.Gen.AdamMemoryRefIdeal.Read
public import proofs.«01_k».proof.Proof.Ffn.Value
public import proofs.«01_k».proof.Proof.Cross.Value
public import proofs.«01_k».proof.Proof.AdamSquare.Value
public import proofs.«01_k».proof.Proof.AdamUp.Value
public import proofs.«01_k».proof.Proof.AdamDown.Value
public import proofs.«01_k».proof.Proof.AdamIn.Value
public import proofs.«01_k».proof.Proof.AdamMemory.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference of `Ffn` leaves its arguments as they were. -/
theorem frame_FfnRef : Cert.quiescent_FfnRefIdeal := fun m g _ =>
  (θ_run Cert.FfnRefIdeal.defs _ _).mono
    (fun r h => ⟨fun c => by simp only [h c, and_self], sem_eq_zero_of_no_sems (by decide) r.2⟩)
    (Cert.FfnRefIdeal.Value.run (F := Ideal) m g)

/-- The reference of `Cross` leaves its arguments as they were. -/
theorem frame_CrossRef : Cert.quiescent_CrossRefIdeal := fun m g _ =>
  (θ_run Cert.CrossRefIdeal.defs _ _).mono
    (fun r h => ⟨fun c => by simp only [h c, and_self], sem_eq_zero_of_no_sems (by decide) r.2⟩)
    (Cert.CrossRefIdeal.Value.run (F := Ideal) m g)

/-- The reference of `AdamSquare` leaves its arguments as they were. -/
theorem frame_AdamSquareRef : Cert.quiescent_AdamSquareRefIdeal := fun m g _ =>
  (θ_run Cert.AdamSquareRefIdeal.defs _ _).mono
    (fun r h => ⟨fun c => by simp only [h c, and_self], sem_eq_zero_of_no_sems (by decide) r.2⟩)
    (Cert.AdamSquareRefIdeal.Value.run (F := Ideal) m g)

/-- The reference of `AdamUp` leaves its arguments as they were. -/
theorem frame_AdamUpRef : Cert.quiescent_AdamUpRefIdeal := fun m g _ =>
  (θ_run Cert.AdamUpRefIdeal.defs _ _).mono
    (fun r h => ⟨fun c => by simp only [h c, and_self], sem_eq_zero_of_no_sems (by decide) r.2⟩)
    (Cert.AdamUpRefIdeal.Value.run (F := Ideal) m g)

/-- The reference of `AdamDown` leaves its arguments as they were. -/
theorem frame_AdamDownRef : Cert.quiescent_AdamDownRefIdeal := fun m g _ =>
  (θ_run Cert.AdamDownRefIdeal.defs _ _).mono
    (fun r h => ⟨fun c => by simp only [h c, and_self], sem_eq_zero_of_no_sems (by decide) r.2⟩)
    (Cert.AdamDownRefIdeal.Value.run (F := Ideal) m g)

/-- The reference of `AdamIn` leaves its arguments as they were. -/
theorem frame_AdamInRef : Cert.quiescent_AdamInRefIdeal := fun m g _ =>
  (θ_run Cert.AdamInRefIdeal.defs _ _).mono
    (fun r h => ⟨fun c => by simp only [h c, and_self], sem_eq_zero_of_no_sems (by decide) r.2⟩)
    (Cert.AdamInRefIdeal.Value.run (F := Ideal) m g)

/-- The reference of `AdamMemory` leaves its arguments as they were. -/
theorem frame_AdamMemoryRef : Cert.quiescent_AdamMemoryRefIdeal := fun m g _ =>
  (θ_run Cert.AdamMemoryRefIdeal.defs _ _).mono
    (fun r h => ⟨fun c => by simp only [h c, and_self], sem_eq_zero_of_no_sems (by decide) r.2⟩)
    (Cert.AdamMemoryRefIdeal.Value.run (F := Ideal) m g)

/-- Every conjunct of the claim. -/
theorem claim : Cert.Claim :=
  ⟨Cert.Ffn.Gen.facts, Cert.FfnIdeal.Gen.facts, Cert.FfnRefIdeal.Gen.facts,
   Cert.Cross.Gen.facts, Cert.CrossIdeal.Gen.facts, Cert.CrossRefIdeal.Gen.facts,
   Cert.AdamSquare.Gen.facts, Cert.AdamSquareIdeal.Gen.facts, Cert.AdamSquareRefIdeal.Gen.facts,
   Cert.AdamUp.Gen.facts, Cert.AdamUpIdeal.Gen.facts, Cert.AdamUpRefIdeal.Gen.facts,
   Cert.AdamDown.Gen.facts, Cert.AdamDownIdeal.Gen.facts, Cert.AdamDownRefIdeal.Gen.facts,
   Cert.AdamIn.Gen.facts, Cert.AdamInIdeal.Gen.facts, Cert.AdamInRefIdeal.Gen.facts,
   Cert.AdamMemory.Gen.facts, Cert.AdamMemoryIdeal.Gen.facts, Cert.AdamMemoryRefIdeal.Gen.facts,
   Cert.Ffn.Hand.preFacts, Cert.Cross.Hand.preFacts,
   fun m g _ => Cert.Ffn.Gen.frame m g,
   fun m g _ => Cert.FfnIdeal.Gen.frame m g,
   fun m g _ => Cert.FfnIdeal.Gen.frame m g,
   frame_FfnRef,
   fun m g _ => frame_FfnRef m g trivial,
   fun m g _ => Cert.Cross.Gen.frame m g,
   fun m g _ => Cert.CrossIdeal.Gen.frame m g,
   fun m g _ => Cert.CrossIdeal.Gen.frame m g,
   frame_CrossRef,
   fun m g _ => frame_CrossRef m g trivial,
   fun m g _ => Cert.AdamSquare.Gen.frame m g,
   fun m g _ => Cert.AdamSquareIdeal.Gen.frame m g,
   frame_AdamSquareRef,
   fun m g _ => Cert.AdamUp.Gen.frame m g,
   fun m g _ => Cert.AdamUpIdeal.Gen.frame m g,
   frame_AdamUpRef,
   fun m g _ => Cert.AdamDown.Gen.frame m g,
   fun m g _ => Cert.AdamDownIdeal.Gen.frame m g,
   frame_AdamDownRef,
   fun m g _ => Cert.AdamIn.Gen.frame m g,
   fun m g _ => Cert.AdamInIdeal.Gen.frame m g,
   frame_AdamInRef,
   fun m g _ => Cert.AdamMemory.Gen.frame m g,
   fun m g _ => Cert.AdamMemoryIdeal.Gen.frame m g,
   frame_AdamMemoryRef,
   trivial,
   Cert.Ffn.Hand.algebraic,
   trivial,
   Cert.Cross.Hand.algebraic,
   Cert.AdamSquare.Hand.preserves,
   Cert.AdamSquare.Hand.algebraic,
   Cert.AdamUp.Hand.preserves,
   Cert.AdamUp.Hand.algebraic,
   Cert.AdamDown.Hand.preserves,
   Cert.AdamDown.Hand.algebraic,
   Cert.AdamIn.Hand.preserves,
   Cert.AdamIn.Hand.algebraic,
   Cert.AdamMemory.Hand.preserves,
   Cert.AdamMemory.Hand.algebraic⟩

end Cert.Proof

end
